-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 512]⟩ ⟨3, ![16, 256, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S_ : Shape := ⟨0, ![]⟩
abbrev S2x256x32x64 : Shape := ⟨4, ![2, 256, 32, 64]⟩
abbrev S2x32x256x64 : Shape := ⟨4, ![2, 32, 256, 64]⟩
abbrev S8x512x256 : Shape := ⟨3, ![8, 512, 256]⟩
abbrev S8x256x512 : Shape := ⟨3, ![8, 256, 512]⟩
abbrev S4 : Shape := ⟨1, ![4]⟩
abbrev S3 : Shape := ⟨1, ![3]⟩
abbrev S1x512x256 : Shape := ⟨3, ![1, 512, 256]⟩
abbrev S1x256x512 : Shape := ⟨3, ![1, 256, 512]⟩
abbrev S256x256 : Shape := ⟨2, ![256, 256]⟩
abbrev S1 : Shape := ⟨1, ![1]⟩
abbrev S256x64 : Shape := ⟨2, ![256, 64]⟩
abbrev S1x1x256x64 : Shape := ⟨4, ![1, 1, 256, 64]⟩
abbrev S1x256x64 : Shape := ⟨3, ![1, 256, 64]⟩
abbrev S256 : Shape := ⟨1, ![256]⟩
abbrev S256x1 : Shape := ⟨2, ![256, 1]⟩

abbrev nBuf : Space → Nat
  | .hbm => 36
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S16x256x32x64, .bf16⟩
  | .hbm, ⟨3, _⟩ => ⟨S16x256x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x32x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x32x64, .bf16⟩
  | .hbm, ⟨33, _⟩ => ⟨S2x32x256x64, .bf16⟩
  | .hbm, ⟨34, _⟩ => ⟨S2x32x256x64, .bf16⟩
  | .hbm, ⟨35, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x32x256x64, .bf16⟩
  | .local _ .vmem, ⟨3, _⟩ => ⟨S2x32x256x64, .bf16⟩
  | .local _ .vmem, ⟨4, _⟩ => ⟨S256x512, .bf16⟩
  | .local _ .vmem, ⟨5, _⟩ => ⟨S2x256x512, .f32⟩
  | .local _ .vmem, ⟨6, _⟩ => ⟨S8x512x256, .bf16⟩
  | .local _ .vmem, ⟨7, _⟩ => ⟨S8x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_5 : BitVec 32 := 1#32
  let v10 : BitVec 32 := Scalar.muli v8 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_7 : BitVec 32 := 1#32
  let v12 : BitVec 32 := Scalar.muli v5 c1_i32_7
  let v13 : BitVec 32 := Scalar.addi c0_i32_8 v12
  v13.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v17 : Index := Scalar.indexCast v2
  let c0_10 : Index := 0#32
  let c0_11 : Index := 0#32
  ![v17.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v24 : Index := Scalar.indexCast v2
  let c0_14 : Index := 0#32
  let c0_15 : Index := 0#32
  ![v24.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c0_i32_21 : BitVec 32 := 0#32
  ![v2.toNat, 0, 0]
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_18 : BitVec 32 := 1#32
  let v34 : BitVec 32 := Scalar.muli v5 c1_i32_18
  let v35 : BitVec 32 := Scalar.addi c0_i32_19 v34
  v35.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_28 : BitVec 32 := 0#32
  let c0_i32_29 : BitVec 32 := 0#32
  ![v2.toNat, 0, 0]
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_26 : BitVec 32 := 1#32
  let v44 : BitVec 32 := Scalar.muli v5 c1_i32_26
  let v45 : BitVec 32 := Scalar.addi c0_i32_27 v44
  v45.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_34 : BitVec 32 := 1#32
  let v54 : BitVec 32 := Scalar.muli v8 c1_i32_34
  let v55 : BitVec 32 := Scalar.addi c0_i32_35 v54
  v55.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_42 : BitVec 32 := 1#32
  let v64 : BitVec 32 := Scalar.muli v8 c1_i32_42
  let v65 : BitVec 32 := Scalar.addi c0_i32_43 v64
  v65.toNat
def k0_off5 (d0 : Dev nD) (c0_i32_56 : BitVec 32) : Fin 4 → Nat :=
  let c0_57 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v84 : BitVec 32 := Scalar.muli v2 c4_i32
  let v85 : BitVec 32 := Scalar.addi v84 c0_i32_56
  let v87 : Index := Scalar.indexCast v85
  let c0_58 : Index := 0#32
  let c0_59 : Index := 0#32
  ![0, v87.toNat, 0, 0]
def k0_off6 (d0 : Dev nD) (c0_i32_115 : BitVec 32) : Fin 4 → Nat :=
  let c1_116 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v199 : BitVec 32 := Scalar.muli v2 c4_i32_114
  let v200 : BitVec 32 := Scalar.addi v199 c0_i32_115
  let v202 : Index := Scalar.indexCast v200
  let c0_117 : Index := 0#32
  let c0_118 : Index := 0#32
  ![1, v202.toNat, 0, 0]
def k0_off7 (d0 : Dev nD) (c_m1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v308 : BitVec 32 := Scalar.addi v2 c_m1_i32_170
  let c16_i32_171 : BitVec 32 := 16#32
  let v309 : BitVec 32 := Scalar.addi v308 c16_i32_171
  let c8_i32_172 : BitVec 32 := 8#32
  let v310 : BitVec 32 := Scalar.remsi v309 c8_i32_172
  let c0_i32_197 : BitVec 32 := 0#32
  let c0_i32_198 : BitVec 32 := 0#32
  ![v310.toNat, 0, 0]
def k0_off7_at (r : Fin 5) : BitVec 32 :=
  if r.val < 2 then
    if r.val < 1 then
      4294967295#32
    else
      1#32
  else
    if r.val < 3 then
      4294967294#32
    else
      if r.val < 4 then
        2#32
      else
        4294967293#32
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_195 : BitVec 32 := 1#32
  let v327 : BitVec 32 := Scalar.muli v5 c1_i32_195
  let v328 : BitVec 32 := Scalar.addi c0_i32_196 v327
  v328.toNat
def k0_off8 (d0 : Dev nD) (c_m1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v308 : BitVec 32 := Scalar.addi v2 c_m1_i32_170
  let c16_i32_171 : BitVec 32 := 16#32
  let v309 : BitVec 32 := Scalar.addi v308 c16_i32_171
  let c8_i32_172 : BitVec 32 := 8#32
  let v310 : BitVec 32 := Scalar.remsi v309 c8_i32_172
  let c0_i32_205 : BitVec 32 := 0#32
  let c0_i32_206 : BitVec 32 := 0#32
  ![v310.toNat, 0, 0]
def k0_off8_at (r : Fin 5) : BitVec 32 :=
  if r.val < 2 then
    if r.val < 1 then
      4294967295#32
    else
      1#32
  else
    if r.val < 3 then
      4294967294#32
    else
      if r.val < 4 then
        2#32
      else
        4294967293#32
def k0_dev8 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_203 : BitVec 32 := 1#32
  let v337 : BitVec 32 := Scalar.muli v5 c1_i32_203
  let v338 : BitVec 32 := Scalar.addi c0_i32_204 v337
  v338.toNat
def k0_dev9 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_234 : BitVec 32 := 1#32
  let v366 : BitVec 32 := Scalar.muli v8 c1_i32_234
  let v367 : BitVec 32 := Scalar.addi c0_i32_235 v366
  v367.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_242 : BitVec 32 := 1#32
  let v376 : BitVec 32 := Scalar.muli v8 c1_i32_242
  let v377 : BitVec 32 := Scalar.addi c0_i32_243 v376
  v377.toNat
def k0_off9 (d0 : Dev nD) (c_m1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v308 : BitVec 32 := Scalar.addi v2 c_m1_i32_170
  let c16_i32_171 : BitVec 32 := 16#32
  let v309 : BitVec 32 := Scalar.addi v308 c16_i32_171
  let c8_i32_172 : BitVec 32 := 8#32
  let v310 : BitVec 32 := Scalar.remsi v309 c8_i32_172
  let v386 : Index := Scalar.indexCast v310
  let c0_248 : Index := 0#32
  let c0_249 : Index := 0#32
  ![v386.toNat, 0, 0]
def k0_off9_at (r : Fin 7) : BitVec 32 :=
  if r.val < 3 then
    if r.val < 1 then
      4294967295#32
    else
      if r.val < 2 then
        1#32
      else
        4294967294#32
  else
    if r.val < 5 then
      if r.val < 4 then
        2#32
      else
        4294967293#32
    else
      if r.val < 6 then
        3#32
      else
        4294967292#32
def k0_off10 (d0 : Dev nD) (c_m1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v308 : BitVec 32 := Scalar.addi v2 c_m1_i32_170
  let c16_i32_171 : BitVec 32 := 16#32
  let v309 : BitVec 32 := Scalar.addi v308 c16_i32_171
  let c8_i32_172 : BitVec 32 := 8#32
  let v310 : BitVec 32 := Scalar.remsi v309 c8_i32_172
  let v389 : Index := Scalar.indexCast v310
  let c0_250 : Index := 0#32
  let c0_251 : Index := 0#32
  ![v389.toNat, 0, 0]
def k0_off10_at (r : Fin 7) : BitVec 32 :=
  if r.val < 3 then
    if r.val < 1 then
      4294967295#32
    else
      if r.val < 2 then
        1#32
      else
        4294967294#32
  else
    if r.val < 5 then
      if r.val < 4 then
        2#32
      else
        4294967293#32
    else
      if r.val < 6 then
        3#32
      else
        4294967292#32
def k0_off11 (d0 : Dev nD) (c_m1_i32_170 : BitVec 32) (c0_i32_258 : BitVec 32) : Fin 4 → Nat :=
  let c0_259 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v308 : BitVec 32 := Scalar.addi v2 c_m1_i32_170
  let c16_i32_171 : BitVec 32 := 16#32
  let v309 : BitVec 32 := Scalar.addi v308 c16_i32_171
  let c8_i32_172 : BitVec 32 := 8#32
  let v310 : BitVec 32 := Scalar.remsi v309 c8_i32_172
  let c4_i32_257 : BitVec 32 := 4#32
  let v398 : BitVec 32 := Scalar.muli v310 c4_i32_257
  let v399 : BitVec 32 := Scalar.addi v398 c0_i32_258
  let v401 : Index := Scalar.indexCast v399
  let c0_260 : Index := 0#32
  let c0_261 : Index := 0#32
  ![0, v401.toNat, 0, 0]
def k0_off11_at (r : Fin 28) : BitVec 32 × BitVec 32 :=
  if r.val < 14 then
    if r.val < 7 then
      if r.val < 3 then
        if r.val < 1 then
          (4294967295#32, 0#32)
        else
          if r.val < 2 then
            (4294967295#32, 1#32)
          else
            (4294967295#32, 2#32)
      else
        if r.val < 5 then
          if r.val < 4 then
            (4294967295#32, 3#32)
          else
            (1#32, 0#32)
        else
          if r.val < 6 then
            (1#32, 1#32)
          else
            (1#32, 2#32)
    else
      if r.val < 10 then
        if r.val < 8 then
          (1#32, 3#32)
        else
          if r.val < 9 then
            (4294967294#32, 0#32)
          else
            (4294967294#32, 1#32)
      else
        if r.val < 12 then
          if r.val < 11 then
            (4294967294#32, 2#32)
          else
            (4294967294#32, 3#32)
        else
          if r.val < 13 then
            (2#32, 0#32)
          else
            (2#32, 1#32)
  else
    if r.val < 21 then
      if r.val < 17 then
        if r.val < 15 then
          (2#32, 2#32)
        else
          if r.val < 16 then
            (2#32, 3#32)
          else
            (4294967293#32, 0#32)
      else
        if r.val < 19 then
          if r.val < 18 then
            (4294967293#32, 1#32)
          else
            (4294967293#32, 2#32)
        else
          if r.val < 20 then
            (4294967293#32, 3#32)
          else
            (3#32, 0#32)
    else
      if r.val < 24 then
        if r.val < 22 then
          (3#32, 1#32)
        else
          if r.val < 23 then
            (3#32, 2#32)
          else
            (3#32, 3#32)
      else
        if r.val < 26 then
          if r.val < 25 then
            (4294967292#32, 0#32)
          else
            (4294967292#32, 1#32)
        else
          if r.val < 27 then
            (4294967292#32, 2#32)
          else
            (4294967292#32, 3#32)
def k0_off12 (d0 : Dev nD) (c_m1_i32_170 : BitVec 32) (c0_i32_322 : BitVec 32) : Fin 4 → Nat :=
  let c1_323 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v308 : BitVec 32 := Scalar.addi v2 c_m1_i32_170
  let c16_i32_171 : BitVec 32 := 16#32
  let v309 : BitVec 32 := Scalar.addi v308 c16_i32_171
  let c8_i32_172 : BitVec 32 := 8#32
  let v310 : BitVec 32 := Scalar.remsi v309 c8_i32_172
  let c4_i32_321 : BitVec 32 := 4#32
  let v516 : BitVec 32 := Scalar.muli v310 c4_i32_321
  let v517 : BitVec 32 := Scalar.addi v516 c0_i32_322
  let v519 : Index := Scalar.indexCast v517
  let c0_324 : Index := 0#32
  let c0_325 : Index := 0#32
  ![1, v519.toNat, 0, 0]
def k0_off12_at (r : Fin 28) : BitVec 32 × BitVec 32 :=
  if r.val < 14 then
    if r.val < 7 then
      if r.val < 3 then
        if r.val < 1 then
          (4294967295#32, 0#32)
        else
          if r.val < 2 then
            (4294967295#32, 1#32)
          else
            (4294967295#32, 2#32)
      else
        if r.val < 5 then
          if r.val < 4 then
            (4294967295#32, 3#32)
          else
            (1#32, 0#32)
        else
          if r.val < 6 then
            (1#32, 1#32)
          else
            (1#32, 2#32)
    else
      if r.val < 10 then
        if r.val < 8 then
          (1#32, 3#32)
        else
          if r.val < 9 then
            (4294967294#32, 0#32)
          else
            (4294967294#32, 1#32)
      else
        if r.val < 12 then
          if r.val < 11 then
            (4294967294#32, 2#32)
          else
            (4294967294#32, 3#32)
        else
          if r.val < 13 then
            (2#32, 0#32)
          else
            (2#32, 1#32)
  else
    if r.val < 21 then
      if r.val < 17 then
        if r.val < 15 then
          (2#32, 2#32)
        else
          if r.val < 16 then
            (2#32, 3#32)
          else
            (4294967293#32, 0#32)
      else
        if r.val < 19 then
          if r.val < 18 then
            (4294967293#32, 1#32)
          else
            (4294967293#32, 2#32)
        else
          if r.val < 20 then
            (4294967293#32, 3#32)
          else
            (3#32, 0#32)
    else
      if r.val < 24 then
        if r.val < 22 then
          (3#32, 1#32)
        else
          if r.val < 23 then
            (3#32, 2#32)
          else
            (3#32, 3#32)
      else
        if r.val < 26 then
          if r.val < 25 then
            (4294967292#32, 0#32)
          else
            (4294967292#32, 1#32)
        else
          if r.val < 27 then
            (4294967292#32, 2#32)
          else
            (4294967292#32, 3#32)
def k0_dev11 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_536 : BitVec 32 := 1#32
  let v889 : BitVec 32 := Scalar.muli v5 c1_i32_536
  let v890 : BitVec 32 := Scalar.addi c0_i32_537 v889
  v890.toNat
def k0_dev12 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_544 : BitVec 32 := 1#32
  let v899 : BitVec 32 := Scalar.muli v5 c1_i32_544
  let v900 : BitVec 32 := Scalar.addi c0_i32_545 v899
  v900.toNat
def k0_dev13 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_575 : BitVec 32 := 1#32
  let v928 : BitVec 32 := Scalar.muli v8 c1_i32_575
  let v929 : BitVec 32 := Scalar.addi c0_i32_576 v928
  v929.toNat
def k0_dev14 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v6 : BitVec 32 := Scalar.addi v2 c_m1_i32
  let c16_i32_2 : BitVec 32 := 16#32
  let v7 : BitVec 32 := Scalar.addi v6 c16_i32_2
  let c8_i32_3 : BitVec 32 := 8#32
  let v8 : BitVec 32 := Scalar.remsi v7 c8_i32_3
  let c1_i32_583 : BitVec 32 := 1#32
  let v938 : BitVec 32 := Scalar.muli v8 c1_i32_583
  let v939 : BitVec 32 := Scalar.addi c0_i32_584 v938
  v939.toNat
def k0_dev15 (d0 : Dev nD) : Nat :=
  let c0_i32_878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_877 : BitVec 32 := 1#32
  let v1451 : BitVec 32 := Scalar.muli v5 c1_i32_877
  let v1452 : BitVec 32 := Scalar.addi c0_i32_878 v1451
  v1452.toNat
def k0_dev16 (d0 : Dev nD) : Nat :=
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_885 : BitVec 32 := 1#32
  let v1461 : BitVec 32 := Scalar.muli v5 c1_i32_885
  let v1462 : BitVec 32 := Scalar.addi c0_i32_886 v1461
  v1462.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S16x256x2048 : Shape := ⟨3, ![16, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S16x32x256x256 : Shape := ⟨4, ![16, 32, 256, 256]⟩
abbrev S1x1x256x256 : Shape := ⟨4, ![1, 1, 256, 256]⟩
abbrev S16x32x256 : Shape := ⟨3, ![16, 32, 256]⟩
abbrev S16x32x256x1 : Shape := ⟨4, ![16, 32, 256, 1]⟩
abbrev S1x1x256x1 : Shape := ⟨4, ![1, 1, 256, 1]⟩
abbrev S16x32x64x256 : Shape := ⟨4, ![16, 32, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S16x256x512, .bf16⟩
  | .hbm, ⟨1, _⟩ => ⟨S512x2048, .bf16⟩
  | .hbm, ⟨2, _⟩ => ⟨S16x256x32x64, .bf16⟩
  | .hbm, ⟨3, _⟩ => ⟨S16x256x32x64, .bf16⟩
  | .hbm, ⟨4, _⟩ => ⟨S2048x512, .bf16⟩
  | .hbm, ⟨5, _⟩ => ⟨S16x256x2048, .f32⟩
  | .hbm, ⟨6, _⟩ => ⟨S16x256x2048, .bf16⟩
  | .hbm, ⟨7, _⟩ => ⟨S16x256x32x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S16x32x256x256, .f32⟩
  | .hbm, ⟨20, _⟩ => ⟨S16x32x256x256, .bf16⟩
  | .hbm, ⟨21, _⟩ => ⟨S16x32x256x256, .f32⟩
  | .hbm, ⟨22, _⟩ => ⟨S_, .f32⟩
  | .hbm, ⟨23, _⟩ => ⟨S16x32x256x256, .f32⟩
  | .hbm, ⟨24, _⟩ => ⟨S16x32x256x256, .f32⟩
  | .hbm, ⟨25, _⟩ => ⟨S1x1x256x256, .i1⟩
  | .hbm, ⟨26, _⟩ => ⟨S_, .f32⟩
  | .hbm, ⟨27, _⟩ => ⟨S_, .f32⟩
  | .hbm, ⟨28, _⟩ => ⟨S16x32x256x256, .i1⟩
  | .hbm, ⟨29, _⟩ => ⟨S16x32x256x256, .f32⟩
  | .hbm, ⟨30, _⟩ => ⟨S16x32x256x256, .f32⟩
  | .hbm, ⟨31, _⟩ => ⟨S_, .f32⟩
  | .hbm, ⟨32, _⟩ => ⟨S16x32x256, .f32⟩
  | .hbm, ⟨33, _⟩ => ⟨S16x32x256x1, .f32⟩
  | .hbm, ⟨34, _⟩ => ⟨S16x32x256x256, .f32⟩
  | .hbm, ⟨35, _⟩ => ⟨S16x32x256x256, .f32⟩
  | .hbm, ⟨36, _⟩ => ⟨S16x32x256x256, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S16x32x256, .f32⟩
  | .hbm, ⟨42, _⟩ => ⟨S16x32x256x1, .f32⟩
  | .hbm, ⟨43, _⟩ => ⟨S_, .f32⟩
  | .hbm, ⟨44, _⟩ => ⟨S_, .f32⟩
  | .hbm, ⟨45, _⟩ => ⟨S16x32x256x1, .i1⟩
  | .hbm, ⟨46, _⟩ => ⟨S16x32x256x1, .f32⟩
  | .hbm, ⟨47, _⟩ => ⟨S16x32x256x1, .f32⟩
  | .hbm, ⟨48, _⟩ => ⟨S16x32x256x256, .f32⟩
  | .hbm, ⟨49, _⟩ => ⟨S16x32x256x256, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S16x32x256x256, .i1⟩
  | .hbm, ⟨54, _⟩ => ⟨S16x32x256x256, .f32⟩
  | .hbm, ⟨55, _⟩ => ⟨S16x32x256x256, .f32⟩
  | .hbm, ⟨56, _⟩ => ⟨S16x256x32x64, .f32⟩
  | .hbm, ⟨57, _⟩ => ⟨S16x32x64x256, .f32⟩
  | .hbm, ⟨58, _⟩ => ⟨S16x256x32x64, .f32⟩
  | .hbm, ⟨59, _⟩ => ⟨S16x256x2048, .f32⟩
  | .hbm, ⟨60, _⟩ => ⟨S2048x512, .f32⟩
  | .hbm, ⟨61, _⟩ => ⟨S16x256x512, .f32⟩
  | _, _ => ⟨S16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.KernelIdealCells.lean ====
/-
# The ring's semaphores, slots and schedule

Each of the eight devices keeps two buffers of eight slots: one for the blocks of `Wq` and one for the
blocks of `Wo`. A device writes its own block into its own slot of both, and the blocks then travel around
the ring in both directions: four hops to the right, three to the left.

This module names the transfers, the semaphore cells they signal, the slots they move, and says what each
signal hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's rounds and the ring's rounds, whose duties are two-valued: the barrier is signalled by two neighbours. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-! ## The ring -/

/-- The neighbour on the right. -/
def rt (c : Dev nD) : Dev nD := ⟨(c.val + 1) % 8, Nat.mod_lt _ (by decide)⟩
/-- The neighbour on the left. -/
def lf (c : Dev nD) : Dev nD := ⟨(c.val + 7) % 8, Nat.mod_lt _ (by decide)⟩

theorem lf_rt (c : Dev nD) : lf (rt c) = c := by revert c; decide
theorem rt_lf (c : Dev nD) : rt (lf c) = c := by revert c; decide

/-- The seven transfers of a device: 0 to 3 are its hops to the right, 4 to 6 its hops to the left. -/
abbrev Hop := Fin 7

/-- Whom transfer `t` of device `c` goes to. -/
def nb (t : Hop) (c : Dev nD) : Dev nD := if t.val < 4 then rt c else lf c
/-- Whom transfer `t` arriving at device `c` comes from. -/
def bn (t : Hop) (c : Dev nD) : Dev nD := if t.val < 4 then lf c else rt c

theorem nb_bn (t : Hop) (c : Dev nD) : nb t (bn t c) = c := by revert t c; decide
theorem bn_nb (t : Hop) (c : Dev nD) : bn t (nb t c) = c := by revert t c; decide

/-- The slot transfer `t` of device `c` sends. -/
def frm (t : Hop) (c : Dev nD) : Fin 8 :=
  if t.val < 4 then ⟨(c.val + (8 - t.val)) % 8, Nat.mod_lt _ (by decide)⟩ else ⟨(c.val + (t.val - 4)) % 8, Nat.mod_lt _ (by decide)⟩
/-- The slot transfer `t` arriving at device `c` fills. -/
def into (t : Hop) (c : Dev nD) : Fin 8 :=
  if t.val < 4 then ⟨(c.val + (7 - t.val)) % 8, Nat.mod_lt _ (by decide)⟩ else ⟨(c.val + (t.val - 3)) % 8, Nat.mod_lt _ (by decide)⟩

theorem into_nb (t : Hop) (c : Dev nD) : into t (nb t c) = frm t c := by revert t c; decide
theorem into_ne (t : Hop) (c : Dev nD) : into t c ≠ c := by revert t c; decide
theorem into_inj (c : Dev nD) : Function.Injective (fun t => into t c) := by revert c; decide
theorem univ_slots (c : Dev nD) : (Finset.univ : Finset (Fin 8)) = insert (c : Fin 8) (Finset.univ.image fun t => into t c) := by
  revert c; decide

/-! ## The semaphores -/

/-- The four sorts of transfer semaphores: 0 the `Wq` send, 1 the `Wq` receive, 2 the `Wo` send, 3 the `Wo` receive. -/
abbrev Kind := Fin 4

def semNum (k : Kind) (t : Hop) : ℕ := if t.val < 4 then 6 + 4 * k.val + t.val else 22 + 3 * k.val + (t.val - 4)
theorem semNum_lt (k : Kind) (t : Hop) : semNum k t < 34 := by revert k t; decide

abbrev dsem (k : Kind) (t : Hop) : DmaSem sig := (⟨semNum k t, semNum_lt k t⟩ : Fin 34)

/-- What a semaphore is for: `none` for the barrier and for the staging, the sort and the hop for the others. -/
def roleNum (q : Fin 34) : Option (Kind × Hop) :=
  if h6 : q.val < 6 then none
  else if h22 : q.val < 22 then some (⟨(q.val - 6) / 4, by omega⟩, ⟨(q.val - 6) % 4, by omega⟩)
  else some (⟨(q.val - 22) / 3, by omega⟩, ⟨4 + (q.val - 22) % 3, by omega⟩)

theorem roleNum_dsem (k : Kind) (t : Hop) : roleNum ⟨semNum k t, semNum_lt k t⟩ = some (k, t) := by revert k t; decide
theorem roleNum_stage (q : Fin 34) (h : q.val < 6) : roleNum q = none := dif_pos h

/-- The part a semaphore plays: the barrier, one of the transfers', or none. -/
inductive Role where
  | bar
  | copy (k : Kind) (t : Hop)
  | other
deriving DecidableEq

def role : SemLoc sig → Role
  | .reg _ => .bar
  | .dma q => match roleNum (q : Fin 34) with
    | some (k, t) => .copy k t
    | none => .other

abbrev barS : SemLoc sig := .reg barrier0

theorem role_bar : role barS = .bar := rfl
theorem role_dsem (k : Kind) (t : Hop) : role (.dma (dsem k t)) = .copy k t := by
  show (match roleNum ⟨semNum k t, semNum_lt k t⟩ with | some (k, t) => Role.copy k t | none => .other) = _
  rw [roleNum_dsem]

abbrev barCell (c : Dev nD) : GSem nD τ sig := ((c : Thread nD τ), barS)
abbrev cell (k : Kind) (t : Hop) (c : Dev nD) : GSem nD τ sig := ((c : Thread nD τ), .dma (dsem k t))

/-! ## The slots -/

abbrev qBuf : Memref sig .tc .vmem S8x512x256 .bf16 := Memref.whole cc0_scratch0
abbrev oBuf : Memref sig .tc .vmem S8x256x512 .bf16 := Memref.whole cc0_scratch1

theorem inbQ (j : Fin 8) : ∀ a, (![j.val, 0, 0] : Fin 3 → Nat) a + S1x512x256.size a ≤ S8x512x256.size a := by revert j; decide
theorem inbO (j : Fin 8) : ∀ a, (![j.val, 0, 0] : Fin 3 → Nat) a + S1x256x512.size a ≤ S8x256x512.size a := by revert j; decide

abbrev rectQ (j : Fin 8) : Rect S8x512x256 := Rect.unit (s := S8x512x256) ![j.val, 0, 0] S1x512x256.size (inbQ j)
abbrev rectO (j : Fin 8) : Rect S8x256x512 := Rect.unit (s := S8x256x512) ![j.val, 0, 0] S1x256x512.size (inbO j)

/-- Slot `j` of the `Wq` buffer, as the transfers see it. -/
abbrev slotQ (j : Fin 8) : Memref sig .tc .vmem S512x256 .bf16 :=
  (qBuf.slice (rectQ j) (fun _ => rfl)).squeeze S512x256 squeezes_S1x512x256_S512x256
/-- Slot `j` of the `Wo` buffer. -/
abbrev slotO (j : Fin 8) : Memref sig .tc .vmem S256x512 .bf16 :=
  (oBuf.slice (rectO j) (fun _ => rfl)).squeeze S256x512 squeezes_S1x256x512_S256x512

/-- The credits the transfers of a slot of either buffer move. -/
abbrev NQ : ℕ := (slotQ 0).view.dmaCredit
abbrev NO : ℕ := (slotO 0).view.dmaCredit
theorem NQ_pos : 0 < NQ := View.dmaCredit_pos _ (by decide)
theorem NO_pos : 0 < NO := View.dmaCredit_pos _ (by decide)

/-! ## The contents -/

/-- The blocks a device's windows stage. -/
def xB (c : Dev nD) : (cc0_stg0_0 : Ref sig .tc).ty.Contents (Elt F) := (win0_0.blk (0 : Fin 1)).view.read (Elt F) (V1 m c main_arg0)
def wqB (c : Dev nD) : (cc0_stg1_0 : Ref sig .tc).ty.Contents (Elt F) := (win0_1.blk (0 : Fin 1)).view.read (Elt F) (V1 m c main_arg1)
def kB (c : Dev nD) : (cc0_stg2_0 : Ref sig .tc).ty.Contents (Elt F) := (win0_2.blk (0 : Fin 1)).view.read (Elt F) (V1 m c main_v15)
def vB (c : Dev nD) : (cc0_stg3_0 : Ref sig .tc).ty.Contents (Elt F) := (win0_3.blk (0 : Fin 1)).view.read (Elt F) (V1 m c main_v16)
def woB (c : Dev nD) : (cc0_stg4_0 : Ref sig .tc).ty.Contents (Elt F) := (win0_4.blk (0 : Fin 1)).view.read (Elt F) (V1 m c main_arg4)

/-- What a device writes into its own slot of either buffer. -/
def wqS (c : Dev nD) : Vec F S1x512x256 .bf16 := k0_pay1 (wqB m c)
def woS (c : Dev nD) : Vec F S1x256x512 .bf16 := k0_pay2 (woB m c)

/-- The whole `Wq`, slot by slot: every device ends with this in its buffer. -/
def allQ : (cc0_scratch0 : Ref sig .tc).ty.Contents (Elt F) := fun i : S8x512x256.Idx =>
  wqS m (i 0 : Fin 8) (fun a => match a with | 0 => (0 : Fin 1) | 1 => i 1 | 2 => i 2 : S1x512x256.Idx)
/-- The whole `Wo`, slot by slot. -/
def allO : (cc0_scratch1 : Ref sig .tc).ty.Contents (Elt F) := fun i : S8x256x512.Idx =>
  woS m (i 0 : Fin 8) (fun a => match a with | 0 => (0 : Fin 1) | 1 => i 1 | 2 => i 2 : S1x256x512.Idx)

/-- Device `c`'s slot `j` of the `Wq` buffer, at contents `f`, with share `q`. -/
def ptQ (c : Dev nD) (j : Fin 8) (q : PosShare TreeShare) (f : (cc0_scratch0 : Ref sig .tc).ty.Contents (Elt F)) : sProp 𝕄 :=
  (slotQ j).view.loc (c : Thread nD τ) ↦[(slotQ j).view.set]{q} f
def ptO (c : Dev nD) (j : Fin 8) (q : PosShare TreeShare) (f : (cc0_scratch1 : Ref sig .tc).ty.Contents (Elt F)) : sProp 𝕄 :=
  (slotO j).view.loc (c : Thread nD τ) ↦[(slotO j).view.set]{q} f

instance ptQ_storable (c : Dev nD) (j : Fin 8) (q : PosShare TreeShare) (f) : BI.Storable (upEmb : UEmb _ 𝕄) (ptQ (F := F) c j q f) := by
  unfold ptQ; infer_instance
instance ptO_storable (c : Dev nD) (j : Fin 8) (q : PosShare TreeShare) (f) : BI.Storable (upEmb : UEmb _ 𝕄) (ptO (F := F) c j q f) := by
  unfold ptO; infer_instance

/-! ## The schedule -/

/-- The share a transfer borrows of the slot it sends: the first transfer to the left takes the other half of the
    device's own slot, which the first transfer to the right sends at the same time. -/
def shr (t : Hop) : PosShare TreeShare := if t.val = 4 then fullShare.right else fullShare.left

/-- What a neighbour lends before transfer `t` into it may start: the slots it fills and that its cells are ready. -/
def landing (t : Hop) (p : Dev nD) : sProp 𝕄 :=
  iprop((∃ f, ptQ p (into t p) fullShare f) ∗ (∃ f, ptO p (into t p) fullShare f)
    ∗ reached ER (cell 1 t p) 0 ∗ reached ER (cell 3 t p) 0)

instance landing_storable (t : Hop) (p : Dev nD) : BI.Storable (upEmb : UEmb _ 𝕄) (landing (F := F) t p) := by
  unfold landing; infer_instance

/-- The barrier: the left neighbour (`false`) lends what `c`'s transfers to the left fill, the right one what those to the right fill. -/
def barPay (c : Dev nD) : Bool → sProp 𝕄
  | false => iprop(landing 4 (lf c) ∗ landing 5 (lf c) ∗ landing 6 (lf c))
  | true => iprop(landing 0 (rt c) ∗ landing 1 (rt c) ∗ landing 2 (rt c) ∗ landing 3 (rt c))

instance barPay_storable (c : Dev nD) (b : Bool) : BI.Storable (upEmb : UEmb _ 𝕄) (barPay (F := F) c b) := by
  cases b <;> (unfold barPay; infer_instance)

/-- A transfer hands the receiver its slot, filled, and the sender the half it borrowed. -/
def copyPay (k : Kind) (t : Hop) (c : Dev nD) : sProp 𝕄 :=
  match k with
  | 0 => ptQ c (frm t c) (shr t) (allQ m)
  | 1 => ptQ c (into t c) fullShare (allQ m)
  | 2 => ptO c (frm t c) (shr t) (allO m)
  | 3 => ptO c (into t c) fullShare (allO m)

instance copyPay_storable (k : Kind) (t : Hop) (c : Dev nD) : BI.Storable (upEmb : UEmb _ 𝕄) (copyPay (F := F) m k t c) := by
  unfold copyPay; split <;> infer_instance

/-- The credit of a transfer of either buffer. -/
def credit (k : Kind) : ℕ := if k.val < 2 then NQ else NO
theorem credit_pos (k : Kind) : 0 < credit k := by unfold credit; split; exacts [NQ_pos, NO_pos]

def dutiesOf : Role → Finset Bool
  | .bar => Finset.univ
  | .copy _ _ => {false}
  | .other => ∅
def amountOf : Role → ℕ
  | .bar => 1
  | .copy k _ => credit k
  | .other => 1
def payOf (c : Dev nD) (b : Bool) : Role → sProp 𝕄
  | .bar => barPay c b
  | .copy k t => copyPay m k t c
  | .other => iprop(emp)

def ringRd : Rounds.Schedule (GSem nD τ sig) Bool 𝕄 where
  duties g r := if r = 0 ∧ g.1.2 = .tc then dutiesOf (role g.2) else ∅
  unitless _ := False
  amount g _ _ := amountOf (role g.2)
  payload g _ b := payOf m g.1.1 b (role g.2)
  amount_pos g _ _ _ := by
    unfold amountOf; split
    · exact Nat.one_pos
    · exact credit_pos _
    · exact Nat.one_pos

instance ringRd_storable (g : GSem nD τ sig) (r : ℕ) (b : Bool) : BI.Storable (upEmb : UEmb _ 𝕄) ((ringRd (F := F) m).payload g r b) := by
  show BI.Storable upEmb (payOf m g.1.1 b (role g.2))
  unfold payOf; split <;> infer_instance

theorem duties_bar (c : Dev nD) : (ringRd (F := F) m).duties (barCell c) 0 = Finset.univ := by
  dsimp only [ringRd]; exact if_pos ⟨rfl, rfl⟩
theorem duties_cell (k : Kind) (t : Hop) (c : Dev nD) : (ringRd (F := F) m).duties (cell k t c) 0 = {false} := by
  dsimp only [ringRd]; rw [if_pos ⟨rfl, rfl⟩, role_dsem]; rfl
theorem duties_later (g : GSem nD τ sig) : ∀ r, 1 ≤ r → (ringRd (F := F) m).duties g r = ∅ :=
  fun r hr => by dsimp only [ringRd]; exact if_neg fun h => by omega

theorem amount_bar (c : Dev nD) (b : Bool) : (ringRd (F := F) m).amount (barCell c) 0 b = 1 := rfl
theorem amount_cell (k : Kind) (t : Hop) (c : Dev nD) (b : Bool) : (ringRd (F := F) m).amount (cell k t c) 0 b = credit k := by
  show amountOf (role _) = _; rw [role_dsem]; rfl

theorem expect_bar (c : Dev nD) : (ringRd (F := F) m).expect (barCell c) 0 = 2 := by
  unfold Schedule.expect Schedule.amountOf; rw [duties_bar]; rfl
theorem expect_cell (k : Kind) (t : Hop) (c : Dev nD) : (ringRd (F := F) m).expect (cell k t c) 0 = credit k := by
  unfold Schedule.expect Schedule.amountOf; rw [duties_cell, Finset.sum_singleton, amount_cell]

theorem payload_bar (c : Dev nD) (b : Bool) : (ringRd (F := F) m).payload (barCell c) 0 b = barPay c b := rfl
theorem payload_cell (k : Kind) (t : Hop) (c : Dev nD) (b : Bool) : (ringRd (F := F) m).payload (cell k t c) 0 b = copyPay m k t c := by
  show payOf m _ b (role _) = _; rw [role_dsem]; rfl

theorem rest_bar (c : Dev nD) : bigSep ((ringRd (F := F) m).duties (barCell c) 0 \ ∅) (fun u => (ringRd (F := F) m).payload (barCell c) 0 u)
    = iprop(barPay c false ∗ barPay c true) := by
  rw [Finset.sdiff_empty, duties_bar]
  exact bigSep_univ_eq_bigSepL [false, true] (by decide) (by decide) _
theorem rest_cell (k : Kind) (t : Hop) (c : Dev nD) :
    bigSep ((ringRd (F := F) m).duties (cell k t c) 0 \ ∅) (fun u => (ringRd (F := F) m).payload (cell k t c) 0 u) = copyPay m k t c := by
  rw [Finset.sdiff_empty, duties_cell, bigSep_singleton, payload_cell]

/-! ## What a device owes, and the levels -/

/-- A debt of a device: a signal to the left or to the right, or the arrival of one of its transfers. -/
inductive Due where
  | bl
  | br
  | cp (k : Kind) (t : Hop)
deriving DecidableEq

def dueCell (c : Dev nD) : Due → GSem nD τ sig
  | .bl => barCell (lf c)
  | .br => barCell (rt c)
  | .cp k t => cell k t (nb t c)
def dueAmt : Due → ℕ
  | .bl => 1
  | .br => 1
  | .cp k _ => credit k

/-- A list of debts, the next one to be paid first. -/
def owedL (c : Dev nD) : List Due → CellTallies nD τ sig Unit
  | [] => 0
  | d :: l => owedL c l + tallyAt (dueCell c d) () (dueAmt d)

/-- A device's debts at the start, in the order in which it pays them. -/
def dues : List Due :=
  [.bl, .br, .cp 1 0, .cp 3 0, .cp 1 4, .cp 3 4, .cp 1 1, .cp 3 1, .cp 1 5, .cp 3 5, .cp 1 2, .cp 3 2, .cp 1 6, .cp 3 6, .cp 1 3, .cp 3 3]
def O₀ (c : Dev nD) : CellTallies nD τ sig Unit := owedL c dues

def L (g : GSem nD τ sig) : Finset Unit := if g.1.2 = .tc then {()} else ∅

/-- The level of a semaphore: the barrier first, then the arrivals hop by hop. -/
def lvOf : Role → ℕ
  | .bar => 1
  | .copy k t => if k.val % 2 = 1 then (if t.val < 4 then 2 + t.val else t.val - 2) else 0
  | .other => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

def dueLv : Due → ℕ
  | .bl => 1
  | .br => 1
  | .cp k t => lvOf (.copy k t)

theorem lv_due (c : Dev nD) (d : Due) : lv (dueCell c d) () = dueLv d := by
  cases d
  · rfl
  · rfl
  · next k t => exact congrArg lvOf (role_dsem k t)
theorem L_due (c : Dev nD) (d : Due) : () ∈ L (dueCell c d) := by
  cases d <;> exact (by rw [dueCell, L_tc]; exact Finset.mem_singleton_self _)

theorem owedL_pos {c : Dev nD} {l : List Due} {g : GSem nD τ sig} {u : Unit} (h : 0 < owedL c l g u) : ∃ d ∈ l, g = dueCell c d := by
  induction l with
  | nil => exact absurd h (Nat.lt_irrefl 0)
  | cons d l ih =>
    unfold owedL at h
    rw [Pi.add_apply, Finsupp.add_apply, tallyAt_apply] at h
    by_cases hg : g = dueCell c d ∧ u = ()
    · exact ⟨d, List.mem_cons_self, hg.1⟩
    · rw [if_neg hg, Nat.add_zero] at h
      obtain ⟨d', hd', e⟩ := ih h
      exact ⟨d', List.mem_cons_of_mem _ hd', e⟩

/-- A device may wait on a semaphore lying below every debt it still has. -/
theorem mayWait (c : Dev nD) (sm : SemLoc sig) (l : List Due) (h : ∀ d ∈ l, lvOf (role sm) < dueLv d) :
    (levAts L lv : sProp 𝕄) ⊢ MayWait (c : Thread nD τ) sm () (owedL c l) :=
  MayOwe.of_cut (L := L) (lev := lv) (lvOf (role sm))
    (fun p hp => by rw [Finset.mem_singleton.mp hp, L_tc]; exact Finset.mem_singleton_self _)
    (fun g u hg => by obtain ⟨d, -, rfl⟩ := owedL_pos hg; cases u; exact L_due c d)
    (fun p hp => by rw [Finset.mem_singleton.mp hp]; exact Nat.le_refl _)
    (fun g u hg => by obtain ⟨d, hd, rfl⟩ := owedL_pos hg; cases u; rw [lv_due]; exact h d hd)

end Cert.KernelIdeal.Ring

end
-- ==== Proof.KernelIdealSlots.lean ====
/-
# The slots of the two ring buffers

How a buffer of eight slots splits into its slots, what is read from and written to a slot, and the steps of the
kernel that touch one: loads, the store of a device's own block, and the transfers.
-/
module

public import proofs.«01_k».proof.Proof.KernelIdealCells

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Elements of a slot -/

theorem mem_rectQ (j : Fin 8) (i : S8x512x256.Idx) : i ∈ (rectQ j).set ↔ (i 0).val = j.val := by
  rw [Rect.mem_set_unit]
  refine ⟨fun h => ?_, fun h a => ?_⟩
  · have h0 : j.val ≤ (i 0).val ∧ (i 0).val < j.val + 1 := h 0
    omega
  · match a with
    | 0 => exact ⟨Nat.le_of_eq h.symm, by show (i 0).val < j.val + 1; omega⟩
    | 1 => exact ⟨Nat.zero_le _, by have : (i 1).val < 512 := (i 1).isLt; show (i 1).val < 0 + 512; omega⟩
    | 2 => exact ⟨Nat.zero_le _, by have : (i 2).val < 256 := (i 2).isLt; show (i 2).val < 0 + 256; omega⟩

theorem mem_rectO (j : Fin 8) (i : S8x256x512.Idx) : i ∈ (rectO j).set ↔ (i 0).val = j.val := by
  rw [Rect.mem_set_unit]
  refine ⟨fun h => ?_, fun h a => ?_⟩
  · have h0 : j.val ≤ (i 0).val ∧ (i 0).val < j.val + 1 := h 0
    omega
  · match a with
    | 0 => exact ⟨Nat.le_of_eq h.symm, by show (i 0).val < j.val + 1; omega⟩
    | 1 => exact ⟨Nat.zero_le _, by have : (i 1).val < 256 := (i 1).isLt; show (i 1).val < 0 + 256; omega⟩
    | 2 => exact ⟨Nat.zero_le _, by have : (i 2).val < 512 := (i 2).isLt; show (i 2).val < 0 + 512; omega⟩

theorem set_slotQ (j : Fin 8) : (slotQ j).view.set = (rectQ j).set := by
  show (((View.whole cc0_scratch0).slice (rectQ j)).reshape S512x256 _).set = _
  rw [View.set_reshape, View.set_slice_whole]
theorem set_slotO (j : Fin 8) : (slotO j).view.set = (rectO j).set := by
  show (((View.whole cc0_scratch1).slice (rectO j)).reshape S256x512 _).set = _
  rw [View.set_reshape, View.set_slice_whole]

theorem ptQ_eq (c : Dev nD) (j : Fin 8) (q : PosShare TreeShare) (f : (cc0_scratch0 : Ref sig .tc).ty.Contents (Elt F)) :
    ptQ c j q f = (((c : Thread nD τ).loc cc0_scratch0) ↦[(rectQ j).set]{q} f : sProp 𝕄) := by
  unfold ptQ; rw [set_slotQ]
theorem ptO_eq (c : Dev nD) (j : Fin 8) (q : PosShare TreeShare) (f : (cc0_scratch1 : Ref sig .tc).ty.Contents (Elt F)) :
    ptO c j q f = (((c : Thread nD τ).loc cc0_scratch1) ↦[(rectO j).set]{q} f : sProp 𝕄) := by
  unfold ptO; rw [set_slotO]

theorem ptQ_congr (c : Dev nD) (j : Fin 8) (q : PosShare TreeShare) {f g : (cc0_scratch0 : Ref sig .tc).ty.Contents (Elt F)}
    (h : ∀ x : S1x512x256.Idx, f ((rectQ j).emb x) = g ((rectQ j).emb x)) : (ptQ c j q f : sProp 𝕄) = ptQ c j q g := by
  rw [ptQ_eq, ptQ_eq]
  refine pointsTo_congr fun i hi => ?_
  rw [← Rect.map_emb_univ, Finset.mem_map] at hi
  obtain ⟨x, -, rfl⟩ := hi
  exact h x
theorem ptO_congr (c : Dev nD) (j : Fin 8) (q : PosShare TreeShare) {f g : (cc0_scratch1 : Ref sig .tc).ty.Contents (Elt F)}
    (h : ∀ x : S1x256x512.Idx, f ((rectO j).emb x) = g ((rectO j).emb x)) : (ptO c j q f : sProp 𝕄) = ptO c j q g := by
  rw [ptO_eq, ptO_eq]
  refine pointsTo_congr fun i hi => ?_
  rw [← Rect.map_emb_univ, Finset.mem_map] at hi
  obtain ⟨x, -, rfl⟩ := hi
  exact h x

theorem halvesQ (c : Dev nD) (j : Fin 8) (f : (cc0_scratch0 : Ref sig .tc).ty.Contents (Elt F)) :
    (ptQ c j fullShare f : sProp 𝕄) ⊣⊢ iprop(ptQ c j fullShare.left f ∗ ptQ c j fullShare.right f) := by
  unfold ptQ; exact pointsTo_share (PosShare.mem_left_op_right fullShare)
theorem halvesO (c : Dev nD) (j : Fin 8) (f : (cc0_scratch1 : Ref sig .tc).ty.Contents (Elt F)) :
    (ptO c j fullShare f : sProp 𝕄) ⊣⊢ iprop(ptO c j fullShare.left f ∗ ptO c j fullShare.right f) := by
  unfold ptO; exact pointsTo_share (PosShare.mem_left_op_right fullShare)

theorem wholeQ (c : Dev nD) (f : (cc0_scratch0 : Ref sig .tc).ty.Contents (Elt F)) :
    ((((c : Thread nD τ).loc cc0_scratch0) ↦{fullShare} f) : sProp 𝕄) = bigSep Finset.univ fun j : Fin 8 => ptQ c j fullShare f := by
  rw [bigSep_congr (s := Finset.univ) fun j _ => ptQ_eq c j fullShare f]
  have hd : (((Finset.univ : Finset (Fin 8)) : Set (Fin 8)).PairwiseDisjoint fun j => (rectQ j).set) := fun a _ b _ hab =>
    Finset.disjoint_left.mpr fun i ha hb => hab (Fin.ext (((mem_rectQ a i).mp ha).symm.trans ((mem_rectQ b i).mp hb)))
  have hu : (Finset.univ : Finset (Idx ((c : Thread nD τ).loc cc0_scratch0))) = Finset.univ.biUnion fun j : Fin 8 => (rectQ j).set := by
    ext i
    simp only [Finset.mem_univ, Finset.mem_biUnion, true_and, true_iff]
    exact ⟨(i 0 : Fin 8), (mem_rectQ _ i).mpr rfl⟩
  rw [hu]
  exact pointsTo_biUnion _ _ hd
theorem wholeO (c : Dev nD) (f : (cc0_scratch1 : Ref sig .tc).ty.Contents (Elt F)) :
    ((((c : Thread nD τ).loc cc0_scratch1) ↦{fullShare} f) : sProp 𝕄) = bigSep Finset.univ fun j : Fin 8 => ptO c j fullShare f := by
  rw [bigSep_congr (s := Finset.univ) fun j _ => ptO_eq c j fullShare f]
  have hd : (((Finset.univ : Finset (Fin 8)) : Set (Fin 8)).PairwiseDisjoint fun j => (rectO j).set) := fun a _ b _ hab =>
    Finset.disjoint_left.mpr fun i ha hb => hab (Fin.ext (((mem_rectO a i).mp ha).symm.trans ((mem_rectO b i).mp hb)))
  have hu : (Finset.univ : Finset (Idx ((c : Thread nD τ).loc cc0_scratch1))) = Finset.univ.biUnion fun j : Fin 8 => (rectO j).set := by
    ext i
    simp only [Finset.mem_univ, Finset.mem_biUnion, true_and, true_iff]
    exact ⟨(i 0 : Fin 8), (mem_rectO _ i).mpr rfl⟩
  rw [hu]
  exact pointsTo_biUnion _ _ hd

/-- The eight slots of a device: its own, and the one each transfer fills. -/
theorem slots_eq (c : Dev nD) (Φ : Fin 8 → sProp 𝕄) :
    bigSep Finset.univ Φ = iprop(Φ c ∗ Φ (into 0 c) ∗ Φ (into 1 c) ∗ Φ (into 2 c) ∗ Φ (into 3 c) ∗ Φ (into 4 c) ∗ Φ (into 5 c) ∗ Φ (into 6 c)) := by
  have h := bigSep_univ_eq_bigSepL [(c : Fin 8), into 0 c, into 1 c, into 2 c, into 3 c, into 4 c, into 5 c, into 6 c]
    (by revert c; decide) (by revert c; decide) Φ
  exact h

/-! ## What a slot reads and takes -/

theorem allQ_emb (j : Fin 8) (x : S1x512x256.Idx) : allQ m ((rectQ j).emb x) = wqS m j x := by
  have h0 : ((rectQ j).emb x 0 : Fin 8) = j := Fin.ext (by
    show j.val + 1 * (x 0).val = j.val
    have : (x 0).val < 1 := (x 0).isLt
    omega)
  have hx : (fun a => match a with | 0 => (0 : Fin 1) | 1 => (rectQ j).emb x 1 | 2 => (rectQ j).emb x 2 : S1x512x256.Idx) = x := by
    funext a
    match a with
    | 0 => exact Fin.ext (by have : (x 0).val < 1 := (x 0).isLt; show 0 = (x 0).val; omega)
    | 1 => exact Fin.ext (by show 0 + 1 * (x 1).val = (x 1).val; omega)
    | 2 => exact Fin.ext (by show 0 + 1 * (x 2).val = (x 2).val; omega)
  have key : ∀ (a b : Fin 8) y, a = b → y = x → wqS m a y = wqS m b x := fun _ _ _ h h' => by rw [h, h']
  exact key _ _ _ h0 hx
theorem allO_emb (j : Fin 8) (x : S1x256x512.Idx) : allO m ((rectO j).emb x) = woS m j x := by
  have h0 : ((rectO j).emb x 0 : Fin 8) = j := Fin.ext (by
    show j.val + 1 * (x 0).val = j.val
    have : (x 0).val < 1 := (x 0).isLt
    omega)
  have hx : (fun a => match a with | 0 => (0 : Fin 1) | 1 => (rectO j).emb x 1 | 2 => (rectO j).emb x 2 : S1x256x512.Idx) = x := by
    funext a
    match a with
    | 0 => exact Fin.ext (by have : (x 0).val < 1 := (x 0).isLt; show 0 = (x 0).val; omega)
    | 1 => exact Fin.ext (by show 0 + 1 * (x 1).val = (x 1).val; omega)
    | 2 => exact Fin.ext (by show 0 + 1 * (x 2).val = (x 2).val; omega)
  have key : ∀ (a b : Fin 8) y, a = b → y = x → woS m a y = woS m b x := fun _ _ _ h h' => by rw [h, h']
  exact key _ _ _ h0 hx

theorem readQ (j : Fin 8) : (qBuf.access (rectQ j)).read (Elt F) (allQ m) = wqS m j :=
  funext fun x => allQ_emb m j x
theorem readO (j : Fin 8) : (oBuf.access (rectO j)).read (Elt F) (allO m) = woS m j :=
  funext fun x => allO_emb m j x

theorem writeQ (c : Dev nD) (f : (cc0_scratch0 : Ref sig .tc).ty.Contents (Elt F)) :
    (ptQ c c fullShare ((qBuf.access (rectQ c)).write (Elt F) f (wqS m c) Finset.univ) : sProp 𝕄) = ptQ c c fullShare (allQ m) :=
  ptQ_congr c c fullShare fun x => (View.write_emb_of_mem (v := qBuf.access (rectQ c)) f (wqS m c) (Finset.mem_univ x)).trans (allQ_emb m c x).symm
theorem writeO (c : Dev nD) (f : (cc0_scratch1 : Ref sig .tc).ty.Contents (Elt F)) :
    (ptO c c fullShare ((oBuf.access (rectO c)).write (Elt F) f (woS m c) Finset.univ) : sProp 𝕄) = ptO c c fullShare (allO m) :=
  ptO_congr c c fullShare fun x => (View.write_emb_of_mem (v := oBuf.access (rectO c)) f (woS m c) (Finset.mem_univ x)).trans (allO_emb m c x).symm

/-- A transfer leaves in the slot what the sender's same slot held. -/
theorem landQ (c : Dev nD) (j : Fin 8) (q : PosShare TreeShare) (fd f : (cc0_scratch0 : Ref sig .tc).ty.Contents (Elt F)) :
    (ptQ c j q ((slotQ j).view.write (Elt F) fd ((slotQ j).view.read (Elt F) f) Finset.univ) : sProp 𝕄) = ptQ c j q f := by
  unfold ptQ
  refine pointsTo_congr fun i hi => ?_
  obtain ⟨x, -, rfl⟩ := Finset.mem_map.mp hi
  exact View.write_emb_of_mem (v := (slotQ j).view) fd _ (Finset.mem_univ x)
theorem landO (c : Dev nD) (j : Fin 8) (q : PosShare TreeShare) (fd f : (cc0_scratch1 : Ref sig .tc).ty.Contents (Elt F)) :
    (ptO c j q ((slotO j).view.write (Elt F) fd ((slotO j).view.read (Elt F) f) Finset.univ) : sProp 𝕄) = ptO c j q f := by
  unfold ptO
  refine pointsTo_congr fun i hi => ?_
  obtain ⟨x, -, rfl⟩ := Finset.mem_map.mp hi
  exact View.write_emb_of_mem (v := (slotO j).view) fd _ (Finset.mem_univ x)

/-! ## The cells of the launch, and what every step may consult -/

/-- The semaphores of the transfers, which the kernel's region owns. -/
abbrev osem (kt : Kind × Hop) : SemLoc sig := .dma (dsem kt.1 kt.2)
theorem osem_inj : Function.Injective osem := by decide
theorem osem_ne_bar : ∀ kt : Kind × Hop, osem kt ≠ barS := by decide

def barEmb : Dev nD ↪ GSem nD τ sig := ⟨fun c => barCell c, fun _ _ h => congrArg (fun g : GSem nD τ sig => g.1.1) h⟩
def scEmb : Dev nD × (Kind × Hop) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, live from the start, and the transfers' cells, asleep until the region begins. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem cell_mem (k : Kind) (t : Hop) (c : Dev nD) : cell k t c ∈ (barCells ∪ scCells : Finset (GSem nD τ sig)) :=
  Finset.mem_union_right _ (Finset.mem_map_of_mem scEmb (Finset.mem_univ (c, (k, t))))

/-- Every cell's invariant, and that every barrier's first round is reached. -/
def records (K : GSem nD τ sig → ℕ) : sProp 𝕄 :=
  iprop((bigSep (barCells ∪ scCells) fun g => cellInv ER (ringRd m) (K g) g) ∗ bigSep barCells fun g => reached ER g 0)
instance records_persistent (K : GSem nD τ sig → ℕ) : BI.Persistent (records m K) := by unfold records; infer_instance

/-- What a device may consult throughout: the records, that its own cells are ready, and the levels. -/
def env (K : GSem nD τ sig → ℕ) (c : Dev nD) : sProp 𝕄 :=
  iprop(records m K ∗ (bigSep Finset.univ fun kt : Kind × Hop => reached ER (cell kt.1 kt.2 c) 0) ∗ levAts L lv)
instance env_persistent (K : GSem nD τ sig → ℕ) (c : Dev nD) : BI.Persistent (env m K c) := by unfold env; infer_instance

theorem records_inv (K : GSem nD τ sig → ℕ) {g : GSem nD τ sig} (hg : g ∈ (barCells ∪ scCells : Finset (GSem nD τ sig))) :
    records m K ⊢ cellInv ER (ringRd m) (K g) g := by
  unfold records
  exact (show iprop((bigSep (barCells ∪ scCells) fun g => cellInv ER (ringRd m) (K g) g) ∗ bigSep barCells fun g => reached ER g 0)
    ⊢ (bigSep (barCells ∪ scCells) fun g => cellInv ER (ringRd m) (K g) g : sProp 𝕄) by iintro ⟨H, -⟩; iexact H).trans (bigSep_elim hg)
theorem records_reached (K : GSem nD τ sig → ℕ) (c : Dev nD) : records m K ⊢ reached ER (barCell c) 0 := by
  unfold records
  exact (show iprop((bigSep (barCells ∪ scCells) fun g => cellInv ER (ringRd m) (K g) g) ∗ bigSep barCells fun g => reached ER g 0)
    ⊢ (bigSep barCells fun g => reached ER g 0 : sProp 𝕄) by iintro ⟨-, H⟩; iexact H).trans
      (bigSep_elim (Finset.mem_map_of_mem barEmb (Finset.mem_univ c)))

theorem env_bar (K : GSem nD τ sig → ℕ) (c d : Dev nD) : env m K c ⊢ cellInv ER (ringRd m) (K (barCell d)) (barCell d) := by
  unfold env; iintro ⟨H, -⟩; iapply (records_inv m K (bar_mem d)); iexact H
theorem env_bar_reached (K : GSem nD τ sig → ℕ) (c d : Dev nD) : env m K c ⊢ reached ER (barCell d) 0 := by
  unfold env; iintro ⟨H, -⟩; iapply (records_reached m K d); iexact H
theorem env_cell (K : GSem nD τ sig → ℕ) (c : Dev nD) (k : Kind) (t : Hop) (d : Dev nD) :
    env m K c ⊢ cellInv ER (ringRd m) (K (cell k t d)) (cell k t d) := by
  unfold env; iintro ⟨H, -⟩; iapply (records_inv m K (cell_mem k t d)); iexact H
theorem env_reached (K : GSem nD τ sig → ℕ) (c : Dev nD) (k : Kind) (t : Hop) : env m K c ⊢ reached ER (cell k t c) 0 := by
  unfold env
  have h : (bigSep (Finset.univ : Finset (Kind × Hop)) (fun kt => reached ER (cell kt.1 kt.2 c) 0) : sProp 𝕄) ⊢ reached ER (cell k t c) 0 :=
    bigSep_elim (i := (k, t)) (Finset.mem_univ _)
  iintro ⟨-, H, -⟩
  iapply h
  iexact H
theorem env_lev (K : GSem nD τ sig → ℕ) (c : Dev nD) : env m K c ⊢ levAts L lv := by
  unfold env; iintro ⟨-, -, H⟩; iexact H

/-! ## The steps -/

/-- A device owing the debts of a list. -/
def ow (c : Dev nD) (l : List Due) : sProp 𝕄 := iprop(∃ W, owes (c : Thread nD τ) (owedL c l) W)

/-- What a device needs to wait on one of its cells. -/
def wt (k : Kind) (t : Hop) (c : Dev nD) : sProp 𝕄 :=
  iprop(atPos ER (cell k t c) 0 ∅ 0 ∗ cred (tallyAt (cell k t c) () (credit k)))

/-- What a device needs to start transfer `t` of the `Wq` ring: the receiver's slot, the two duties,
    and its place at the cell that tells when the slot has been read. -/
def txQ (t : Hop) (c : Dev nD) : sProp 𝕄 :=
  iprop((∃ f, ptQ (nb t c) (into t (nb t c)) fullShare f) ∗ reached ER (cell 1 t (nb t c)) 0
    ∗ dutyTok ER (cell 0 t c) 0 false ∗ dutyTok ER (cell 1 t (nb t c)) 0 false ∗ atPos ER (cell 0 t c) 0 ∅ 0)
def txO (t : Hop) (c : Dev nD) : sProp 𝕄 :=
  iprop((∃ f, ptO (nb t c) (into t (nb t c)) fullShare f) ∗ reached ER (cell 3 t (nb t c)) 0
    ∗ dutyTok ER (cell 2 t c) 0 false ∗ dutyTok ER (cell 3 t (nb t c)) 0 false ∗ atPos ER (cell 2 t c) 0 ∅ 0)

abbrev srcQ (off : Fin 3 → Nat) (inb : ∀ a, off a + S1x512x256.size a ≤ S8x512x256.size a) : Memref sig .tc .vmem S512x256 .bf16 :=
  (qBuf.slice (Rect.unit (s := S8x512x256) off S1x512x256.size inb) (fun _ => rfl)).squeeze S512x256 squeezes_S1x512x256_S512x256
abbrev srcO (off : Fin 3 → Nat) (inb : ∀ a, off a + S1x256x512.size a ≤ S8x256x512.size a) : Memref sig .tc .vmem S256x512 .bf16 :=
  (oBuf.slice (Rect.unit (s := S8x256x512) off S1x256x512.size inb) (fun _ => rfl)).squeeze S256x512 squeezes_S1x256x512_S256x512

section Steps

variable (K : GSem nD τ sig → ℕ) (c : Dev nD)

theorem wp_sendQ {α : Type} {Q : α → sProp 𝕄} (t : Hop) (l : List Due) (n : Dev nD) (hn : n = nb t c) (off : Fin 3 → Nat) (hoff : off = ![(frm t c).val, 0, 0])
    (sS rS : DmaSem sig) (hsS : sS = dsem 0 t) (hrS : rS = dsem 1 t)
    {inb inb' : ∀ a, off a + S1x512x256.size a ≤ S8x512x256.size a}
    {hsc : (srcQ off inb' : Memref sig (Dev.tc n : Thread nD τ).2.kind .vmem S512x256 .bf16).view.ref.isScScratch = false}
    {hsrc : (srcQ off inb).view.WordExact} {hdst : (srcQ off inb').view.WordExact}
    {hsem : DmaTarget.Typed .vmem (.dma rS) (.remote (Dev.tc n : Thread nD τ) (srcQ off inb') (.dma sS) hsc)}
    {k : PUnit → Prog (TpuEff nD τ sig (Elt F) Λ₀ .tc) α} :
    (env m K c : sProp 𝕄) ⊢ iprop(ptQ c (frm t c) (shr t) (allQ m) -∗ txQ t c -∗ ow c (.cp 1 t :: l)
      -∗ (wt 0 t c -∗ ow c l -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcQ off inb) (.remote (Dev.tc n : Thread nD τ) (srcQ off inb') (.dma sS) hsc) (.dma rS) hsrc hdst hsem) k) Q) := by
  subst hn hoff hsS hrS
  unfold txQ ow wt
  iintro #HE Hs ⟨⟨%fd, Hd⟩, #Hr, Ht0, Ht1, Hat⟩ ⟨%W, HO⟩ Hk
  ihave #HI0 := (env_cell m K c 0 t c) $$ HE
  ihave #HI1 := (env_cell m K c 1 t (nb t c)) $$ HE
  ihave #HR0 := (env_reached m K c 0 t) $$ HE
  rw [into_nb]
  iapply (Rounds.wp_send_pointsTo 𝒱₀ ER (ringRd m) (c : Thread nD τ) none (c' := (nb t c : Thread nD τ)) (src := slotQ (frm t c)) (dst := slotQ (frm t c))
      (sS := .dma (dsem 0 t)) (sem := .dma (dsem 1 t)) (q := shr t) (fs := allQ m) (κ₁ := K (cell 0 t c)) (κ₂ := K (cell 1 t (nb t c)))
      (r₁ := 0) (r₂ := 0) (d₁ := false) (d₂ := false) (fd := fd)
      (by rw [duties_cell]; exact Finset.mem_singleton_self _) (by rw [duties_cell]; exact Finset.mem_singleton_self _)
      () () NQ rfl (amount_cell m 0 t c false) (amount_cell m 1 t (nb t c) false) (owedL c l) rfl (W := W)
      (by rw [payload_cell]; exact BI.Entails.refl _)
      (by rw [payload_cell]; exact Entails.of_eq ((landQ (nb t c) (frm t c) fullShare fd (allQ m)).trans
            (by show _ = ptQ (nb t c) (into t (nb t c)) fullShare (allQ m); rw [into_nb])))) $$ [Hs Hd HO Ht0 Ht1]
  · isplitr; · iexact HI0
    isplitr; · iexact HI1
    isplitl [Hs]; · unfold ptQ; iexact Hs
    isplitl [Hd]; · unfold ptQ; iexact Hd
    isplitl [HO]; · iexact HO
    isplitl [Ht0]; · iexact Ht0
    isplitr; · iexact HR0
    isplitl [Ht1]; · iexact Ht1
    iexact Hr
  iintro ⟨Hc, HO⟩
  iapply Hk $$ [Hc Hat]
  · isplitl [Hat]; · iexact Hat
    iexact Hc
  iexists W; iexact HO

theorem wp_wait {α : Type} {Q : α → sProp 𝕄} (k : Kind) (t : Hop) (l : List Due) (sm : DmaSem sig) (hsm : sm = dsem k t)
    (hl : ∀ d ∈ l, lvOf (.copy k t) < dueLv d)
    {sp sp' : Space} {s s' : Shape} {e e' : EltTy} {src : Memref sig .tc sp' s' e'} {κ' : Idealize.ShloMosaic.Kind} {dst : Memref sig κ' sp s e}
    {hsrc : src.view.WordExact} {hdst : dst.view.WordExact} (hN : dst.view.dmaCredit = credit k)
    {kk : PUnit → Prog (TpuEff nD τ sig (Elt F) Λ₀ .tc) α} :
    (env m K c : sProp 𝕄) ⊢ iprop(wt k t c -∗ ow c l
      -∗ (semVal (cell k t c) 0 -∗ copyPay m k t c -∗ ow c l -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  unfold wt ow
  iintro #HE ⟨Hat, Hc⟩ ⟨%W, HO⟩ Hk
  ihave #HI := (env_cell m K c k t c) $$ HE
  ihave #HL := (env_lev m K c) $$ HE
  iapply (Rounds.wp_wait_rest_token 𝒱₀ ER (ringRd m) (c : Thread nD τ) none (κ := K (cell k t c))
      (wpE_waitDma2_eq 𝒱₀ (c : Thread nD τ) none Set.univ) (Set.mem_univ _) () (O := owedL c l) (W := W) (R := 0) (m := 0) (T := ∅)
      ((Nat.zero_add _).trans (hN.trans (expect_cell m k t c).symm))) $$ [Hc HO Hat]
  · isplitr; · iexact HI
    isplitl [Hc]; · rw [hN]; iexact Hc
    isplitl [HO]; · iexact HO
    isplitr; · iapply (mayWait c (.dma (dsem k t)) l (by rw [role_dsem]; exact hl)); iexact HL
    iexact Hat
  iintro ⟨HO, Hat, -, Hpay⟩
  ihave Hp := (Entails.of_eq (rest_cell m k t c)) $$ Hpay
  imod (Rounds.cell_close ER (ringRd m) (Set.mem_univ (K (cell k t c))) id (R := 0 + 1) (duties_later m (cell k t c))) $$ [Hat] with Hz
  · isplitr; · iexact HI
    iexact Hat
  iapply Hk $$ Hz Hp
  iexists _; iexact HO

/-- The wait of a transfer of the `Wq` ring, whatever the views it names. -/
theorem wp_waitQ {α : Type} {Q : α → sProp 𝕄} (k : Kind) (hk : k = 0 ∨ k = 1) (t : Hop) (l : List Due) (sm : DmaSem sig) (hsm : sm = dsem k t)
    (hl : ∀ d ∈ l, lvOf (.copy k t) < dueLv d)
    {src : Memref sig .tc .vmem S512x256 .bf16} {dst : Memref sig .tc .vmem S512x256 .bf16}
    {hsrc : src.view.WordExact} {hdst : dst.view.WordExact}
    {kk : PUnit → Prog (TpuEff nD τ sig (Elt F) Λ₀ .tc) α} :
    (env m K c : sProp 𝕄) ⊢ iprop(wt k t c -∗ ow c l
      -∗ (semVal (cell k t c) 0 -∗ copyPay m k t c -∗ ow c l -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) :=
  wp_wait m K c k t l sm hsm hl (by rcases hk with rfl | rfl <;> rfl)

/-- The wait of a transfer of the `Wo` ring, whatever the views it names. -/
theorem wp_waitO {α : Type} {Q : α → sProp 𝕄} (k : Kind) (hk : k = 2 ∨ k = 3) (t : Hop) (l : List Due) (sm : DmaSem sig) (hsm : sm = dsem k t)
    (hl : ∀ d ∈ l, lvOf (.copy k t) < dueLv d)
    {src : Memref sig .tc .vmem S256x512 .bf16} {dst : Memref sig .tc .vmem S256x512 .bf16}
    {hsrc : src.view.WordExact} {hdst : dst.view.WordExact}
    {kk : PUnit → Prog (TpuEff nD τ sig (Elt F) Λ₀ .tc) α} :
    (env m K c : sProp 𝕄) ⊢ iprop(wt k t c -∗ ow c l
      -∗ (semVal (cell k t c) 0 -∗ copyPay m k t c -∗ ow c l -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) :=
  wp_wait m K c k t l sm hsm hl (by rcases hk with rfl | rfl <;> rfl)

/-- A load of a slot, at contents known or not. -/
theorem wp_loadQ {α : Type} {Q : α → sProp 𝕄} (j : Fin 8) (q : PosShare TreeShare) (f : (cc0_scratch0 : Ref sig .tc).ty.Contents (Elt F)) (off : Fin 3 → Nat) (hoff : off = ![j.val, 0, 0])
    {inb : ∀ a, off a + S1x512x256.size a ≤ S8x512x256.size a}
    {hl : (qBuf.view).LoadsAt (Rect.unit (s := S8x512x256) off S1x512x256.size inb).toLoadRect}
    {k : Vec F S1x512x256 .bf16 → Prog (TpuEff nD τ sig (Elt F) Λ₀ .tc) α} :
    (ptQ c j q f : sProp 𝕄) ⊢ iprop((ptQ c j q f -∗ wp frame (wpE (defs₀ (F := F)) 𝒱₀ (c : Thread nD τ) none) Set.univ (k ((qBuf.access (rectQ j)).read (Elt F) f)) Q)
      -∗ wp frame (wpE (defs₀ (F := F)) 𝒱₀ (c : Thread nD τ) none) Set.univ (.op (.load qBuf (Rect.unit (s := S8x512x256) off S1x512x256.size inb).toLoadRect hl) k) Q) := by
  subst hoff
  rw [ptQ_eq]
  exact wp_load_rect 𝒱₀ (c : Thread nD τ) none Set.univ (m := qBuf) (r := rectQ j) (by
    show ((View.whole cc0_scratch0).slice (rectQ j)).set ⊆ _
    rw [View.set_slice_whole])

/-- The store of a device's own block into its own slot. -/
theorem wp_storeQ {α : Type} {Q : α → sProp 𝕄} (f : (cc0_scratch0 : Ref sig .tc).ty.Contents (Elt F)) (off : Fin 3 → Nat) (hoff : off = ![c.val, 0, 0])
    (w : Vec F S1x512x256 .bf16) (hw : w = wqS m c)
    {inb : ∀ a, off a + S1x512x256.size a ≤ S8x512x256.size a}
    {hx : (qBuf.access (Rect.unit (s := S8x512x256) off S1x512x256.size inb)).Stores Finset.univ}
    {hm : (Finset.univ : Finset (Rect.unit (s := S8x512x256) off S1x512x256.size inb).shape.Idx) = Finset.univ ∨ ∀ a, (Rect.unit (s := S8x512x256) off S1x512x256.size inb).stride a = 1}
    {k : PUnit → Prog (TpuEff nD τ sig (Elt F) Λ₀ .tc) α} :
    (ptQ c c fullShare f : sProp 𝕄) ⊢ iprop((ptQ c c fullShare (allQ m) -∗ wp frame (wpE (defs₀ (F := F)) 𝒱₀ (c : Thread nD τ) none) Set.univ (k ⟨⟩) Q)
      -∗ wp frame (wpE (defs₀ (F := F)) 𝒱₀ (c : Thread nD τ) none) Set.univ (.op (.store qBuf (Rect.unit (s := S8x512x256) off S1x512x256.size inb) w Finset.univ hx hm) k) Q) := by
  subst hoff hw
  rw [← writeQ m c f, ptQ_eq, ptQ_eq]
  exact wp_store 𝒱₀ (c : Thread nD τ) none Set.univ (m := qBuf) (r := rectQ c) (Mk := Finset.univ) (by
    rw [View.setOn_univ]
    show ((View.whole cc0_scratch0).slice (rectQ c)).set ⊆ _
    rw [View.set_slice_whole])

theorem wp_sendO {α : Type} {Q : α → sProp 𝕄} (t : Hop) (l : List Due) (n : Dev nD) (hn : n = nb t c) (off : Fin 3 → Nat) (hoff : off = ![(frm t c).val, 0, 0])
    (sS rS : DmaSem sig) (hsS : sS = dsem 2 t) (hrS : rS = dsem 3 t)
    {inb inb' : ∀ a, off a + S1x256x512.size a ≤ S8x256x512.size a}
    {hsc : (srcO off inb' : Memref sig (Dev.tc n : Thread nD τ).2.kind .vmem S256x512 .bf16).view.ref.isScScratch = false}
    {hsrc : (srcO off inb).view.WordExact} {hdst : (srcO off inb').view.WordExact}
    {hsem : DmaTarget.Typed .vmem (.dma rS) (.remote (Dev.tc n : Thread nD τ) (srcO off inb') (.dma sS) hsc)}
    {k : PUnit → Prog (TpuEff nD τ sig (Elt F) Λ₀ .tc) α} :
    (env m K c : sProp 𝕄) ⊢ iprop(ptO c (frm t c) (shr t) (allO m) -∗ txO t c -∗ ow c (.cp 3 t :: l)
      -∗ (wt 2 t c -∗ ow c l -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcO off inb) (.remote (Dev.tc n : Thread nD τ) (srcO off inb') (.dma sS) hsc) (.dma rS) hsrc hdst hsem) k) Q) := by
  subst hn hoff hsS hrS
  unfold txO ow wt
  iintro #HE Hs ⟨⟨%fd, Hd⟩, #Hr, Ht0, Ht1, Hat⟩ ⟨%W, HO⟩ Hk
  ihave #HI0 := (env_cell m K c 2 t c) $$ HE
  ihave #HI1 := (env_cell m K c 3 t (nb t c)) $$ HE
  ihave #HR0 := (env_reached m K c 2 t) $$ HE
  rw [into_nb]
  iapply (Rounds.wp_send_pointsTo 𝒱₀ ER (ringRd m) (c : Thread nD τ) none (c' := (nb t c : Thread nD τ)) (src := slotO (frm t c)) (dst := slotO (frm t c))
      (sS := .dma (dsem 2 t)) (sem := .dma (dsem 3 t)) (q := shr t) (fs := allO m) (κ₁ := K (cell 2 t c)) (κ₂ := K (cell 3 t (nb t c)))
      (r₁ := 0) (r₂ := 0) (d₁ := false) (d₂ := false) (fd := fd)
      (by rw [duties_cell]; exact Finset.mem_singleton_self _) (by rw [duties_cell]; exact Finset.mem_singleton_self _)
      () () NO rfl (amount_cell m 2 t c false) (amount_cell m 3 t (nb t c) false) (owedL c l) rfl (W := W)
      (by rw [payload_cell]; exact BI.Entails.refl _)
      (by rw [payload_cell]; exact Entails.of_eq ((landO (nb t c) (frm t c) fullShare fd (allO m)).trans
            (by show _ = ptO (nb t c) (into t (nb t c)) fullShare (allO m); rw [into_nb])))) $$ [Hs Hd HO Ht0 Ht1]
  · isplitr; · iexact HI0
    isplitr; · iexact HI1
    isplitl [Hs]; · unfold ptO; iexact Hs
    isplitl [Hd]; · unfold ptO; iexact Hd
    isplitl [HO]; · iexact HO
    isplitl [Ht0]; · iexact Ht0
    isplitr; · iexact HR0
    isplitl [Ht1]; · iexact Ht1
    iexact Hr
  iintro ⟨Hc, HO⟩
  iapply Hk $$ [Hc Hat]
  · isplitl [Hat]; · iexact Hat
    iexact Hc
  iexists W; iexact HO

/-- A load of a slot of the other buffer, at contents known or not. -/
theorem wp_loadO {α : Type} {Q : α → sProp 𝕄} (j : Fin 8) (q : PosShare TreeShare) (f : (cc0_scratch1 : Ref sig .tc).ty.Contents (Elt F)) (off : Fin 3 → Nat) (hoff : off = ![j.val, 0, 0])
    {inb : ∀ a, off a + S1x256x512.size a ≤ S8x256x512.size a}
    {hl : (oBuf.view).LoadsAt (Rect.unit (s := S8x256x512) off S1x256x512.size inb).toLoadRect}
    {k : Vec F S1x256x512 .bf16 → Prog (TpuEff nD τ sig (Elt F) Λ₀ .tc) α} :
    (ptO c j q f : sProp 𝕄) ⊢ iprop((ptO c j q f -∗ wp frame (wpE (defs₀ (F := F)) 𝒱₀ (c : Thread nD τ) none) Set.univ (k ((oBuf.access (rectO j)).read (Elt F) f)) Q)
      -∗ wp frame (wpE (defs₀ (F := F)) 𝒱₀ (c : Thread nD τ) none) Set.univ (.op (.load oBuf (Rect.unit (s := S8x256x512) off S1x256x512.size inb).toLoadRect hl) k) Q) := by
  subst hoff
  rw [ptO_eq]
  exact wp_load_rect 𝒱₀ (c : Thread nD τ) none Set.univ (m := oBuf) (r := rectO j) (by
    show ((View.whole cc0_scratch1).slice (rectO j)).set ⊆ _
    rw [View.set_slice_whole])

/-- The store of a device's own block into its own slot. -/
theorem wp_storeO {α : Type} {Q : α → sProp 𝕄} (f : (cc0_scratch1 : Ref sig .tc).ty.Contents (Elt F)) (off : Fin 3 → Nat) (hoff : off = ![c.val, 0, 0])
    (w : Vec F S1x256x512 .bf16) (hw : w = woS m c)
    {inb : ∀ a, off a + S1x256x512.size a ≤ S8x256x512.size a}
    {hx : (oBuf.access (Rect.unit (s := S8x256x512) off S1x256x512.size inb)).Stores Finset.univ}
    {hm : (Finset.univ : Finset (Rect.unit (s := S8x256x512) off S1x256x512.size inb).shape.Idx) = Finset.univ ∨ ∀ a, (Rect.unit (s := S8x256x512) off S1x256x512.size inb).stride a = 1}
    {k : PUnit → Prog (TpuEff nD τ sig (Elt F) Λ₀ .tc) α} :
    (ptO c c fullShare f : sProp 𝕄) ⊢ iprop((ptO c c fullShare (allO m) -∗ wp frame (wpE (defs₀ (F := F)) 𝒱₀ (c : Thread nD τ) none) Set.univ (k ⟨⟩) Q)
      -∗ wp frame (wpE (defs₀ (F := F)) 𝒱₀ (c : Thread nD τ) none) Set.univ (.op (.store oBuf (Rect.unit (s := S8x256x512) off S1x256x512.size inb) w Finset.univ hx hm) k) Q) := by
  subst hoff hw
  rw [← writeO m c f, ptO_eq, ptO_eq]
  exact wp_store 𝒱₀ (c : Thread nD τ) none Set.univ (m := oBuf) (r := rectO c) (Mk := Finset.univ) (by
    rw [View.setOn_univ]
    show ((View.whole cc0_scratch1).slice (rectO c)).set ⊆ _
    rw [View.set_slice_whole])

end Steps

end Cert.KernelIdeal.Ring

end
-- ==== Proof.KernelIdealWindow.lean ====
/-
# The staged blocks

What a device reads of the blocks its windows stage, and how it updates its output, a batch at a time.
-/
module

public import proofs.«01_k».proof.Proof.KernelIdealSlots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The blocks -/

theorem inbX (b : Fin 2) : ∀ a, (![b.val, 0, 0] : Fin 3 → Nat) a + S1x256x512.size a ≤ S2x256x512.size a := by revert b; decide
theorem inbH (b : Fin 2) (j : Fin 8) (r : Fin 4) :
    ∀ a, (![b.val, 4 * j.val + r.val, 0, 0] : Fin 4 → Nat) a + S1x1x256x64.size a ≤ S2x32x256x64.size a := by revert b j r; decide

abbrev rectX (b : Fin 2) : Rect S2x256x512 := Rect.unit (s := S2x256x512) ![b.val, 0, 0] S1x256x512.size (inbX b)
abbrev rectH (b : Fin 2) (j : Fin 8) (r : Fin 4) : Rect S2x32x256x64 :=
  Rect.unit (s := S2x32x256x64) ![b.val, 4 * j.val + r.val, 0, 0] S1x1x256x64.size (inbH b j r)

abbrev xM : Memref sig .tc .vmem S2x256x512 .bf16 := Memref.whole cc0_stg0_0
abbrev wqM : Memref sig .tc .vmem S512x256 .bf16 := Memref.whole cc0_stg1_0
abbrev kM : Memref sig .tc .vmem S2x32x256x64 .bf16 := Memref.whole cc0_stg2_0
abbrev vM : Memref sig .tc .vmem S2x32x256x64 .bf16 := Memref.whole cc0_stg3_0
abbrev woM : Memref sig .tc .vmem S256x512 .bf16 := Memref.whole cc0_stg4_0
abbrev yM : Memref sig .tc .vmem S2x256x512 .f32 := Memref.whole cc0_stg5_0

/-- Batch `b` of a device's rows. -/
def xS (c : Dev nD) (b : Fin 2) : Vec F S1x256x512 .bf16 := (xM.access (rectX b)).read (Elt F) (xB m c)
/-- The keys and the values of head `4 * j + r` of the whole, batch `b` of the device. -/
def kS (c : Dev nD) (b : Fin 2) (j : Fin 8) (r : Fin 4) : Vec F S1x1x256x64 .bf16 := (kM.access (rectH b j r)).read (Elt F) (kB m c)
def vS (c : Dev nD) (b : Fin 2) (j : Fin 8) (r : Fin 4) : Vec F S1x1x256x64 .bf16 := (vM.access (rectH b j r)).read (Elt F) (vB m c)

/-- A device's buffer at known contents. -/
abbrev pt (c : Dev nD) (b : Ref sig .tc) (f : b.ty.Contents (Elt F)) : sProp 𝕄 := ((c : Thread nD τ).loc b) ↦{fullShare} f

/-- The five blocks a device reads, staged. -/
def ins (c : Dev nD) : sProp 𝕄 :=
  iprop(pt c cc0_stg0_0 (xB m c) ∗ pt c cc0_stg1_0 (wqB m c) ∗ pt c cc0_stg2_0 (kB m c) ∗ pt c cc0_stg3_0 (vB m c) ∗ pt c cc0_stg4_0 (woB m c))

/-! ## The output -/

/-- Contents of the output block, from its two batches. -/
def comb (a b : Vec F S1x256x512 .f32) : (cc0_stg5_0 : Ref sig .tc).ty.Contents (Elt F) := fun i : S2x256x512.Idx =>
  if (i 0).val = 0 then a (fun x => match x with | 0 => (0 : Fin 1) | 1 => i 1 | 2 => i 2 : S1x256x512.Idx)
  else b (fun x => match x with | 0 => (0 : Fin 1) | 1 => i 1 | 2 => i 2 : S1x256x512.Idx)

/-- The batch a choice of two picks. -/
def pick (b : Fin 2) (a a' : Vec F S1x256x512 .f32) : Vec F S1x256x512 .f32 := if b.val = 0 then a else a'

theorem pick0 (a a' : Vec F S1x256x512 .f32) : pick 0 a a' = a := if_pos rfl
theorem pick1 (a a' : Vec F S1x256x512 .f32) : pick 1 a a' = a' := if_neg (by decide)

theorem comb_emb (a a' : Vec F S1x256x512 .f32) (b : Fin 2) (x : S1x256x512.Idx) : comb a a' ((rectX b).emb x) = pick b a a' x := by
  have h0 : ((rectX b).emb x 0).val = b.val := by
    show b.val + 1 * (x 0).val = b.val
    have : (x 0).val < 1 := (x 0).isLt
    omega
  have hx : (fun y => match y with | 0 => (0 : Fin 1) | 1 => (rectX b).emb x 1 | 2 => (rectX b).emb x 2 : S1x256x512.Idx) = x := by
    funext y
    match y with
    | 0 => exact Fin.ext (by have : (x 0).val < 1 := (x 0).isLt; show 0 = (x 0).val; omega)
    | 1 => exact Fin.ext (by show 0 + 1 * (x 1).val = (x 1).val; omega)
    | 2 => exact Fin.ext (by show 0 + 1 * (x 2).val = (x 2).val; omega)
  have key : ∀ y : S1x256x512.Idx, y = x → (if ((rectX b).emb x 0).val = 0 then a y else a' y) = pick b a a' x := by
    intro y hy
    rw [hy]
    unfold pick
    by_cases hb : b.val = 0
    · rw [if_pos (h0.trans hb), if_pos hb]
    · rw [if_neg (fun h => hb (h0.symm.trans h)), if_neg hb]
  exact key _ hx

theorem exists_emb (i : S2x256x512.Idx) : ∃ (b : Fin 2) (x : S1x256x512.Idx), (rectX b).emb x = i := by
  refine ⟨(i 0 : Fin 2), (fun y => match y with | 0 => (0 : Fin 1) | 1 => i 1 | 2 => i 2 : S1x256x512.Idx), ?_⟩
  funext y
  match y with
  | 0 => exact Fin.ext (by show (i 0).val + 1 * 0 = (i 0).val; omega)
  | 1 => exact Fin.ext (by show 0 + 1 * (i 1).val = (i 1).val; omega)
  | 2 => exact Fin.ext (by show 0 + 1 * (i 2).val = (i 2).val; omega)

theorem read_comb (a a' : Vec F S1x256x512 .f32) (b : Fin 2) : (yM.access (rectX b)).read (Elt F) (comb a a') = pick b a a' :=
  funext fun x => comb_emb a a' b x

theorem comb_read (f : (cc0_stg5_0 : Ref sig .tc).ty.Contents (Elt F)) :
    comb ((yM.access (rectX 0)).read (Elt F) f) ((yM.access (rectX 1)).read (Elt F) f) = f := by
  funext i
  obtain ⟨b, x, rfl⟩ := exists_emb i
  rw [comb_emb]
  match b with
  | 0 => rfl
  | 1 => rfl

theorem write_comb0 (a a' w : Vec F S1x256x512 .f32) : (yM.access (rectX 0)).write (Elt F) (comb a a') w Finset.univ = comb w a' := by
  funext i
  obtain ⟨b, x, rfl⟩ := exists_emb i
  rw [comb_emb]
  match b with
  | 0 => exact View.write_emb_of_mem (v := yM.access (rectX 0)) (comb a a') w (Finset.mem_univ x)
  | 1 =>
    refine Eq.trans (View.write_of_not_mem (v := yM.access (rectX 0)) (comb a a') w (M := Finset.univ) ?_) (comb_emb a a' 1 x)
    rw [View.setOn_univ]
    show _ ∉ ((View.whole cc0_stg5_0).slice (rectX 0)).set
    rw [View.set_slice_whole, Rect.mem_set_unit]
    intro h
    have h0 : (0 : ℕ) ≤ ((rectX 1).emb x 0).val ∧ ((rectX 1).emb x 0).val < 0 + 1 := h 0
    have h1 : ((rectX 1).emb x 0).val = 1 + 1 * (x 0).val := rfl
    omega

theorem write_comb1 (a a' w : Vec F S1x256x512 .f32) : (yM.access (rectX 1)).write (Elt F) (comb a a') w Finset.univ = comb a w := by
  funext i
  obtain ⟨b, x, rfl⟩ := exists_emb i
  rw [comb_emb]
  match b with
  | 1 => exact View.write_emb_of_mem (v := yM.access (rectX 1)) (comb a a') w (Finset.mem_univ x)
  | 0 =>
    refine Eq.trans (View.write_of_not_mem (v := yM.access (rectX 1)) (comb a a') w (M := Finset.univ) ?_) (comb_emb a a' 0 x)
    rw [View.setOn_univ]
    show _ ∉ ((View.whole cc0_stg5_0).slice (rectX 1)).set
    rw [View.set_slice_whole, Rect.mem_set_unit]
    intro h
    have h0 : (1 : ℕ) ≤ ((rectX 0).emb x 0).val ∧ ((rectX 0).emb x 0).val < 1 + 1 := h 0
    have h1 : ((rectX 0).emb x 0).val = 0 + 1 * (x 0).val := rfl
    have : (x 0).val < 1 := (x 0).isLt
    omega

/-- A device's output block, batch by batch. -/
def out (c : Dev nD) (a a' : Vec F S1x256x512 .f32) : sProp 𝕄 := pt c cc0_stg5_0 (comb a a')

/-! ## The steps -/

section Steps

variable (c : Dev nD)

theorem wp_loadX {α : Type} {Q : α → sProp 𝕄} (b : Fin 2) (off : Fin 3 → Nat) (hoff : off = ![b.val, 0, 0])
    {inb : ∀ a, off a + S1x256x512.size a ≤ S2x256x512.size a}
    {hl : (xM.view).LoadsAt (Rect.unit (s := S2x256x512) off S1x256x512.size inb).toLoadRect}
    {k : Vec F S1x256x512 .bf16 → Prog (TpuEff nD τ sig (Elt F) Λ₀ .tc) α} :
    (ins m c : sProp 𝕄) ⊢ iprop((ins m c -∗ wp frame (wpE (defs₀ (F := F)) 𝒱₀ (c : Thread nD τ) none) Set.univ (k (xS m c b)) Q)
      -∗ wp frame (wpE (defs₀ (F := F)) 𝒱₀ (c : Thread nD τ) none) Set.univ (.op (.load xM (Rect.unit (s := S2x256x512) off S1x256x512.size inb).toLoadRect hl) k) Q) := by
  subst hoff
  unfold ins
  iintro ⟨Hx, Hr⟩ Hk
  iapply (wp_load_rect 𝒱₀ (c : Thread nD τ) none Set.univ (m := xM) (r := rectX b) (Finset.subset_univ _)) $$ Hx
  iintro Hx
  iapply Hk
  isplitl [Hx]; · iexact Hx
  iexact Hr

theorem wp_loadK {α : Type} {Q : α → sProp 𝕄} (b : Fin 2) (j : Fin 8) (r : Fin 4) (off : Fin 4 → Nat) (hoff : off = ![b.val, 4 * j.val + r.val, 0, 0])
    {inb : ∀ a, off a + S1x1x256x64.size a ≤ S2x32x256x64.size a}
    {hl : (kM.view).LoadsAt (Rect.unit (s := S2x32x256x64) off S1x1x256x64.size inb).toLoadRect}
    {k : Vec F S1x1x256x64 .bf16 → Prog (TpuEff nD τ sig (Elt F) Λ₀ .tc) α} :
    (ins m c : sProp 𝕄) ⊢ iprop((ins m c -∗ wp frame (wpE (defs₀ (F := F)) 𝒱₀ (c : Thread nD τ) none) Set.univ (k (kS m c b j r)) Q)
      -∗ wp frame (wpE (defs₀ (F := F)) 𝒱₀ (c : Thread nD τ) none) Set.univ (.op (.load kM (Rect.unit (s := S2x32x256x64) off S1x1x256x64.size inb).toLoadRect hl) k) Q) := by
  subst hoff
  unfold ins
  iintro ⟨Hx, Hw, Hy, Hr⟩ Hk
  iapply (wp_load_rect 𝒱₀ (c : Thread nD τ) none Set.univ (m := kM) (r := rectH b j r) (Finset.subset_univ _)) $$ Hy
  iintro Hy
  iapply Hk
  isplitl [Hx]; · iexact Hx
  isplitl [Hw]; · iexact Hw
  isplitl [Hy]; · iexact Hy
  iexact Hr

theorem wp_loadV {α : Type} {Q : α → sProp 𝕄} (b : Fin 2) (j : Fin 8) (r : Fin 4) (off : Fin 4 → Nat) (hoff : off = ![b.val, 4 * j.val + r.val, 0, 0])
    {inb : ∀ a, off a + S1x1x256x64.size a ≤ S2x32x256x64.size a}
    {hl : (vM.view).LoadsAt (Rect.unit (s := S2x32x256x64) off S1x1x256x64.size inb).toLoadRect}
    {k : Vec F S1x1x256x64 .bf16 → Prog (TpuEff nD τ sig (Elt F) Λ₀ .tc) α} :
    (ins m c : sProp 𝕄) ⊢ iprop((ins m c -∗ wp frame (wpE (defs₀ (F := F)) 𝒱₀ (c : Thread nD τ) none) Set.univ (k (vS m c b j r)) Q)
      -∗ wp frame (wpE (defs₀ (F := F)) 𝒱₀ (c : Thread nD τ) none) Set.univ (.op (.load vM (Rect.unit (s := S2x32x256x64) off S1x1x256x64.size inb).toLoadRect hl) k) Q) := by
  subst hoff
  unfold ins
  iintro ⟨Hx, Hw, Hk', Hy, Hr⟩ Hk
  iapply (wp_load_rect 𝒱₀ (c : Thread nD τ) none Set.univ (m := vM) (r := rectH b j r) (Finset.subset_univ _)) $$ Hy
  iintro Hy
  iapply Hk
  isplitl [Hx]; · iexact Hx
  isplitl [Hw]; · iexact Hw
  isplitl [Hk']; · iexact Hk'
  isplitl [Hy]; · iexact Hy
  iexact Hr

theorem zero2 : (![0, 0] : Fin 2 → Nat) = fun _ => 0 := funext fun a => by fin_cases a <;> rfl

theorem wp_loadWq {α : Type} {Q : α → sProp 𝕄}
    {inb : ∀ a, (![0, 0] : Fin 2 → Nat) a + S512x256.size a ≤ S512x256.size a}
    {hl : (wqM.view).LoadsAt (Rect.unit (s := S512x256) ![0, 0] S512x256.size inb).toLoadRect}
    {k : Vec F S512x256 .bf16 → Prog (TpuEff nD τ sig (Elt F) Λ₀ .tc) α} :
    (ins m c : sProp 𝕄) ⊢ iprop((ins m c -∗ wp frame (wpE (defs₀ (F := F)) 𝒱₀ (c : Thread nD τ) none) Set.univ (k (wqB m c)) Q)
      -∗ wp frame (wpE (defs₀ (F := F)) 𝒱₀ (c : Thread nD τ) none) Set.univ (.op (.load wqM (Rect.unit (s := S512x256) ![0, 0] S512x256.size inb).toLoadRect hl) k) Q) := by
  have e : wqM.view.readAt (Elt F) (Rect.unit (s := S512x256) ![0, 0] S512x256.size inb).toLoadRect (wqB m c) = wqB m c :=
    Memref.readAt_unit_zero (Elt F) cc0_stg1_0 zero2 _ _
  unfold ins
  iintro ⟨Hx, Hy, Hr⟩ Hk
  iapply (wp_load 𝒱₀ (c : Thread nD τ) none Set.univ (m := wqM) (Finset.subset_univ _)) $$ Hy
  rw [e]
  iintro Hy
  iapply Hk
  isplitl [Hx]; · iexact Hx
  isplitl [Hy]; · iexact Hy
  iexact Hr

theorem wp_loadWo {α : Type} {Q : α → sProp 𝕄}
    {inb : ∀ a, (![0, 0] : Fin 2 → Nat) a + S256x512.size a ≤ S256x512.size a}
    {hl : (woM.view).LoadsAt (Rect.unit (s := S256x512) ![0, 0] S256x512.size inb).toLoadRect}
    {k : Vec F S256x512 .bf16 → Prog (TpuEff nD τ sig (Elt F) Λ₀ .tc) α} :
    (ins m c : sProp 𝕄) ⊢ iprop((ins m c -∗ wp frame (wpE (defs₀ (F := F)) 𝒱₀ (c : Thread nD τ) none) Set.univ (k (woB m c)) Q)
      -∗ wp frame (wpE (defs₀ (F := F)) 𝒱₀ (c : Thread nD τ) none) Set.univ (.op (.load woM (Rect.unit (s := S256x512) ![0, 0] S256x512.size inb).toLoadRect hl) k) Q) := by
  have e : woM.view.readAt (Elt F) (Rect.unit (s := S256x512) ![0, 0] S256x512.size inb).toLoadRect (woB m c) = woB m c :=
    Memref.readAt_unit_zero (Elt F) cc0_stg4_0 zero2 _ _
  unfold ins
  iintro ⟨Hx, Hw, Hk', Hv, Hy⟩ Hk
  iapply (wp_load 𝒱₀ (c : Thread nD τ) none Set.univ (m := woM) (Finset.subset_univ _)) $$ Hy
  rw [e]
  iintro Hy
  iapply Hk
  isplitl [Hx]; · iexact Hx
  isplitl [Hw]; · iexact Hw
  isplitl [Hk']; · iexact Hk'
  isplitl [Hv]; · iexact Hv
  iexact Hy

theorem wp_loadY {α : Type} {Q : α → sProp 𝕄} (b : Fin 2) (a a' : Vec F S1x256x512 .f32) (off : Fin 3 → Nat) (hoff : off = ![b.val, 0, 0])
    {inb : ∀ a, off a + S1x256x512.size a ≤ S2x256x512.size a}
    {hl : (yM.view).LoadsAt (Rect.unit (s := S2x256x512) off S1x256x512.size inb).toLoadRect}
    {k : Vec F S1x256x512 .f32 → Prog (TpuEff nD τ sig (Elt F) Λ₀ .tc) α} :
    (out c a a' : sProp 𝕄) ⊢ iprop((out c a a' -∗ wp frame (wpE (defs₀ (F := F)) 𝒱₀ (c : Thread nD τ) none) Set.univ (k (pick b a a')) Q)
      -∗ wp frame (wpE (defs₀ (F := F)) 𝒱₀ (c : Thread nD τ) none) Set.univ (.op (.load yM (Rect.unit (s := S2x256x512) off S1x256x512.size inb).toLoadRect hl) k) Q) := by
  subst hoff
  rw [← read_comb a a' b]
  unfold out
  exact wp_load_rect 𝒱₀ (c : Thread nD τ) none Set.univ (m := yM) (r := rectX b) (Finset.subset_univ _)

theorem wp_storeY0 {α : Type} {Q : α → sProp 𝕄} (a a' w : Vec F S1x256x512 .f32)
    {inb : ∀ a, (![0, 0, 0] : Fin 3 → Nat) a + S1x256x512.size a ≤ S2x256x512.size a}
    {hx : (yM.access (Rect.unit (s := S2x256x512) ![0, 0, 0] S1x256x512.size inb)).Stores Finset.univ}
    {hm : (Finset.univ : Finset (Rect.unit (s := S2x256x512) ![0, 0, 0] S1x256x512.size inb).shape.Idx) = Finset.univ ∨ ∀ a, (Rect.unit (s := S2x256x512) ![0, 0, 0] S1x256x512.size inb).stride a = 1}
    {k : PUnit → Prog (TpuEff nD τ sig (Elt F) Λ₀ .tc) α} :
    (out c a a' : sProp 𝕄) ⊢ iprop((out c w a' -∗ wp frame (wpE (defs₀ (F := F)) 𝒱₀ (c : Thread nD τ) none) Set.univ (k ⟨⟩) Q)
      -∗ wp frame (wpE (defs₀ (F := F)) 𝒱₀ (c : Thread nD τ) none) Set.univ (.op (.store yM (Rect.unit (s := S2x256x512) ![0, 0, 0] S1x256x512.size inb) w Finset.univ hx hm) k) Q) := by
  unfold out
  rw [← write_comb0 a a' w]
  exact wp_store 𝒱₀ (c : Thread nD τ) none Set.univ (m := yM) (r := rectX 0) (Mk := Finset.univ) (Finset.subset_univ _)

theorem wp_storeY1 {α : Type} {Q : α → sProp 𝕄} (a a' w : Vec F S1x256x512 .f32)
    {inb : ∀ a, (![1, 0, 0] : Fin 3 → Nat) a + S1x256x512.size a ≤ S2x256x512.size a}
    {hx : (yM.access (Rect.unit (s := S2x256x512) ![1, 0, 0] S1x256x512.size inb)).Stores Finset.univ}
    {hm : (Finset.univ : Finset (Rect.unit (s := S2x256x512) ![1, 0, 0] S1x256x512.size inb).shape.Idx) = Finset.univ ∨ ∀ a, (Rect.unit (s := S2x256x512) ![1, 0, 0] S1x256x512.size inb).stride a = 1}
    {k : PUnit → Prog (TpuEff nD τ sig (Elt F) Λ₀ .tc) α} :
    (out c a a' : sProp 𝕄) ⊢ iprop((out c a w -∗ wp frame (wpE (defs₀ (F := F)) 𝒱₀ (c : Thread nD τ) none) Set.univ (k ⟨⟩) Q)
      -∗ wp frame (wpE (defs₀ (F := F)) 𝒱₀ (c : Thread nD τ) none) Set.univ (.op (.store yM (Rect.unit (s := S2x256x512) ![1, 0, 0] S1x256x512.size inb) w Finset.univ hx hm) k) Q) := by
  unfold out
  rw [← write_comb1 a a' w]
  exact wp_store 𝒱₀ (c : Thread nD τ) none Set.univ (m := yM) (r := rectX 1) (Mk := Finset.univ) (Finset.subset_univ _)

end Steps

end Cert.KernelIdeal.Ring

end
-- ==== Proof.KernelIdealGroup.lean ====
/-
# One group of heads, and where a device finds it

What a device adds to its output for one group of four heads, as one function of the blocks it
reads, and the program's own offsets, targets and semaphores as the positions of the ring.
-/
module

public import proofs.«01_k».proof.Proof.KernelIdealWindow

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One group -/

/-- The band of width 256 around the diagonal. -/
def maskV : IVec S256x256 1 := k0_pay3 (iota .tc S256x256 32 [0] iota_S256x256_d0_w32) (iota .tc S256x256 32 [1] iota_S256x256_d1_w32)

/-- Scaled queries of a group. -/
def qV (w : FVec F S512x256 .bf16) (x : Vec F S1x256x512 .bf16) : FVec F S256x256 .bf16 :=
  truncf .bf16 (mulf (matmul dot_S256x512_S512x256_S256x256_1_0_0_1_n_n none (shapeCast S256x512 x shapeCasts_S1x256x512_S256x512) w (constant S256x256 .f32 0x00000000#32))
    (broadcast S256x256 (Scalar.ofBits .f32 0x3E000000#32))) bitsLt_bf16_f32

/-- Masked scores of a head. -/
def scoreV (q : FVec F S256x64 .bf16) (k : Vec F S1x1x256x64 .bf16) : FVec F S256x256 .f32 :=
  select maskV (matmul dot_S256x64_S256x64_S256x256_1_1_0_0_n_n none q (shapeCast S256x64 (shapeCast S1x256x64 k shapeCasts_S1x1x256x64_S1x256x64) shapeCasts_S1x256x64_S256x64) (constant S256x256 .f32 0x00000000#32))
    (broadcast S256x256 (Scalar.ofBits .f32 0xCE6E6B28#32))

/-- Exponentials of the scores below their row's maximum. -/
def expV (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- Rows divided by their sums. -/
def normV (p : FVec F S256x256 .f32) : FVec F S256x256 .f32 :=
  divf p (broadcastTo S256x256 (shapeCast S256x1 (multiReduction .add [1] S256 p 0x00000000#32 reduces_S256x256_S256 (.inl rfl) rfl) shapeCasts_S256_S256x1) broadcasts_S256x1_S256x256)

/-- What one head attends to. -/
def headV (q : FVec F S256x64 .bf16) (k v : Vec F S1x1x256x64 .bf16) : FVec F S256x64 .bf16 :=
  truncf .bf16 (matmul dot_S256x256_S256x64_S256x64_1_0_0_1_n_n none (truncf .bf16 (normV (expV (scoreV q k))) bitsLt_bf16_f32)
    (shapeCast S256x64 (shapeCast S1x256x64 v shapeCasts_S1x1x256x64_S1x256x64) shapeCasts_S1x256x64_S256x64) (constant S256x64 .f32 0x00000000#32)) bitsLt_bf16_f32

/-- Four heads, projected. -/
def groupV (w : FVec F S512x256 .bf16) (o : FVec F S256x512 .bf16) (x : Vec F S1x256x512 .bf16) (k v : Fin 4 → Vec F S1x1x256x64 .bf16) : FVec F S256x512 .f32 :=
  matmul dot_S256x256_S256x512_S256x512_1_0_0_1_n_n none
    (concatenate S256x256 1
      [⟨S256x64, headV (extractStridedSlice S256x64 ![0, 0] (qV w x) slices_S256x256_o0_0_S256x64) (k 0) (v 0)⟩,
       ⟨S256x64, headV (extractStridedSlice S256x64 ![0, 64] (qV w x) slices_S256x256_o0_64_S256x64) (k 1) (v 1)⟩,
       ⟨S256x64, headV (extractStridedSlice S256x64 ![0, 128] (qV w x) slices_S256x256_o0_128_S256x64) (k 2) (v 2)⟩,
       ⟨S256x64, headV (extractStridedSlice S256x64 ![0, 192] (qV w x) slices_S256x256_o0_192_S256x64) (k 3) (v 3)⟩]
      concatenates_S256x64_S256x64_S256x64_S256x64_S256x256_d1)
    o (constant S256x512 .f32 0x00000000#32)

/-- The output after the device's own group. -/
def firstV (c : Dev nD) (b : Fin 2) : Vec F S1x256x512 .f32 :=
  shapeCast S1x256x512 (groupV (k0_pay4 (wqB m c)) (k0_pay5 (woB m c)) (xS m c b) (kS m c b c) (vS m c b c)) shapeCasts_S256x512_S1x256x512

/-- The output after one more group, the one transfer `t` brought. -/
def nextV (c : Dev nD) (b : Fin 2) (t : Hop) (a : Vec F S1x256x512 .f32) : Vec F S1x256x512 .f32 :=
  shapeCast S1x256x512 (addf (shapeCast S256x512 a shapeCasts_S1x256x512_S256x512)
    (groupV (shapeCast S512x256 (wqS m (into t c)) shapeCasts_S1x512x256_S512x256) (shapeCast S256x512 (woS m (into t c)) shapeCasts_S1x256x512_S256x512)
      (xS m c b) (kS m c b (into t c)) (vS m c b (into t c)))) shapeCasts_S256x512_S1x256x512

/-- The output after the device's own group and those of a list of transfers, the last first. -/
def sumV (c : Dev nD) (b : Fin 2) : List Hop → Vec F S1x256x512 .f32
  | [] => firstV m c b
  | t :: l => nextV m c b t (sumV c b l)

/-- Transfers in the order a device uses them, the last first. -/
def used : List Hop := [3, 6, 2, 5, 1, 4, 0]

/-! ## Where a device finds what -/

theorem off11_l1 (c : Dev nD) (r : Fin 4) : k0_off11 c 4294967295#32 (BitVec.ofNat 32 r.val) = ![(0 : Fin 2).val, 4 * (into 0 c).val + r.val, 0, 0] := by revert c r; decide +kernel
theorem off11_r1 (c : Dev nD) (r : Fin 4) : k0_off11 c 1#32 (BitVec.ofNat 32 r.val) = ![(0 : Fin 2).val, 4 * (into 4 c).val + r.val, 0, 0] := by revert c r; decide +kernel
theorem off11_l2 (c : Dev nD) (r : Fin 4) : k0_off11 c 4294967294#32 (BitVec.ofNat 32 r.val) = ![(0 : Fin 2).val, 4 * (into 1 c).val + r.val, 0, 0] := by revert c r; decide +kernel
theorem off11_r2 (c : Dev nD) (r : Fin 4) : k0_off11 c 2#32 (BitVec.ofNat 32 r.val) = ![(0 : Fin 2).val, 4 * (into 5 c).val + r.val, 0, 0] := by revert c r; decide +kernel
theorem off11_l3 (c : Dev nD) (r : Fin 4) : k0_off11 c 4294967293#32 (BitVec.ofNat 32 r.val) = ![(0 : Fin 2).val, 4 * (into 2 c).val + r.val, 0, 0] := by revert c r; decide +kernel
theorem off11_r3 (c : Dev nD) (r : Fin 4) : k0_off11 c 3#32 (BitVec.ofNat 32 r.val) = ![(0 : Fin 2).val, 4 * (into 6 c).val + r.val, 0, 0] := by revert c r; decide +kernel
theorem off11_l4 (c : Dev nD) (r : Fin 4) : k0_off11 c 4294967292#32 (BitVec.ofNat 32 r.val) = ![(0 : Fin 2).val, 4 * (into 3 c).val + r.val, 0, 0] := by revert c r; decide +kernel
theorem off12_l1 (c : Dev nD) (r : Fin 4) : k0_off12 c 4294967295#32 (BitVec.ofNat 32 r.val) = ![(1 : Fin 2).val, 4 * (into 0 c).val + r.val, 0, 0] := by revert c r; decide +kernel
theorem off12_r1 (c : Dev nD) (r : Fin 4) : k0_off12 c 1#32 (BitVec.ofNat 32 r.val) = ![(1 : Fin 2).val, 4 * (into 4 c).val + r.val, 0, 0] := by revert c r; decide +kernel
theorem off12_l2 (c : Dev nD) (r : Fin 4) : k0_off12 c 4294967294#32 (BitVec.ofNat 32 r.val) = ![(1 : Fin 2).val, 4 * (into 1 c).val + r.val, 0, 0] := by revert c r; decide +kernel
theorem off12_r2 (c : Dev nD) (r : Fin 4) : k0_off12 c 2#32 (BitVec.ofNat 32 r.val) = ![(1 : Fin 2).val, 4 * (into 5 c).val + r.val, 0, 0] := by revert c r; decide +kernel
theorem off12_l3 (c : Dev nD) (r : Fin 4) : k0_off12 c 4294967293#32 (BitVec.ofNat 32 r.val) = ![(1 : Fin 2).val, 4 * (into 2 c).val + r.val, 0, 0] := by revert c r; decide +kernel
theorem off12_r3 (c : Dev nD) (r : Fin 4) : k0_off12 c 3#32 (BitVec.ofNat 32 r.val) = ![(1 : Fin 2).val, 4 * (into 6 c).val + r.val, 0, 0] := by revert c r; decide +kernel
theorem off12_l4 (c : Dev nD) (r : Fin 4) : k0_off12 c 4294967292#32 (BitVec.ofNat 32 r.val) = ![(1 : Fin 2).val, 4 * (into 3 c).val + r.val, 0, 0] := by revert c r; decide +kernel
theorem off5_own (c : Dev nD) (r : Fin 4) : k0_off5 c (BitVec.ofNat 32 r.val) = ![(0 : Fin 2).val, 4 * c.val + r.val, 0, 0] := by revert c r; decide +kernel
theorem off6_own (c : Dev nD) (r : Fin 4) : k0_off6 c (BitVec.ofNat 32 r.val) = ![(1 : Fin 2).val, 4 * c.val + r.val, 0, 0] := by revert c r; decide +kernel
theorem off9_l1 (c : Dev nD) : k0_off9 c 4294967295#32 = ![(into 0 c).val, 0, 0] := by revert c; decide +kernel
theorem off9_r1 (c : Dev nD) : k0_off9 c 1#32 = ![(into 4 c).val, 0, 0] := by revert c; decide +kernel
theorem off9_l2 (c : Dev nD) : k0_off9 c 4294967294#32 = ![(into 1 c).val, 0, 0] := by revert c; decide +kernel
theorem off9_r2 (c : Dev nD) : k0_off9 c 2#32 = ![(into 5 c).val, 0, 0] := by revert c; decide +kernel
theorem off9_l3 (c : Dev nD) : k0_off9 c 4294967293#32 = ![(into 2 c).val, 0, 0] := by revert c; decide +kernel
theorem off9_r3 (c : Dev nD) : k0_off9 c 3#32 = ![(into 6 c).val, 0, 0] := by revert c; decide +kernel
theorem off9_l4 (c : Dev nD) : k0_off9 c 4294967292#32 = ![(into 3 c).val, 0, 0] := by revert c; decide +kernel
theorem off10_l1 (c : Dev nD) : k0_off10 c 4294967295#32 = ![(into 0 c).val, 0, 0] := by revert c; decide +kernel
theorem off10_r1 (c : Dev nD) : k0_off10 c 1#32 = ![(into 4 c).val, 0, 0] := by revert c; decide +kernel
theorem off10_l2 (c : Dev nD) : k0_off10 c 4294967294#32 = ![(into 1 c).val, 0, 0] := by revert c; decide +kernel
theorem off10_r2 (c : Dev nD) : k0_off10 c 2#32 = ![(into 5 c).val, 0, 0] := by revert c; decide +kernel
theorem off10_l3 (c : Dev nD) : k0_off10 c 4294967293#32 = ![(into 2 c).val, 0, 0] := by revert c; decide +kernel
theorem off10_r3 (c : Dev nD) : k0_off10 c 3#32 = ![(into 6 c).val, 0, 0] := by revert c; decide +kernel
theorem off10_l4 (c : Dev nD) : k0_off10 c 4294967292#32 = ![(into 3 c).val, 0, 0] := by revert c; decide +kernel
theorem off7_l1 (c : Dev nD) : k0_off7 c 4294967295#32 = ![(frm 1 c).val, 0, 0] := by revert c; decide +kernel
theorem off7_r1 (c : Dev nD) : k0_off7 c 1#32 = ![(frm 5 c).val, 0, 0] := by revert c; decide +kernel
theorem off7_l2 (c : Dev nD) : k0_off7 c 4294967294#32 = ![(frm 2 c).val, 0, 0] := by revert c; decide +kernel
theorem off7_r2 (c : Dev nD) : k0_off7 c 2#32 = ![(frm 6 c).val, 0, 0] := by revert c; decide +kernel
theorem off7_l3 (c : Dev nD) : k0_off7 c 4294967293#32 = ![(frm 3 c).val, 0, 0] := by revert c; decide +kernel
theorem off8_l1 (c : Dev nD) : k0_off8 c 4294967295#32 = ![(frm 1 c).val, 0, 0] := by revert c; decide +kernel
theorem off8_r1 (c : Dev nD) : k0_off8 c 1#32 = ![(frm 5 c).val, 0, 0] := by revert c; decide +kernel
theorem off8_l2 (c : Dev nD) : k0_off8 c 4294967294#32 = ![(frm 2 c).val, 0, 0] := by revert c; decide +kernel
theorem off8_r2 (c : Dev nD) : k0_off8 c 2#32 = ![(frm 6 c).val, 0, 0] := by revert c; decide +kernel
theorem off8_l3 (c : Dev nD) : k0_off8 c 4294967293#32 = ![(frm 3 c).val, 0, 0] := by revert c; decide +kernel
theorem off3_0 (c : Dev nD) : k0_off3 c = ![(frm 0 c).val, 0, 0] := by revert c; decide +kernel
theorem off3_4 (c : Dev nD) : k0_off3 c = ![(frm 4 c).val, 0, 0] := by revert c; decide +kernel
theorem off4_0 (c : Dev nD) : k0_off4 c = ![(frm 0 c).val, 0, 0] := by revert c; decide +kernel
theorem off4_4 (c : Dev nD) : k0_off4 c = ![(frm 4 c).val, 0, 0] := by revert c; decide +kernel

theorem dev3_to (c : Dev nD) : (⟨k0_dev3 c, k0_dev3_lt c⟩ : Dev nD) = nb 0 c := by revert c; decide +kernel
theorem dev4_to (c : Dev nD) : (⟨k0_dev4 c, k0_dev4_lt c⟩ : Dev nD) = nb 0 c := by revert c; decide +kernel
theorem dev5_to (c : Dev nD) : (⟨k0_dev5 c, k0_dev5_lt c⟩ : Dev nD) = nb 4 c := by revert c; decide +kernel
theorem dev6_to (c : Dev nD) : (⟨k0_dev6 c, k0_dev6_lt c⟩ : Dev nD) = nb 4 c := by revert c; decide +kernel
theorem dev7_to (c : Dev nD) : (⟨k0_dev7 c, k0_dev7_lt c⟩ : Dev nD) = nb 1 c := by revert c; decide +kernel
theorem dev8_to (c : Dev nD) : (⟨k0_dev8 c, k0_dev8_lt c⟩ : Dev nD) = nb 1 c := by revert c; decide +kernel
theorem dev9_to (c : Dev nD) : (⟨k0_dev9 c, k0_dev9_lt c⟩ : Dev nD) = nb 5 c := by revert c; decide +kernel
theorem dev10_to (c : Dev nD) : (⟨k0_dev10 c, k0_dev10_lt c⟩ : Dev nD) = nb 5 c := by revert c; decide +kernel
theorem dev11_to (c : Dev nD) : (⟨k0_dev11 c, k0_dev11_lt c⟩ : Dev nD) = nb 2 c := by revert c; decide +kernel
theorem dev12_to (c : Dev nD) : (⟨k0_dev12 c, k0_dev12_lt c⟩ : Dev nD) = nb 2 c := by revert c; decide +kernel
theorem dev13_to (c : Dev nD) : (⟨k0_dev13 c, k0_dev13_lt c⟩ : Dev nD) = nb 6 c := by revert c; decide +kernel
theorem dev14_to (c : Dev nD) : (⟨k0_dev14 c, k0_dev14_lt c⟩ : Dev nD) = nb 6 c := by revert c; decide +kernel
theorem dev15_to (c : Dev nD) : (⟨k0_dev15 c, k0_dev15_lt c⟩ : Dev nD) = nb 3 c := by revert c; decide +kernel
theorem dev16_to (c : Dev nD) : (⟨k0_dev16 c, k0_dev16_lt c⟩ : Dev nD) = nb 3 c := by revert c; decide +kernel
theorem dev1_to (c : Dev nD) : (⟨k0_dev1 c, k0_dev1_lt c⟩ : Dev nD) = lf c := by revert c; decide +kernel
theorem dev2_to (c : Dev nD) : (⟨k0_dev2 c, k0_dev2_lt c⟩ : Dev nD) = rt c := by revert c; decide +kernel

theorem frm_0 (c : Dev nD) : frm 0 c = c := by revert c; decide
theorem frm_4 (c : Dev nD) : frm 4 c = c := by revert c; decide
theorem frm_1 (c : Dev nD) : frm 1 c = into 0 c := by revert c; decide
theorem frm_2 (c : Dev nD) : frm 2 c = into 1 c := by revert c; decide
theorem frm_3 (c : Dev nD) : frm 3 c = into 2 c := by revert c; decide
theorem frm_5 (c : Dev nD) : frm 5 c = into 4 c := by revert c; decide
theorem frm_6 (c : Dev nD) : frm 6 c = into 5 c := by revert c; decide

theorem sem8_0 : ((cc0_scratch2.slice (Rect.unit (s := S4) ![0] S1.size inb_S4_S1_0)).squeeze S_ squeezes_S1_S_).sem = dsem 0 0 := rfl
theorem sem8_1 : ((cc0_scratch2.slice (Rect.unit (s := S4) ![1] S1.size inb_S4_S1_1)).squeeze S_ squeezes_S1_S_).sem = dsem 0 1 := rfl
theorem sem8_2 : ((cc0_scratch2.slice (Rect.unit (s := S4) ![2] S1.size inb_S4_S1_2)).squeeze S_ squeezes_S1_S_).sem = dsem 0 2 := rfl
theorem sem8_3 : ((cc0_scratch2.slice (Rect.unit (s := S4) ![3] S1.size inb_S4_S1_3)).squeeze S_ squeezes_S1_S_).sem = dsem 0 3 := rfl
theorem sem9_0 : ((cc0_scratch3.slice (Rect.unit (s := S4) ![0] S1.size inb_S4_S1_0)).squeeze S_ squeezes_S1_S_).sem = dsem 1 0 := rfl
theorem sem9_1 : ((cc0_scratch3.slice (Rect.unit (s := S4) ![1] S1.size inb_S4_S1_1)).squeeze S_ squeezes_S1_S_).sem = dsem 1 1 := rfl
theorem sem9_2 : ((cc0_scratch3.slice (Rect.unit (s := S4) ![2] S1.size inb_S4_S1_2)).squeeze S_ squeezes_S1_S_).sem = dsem 1 2 := rfl
theorem sem9_3 : ((cc0_scratch3.slice (Rect.unit (s := S4) ![3] S1.size inb_S4_S1_3)).squeeze S_ squeezes_S1_S_).sem = dsem 1 3 := rfl
theorem sem10_0 : ((cc0_scratch4.slice (Rect.unit (s := S4) ![0] S1.size inb_S4_S1_0)).squeeze S_ squeezes_S1_S_).sem = dsem 2 0 := rfl
theorem sem10_1 : ((cc0_scratch4.slice (Rect.unit (s := S4) ![1] S1.size inb_S4_S1_1)).squeeze S_ squeezes_S1_S_).sem = dsem 2 1 := rfl
theorem sem10_2 : ((cc0_scratch4.slice (Rect.unit (s := S4) ![2] S1.size inb_S4_S1_2)).squeeze S_ squeezes_S1_S_).sem = dsem 2 2 := rfl
theorem sem10_3 : ((cc0_scratch4.slice (Rect.unit (s := S4) ![3] S1.size inb_S4_S1_3)).squeeze S_ squeezes_S1_S_).sem = dsem 2 3 := rfl
theorem sem11_0 : ((cc0_scratch5.slice (Rect.unit (s := S4) ![0] S1.size inb_S4_S1_0)).squeeze S_ squeezes_S1_S_).sem = dsem 3 0 := rfl
theorem sem11_1 : ((cc0_scratch5.slice (Rect.unit (s := S4) ![1] S1.size inb_S4_S1_1)).squeeze S_ squeezes_S1_S_).sem = dsem 3 1 := rfl
theorem sem11_2 : ((cc0_scratch5.slice (Rect.unit (s := S4) ![2] S1.size inb_S4_S1_2)).squeeze S_ squeezes_S1_S_).sem = dsem 3 2 := rfl
theorem sem11_3 : ((cc0_scratch5.slice (Rect.unit (s := S4) ![3] S1.size inb_S4_S1_3)).squeeze S_ squeezes_S1_S_).sem = dsem 3 3 := rfl
theorem sem12_0 : ((cc0_scratch6.slice (Rect.unit (s := S3) ![0] S1.size inb_S3_S1_0)).squeeze S_ squeezes_S1_S_).sem = dsem 0 4 := rfl
theorem sem12_1 : ((cc0_scratch6.slice (Rect.unit (s := S3) ![1] S1.size inb_S3_S1_1)).squeeze S_ squeezes_S1_S_).sem = dsem 0 5 := rfl
theorem sem12_2 : ((cc0_scratch6.slice (Rect.unit (s := S3) ![2] S1.size inb_S3_S1_2)).squeeze S_ squeezes_S1_S_).sem = dsem 0 6 := rfl
theorem sem13_0 : ((cc0_scratch7.slice (Rect.unit (s := S3) ![0] S1.size inb_S3_S1_0)).squeeze S_ squeezes_S1_S_).sem = dsem 1 4 := rfl
theorem sem13_1 : ((cc0_scratch7.slice (Rect.unit (s := S3) ![1] S1.size inb_S3_S1_1)).squeeze S_ squeezes_S1_S_).sem = dsem 1 5 := rfl
theorem sem13_2 : ((cc0_scratch7.slice (Rect.unit (s := S3) ![2] S1.size inb_S3_S1_2)).squeeze S_ squeezes_S1_S_).sem = dsem 1 6 := rfl
theorem sem14_0 : ((cc0_scratch8.slice (Rect.unit (s := S3) ![0] S1.size inb_S3_S1_0)).squeeze S_ squeezes_S1_S_).sem = dsem 2 4 := rfl
theorem sem14_1 : ((cc0_scratch8.slice (Rect.unit (s := S3) ![1] S1.size inb_S3_S1_1)).squeeze S_ squeezes_S1_S_).sem = dsem 2 5 := rfl
theorem sem14_2 : ((cc0_scratch8.slice (Rect.unit (s := S3) ![2] S1.size inb_S3_S1_2)).squeeze S_ squeezes_S1_S_).sem = dsem 2 6 := rfl
theorem sem15_0 : ((cc0_scratch9.slice (Rect.unit (s := S3) ![0] S1.size inb_S3_S1_0)).squeeze S_ squeezes_S1_S_).sem = dsem 3 4 := rfl
theorem sem15_1 : ((cc0_scratch9.slice (Rect.unit (s := S3) ![1] S1.size inb_S3_S1_1)).squeeze S_ squeezes_S1_S_).sem = dsem 3 5 := rfl
theorem sem15_2 : ((cc0_scratch9.slice (Rect.unit (s := S3) ![2] S1.size inb_S3_S1_2)).squeeze S_ squeezes_S1_S_).sem = dsem 3 6 := rfl

end Cert.KernelIdeal.Ring

end
-- ==== Proof.KernelIdealStart.lean ====
/-
# The start of the body, and the shares of the slots

The meeting of the neighbours, a device's own block going into its own slot, and how the halves of
a slot are lent to a transfer and joined again.
-/
module

public import proofs.«01_k».proof.Proof.KernelIdealGroup

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

/-! ## Shares -/

/-- A slot received, split: half for the transfer that passes it on, half to read it. -/
theorem fwdQ (t t' : Hop) (h : frm t c = into t' c) (hs : shr t = fullShare.left) :
    (copyPay m 1 t' c : sProp 𝕄) ⊢ iprop(ptQ c (frm t c) (shr t) (allQ m) ∗ ptQ c (into t' c) fullShare.right (allQ m)) := by
  rw [h, hs]
  exact (halvesQ c (into t' c) (allQ m)).1
theorem backQ (t t' : Hop) (h : frm t c = into t' c) (hs : shr t = fullShare.left) :
    iprop(copyPay m 0 t c ∗ ptQ c (into t' c) fullShare.right (allQ m)) ⊢ (ptQ c (into t' c) fullShare (allQ m) : sProp 𝕄) := by
  show iprop(ptQ c (frm t c) (shr t) (allQ m) ∗ _) ⊢ _
  rw [h, hs]
  exact (halvesQ c (into t' c) (allQ m)).2
/-- A device's own slot, lent to the first transfer of either direction. -/
theorem ownQ : (ptQ c c fullShare (allQ m) : sProp 𝕄) ⊢ iprop(ptQ c (frm 0 c) (shr 0) (allQ m) ∗ ptQ c (frm 4 c) (shr 4) (allQ m)) := by
  rw [frm_0, frm_4]
  exact (halvesQ c c (allQ m)).1
theorem ownBackQ : iprop(copyPay m 0 0 c ∗ copyPay m 0 4 c) ⊢ (ptQ c c fullShare (allQ m) : sProp 𝕄) := by
  show iprop(ptQ c (frm 0 c) (shr 0) (allQ m) ∗ ptQ c (frm 4 c) (shr 4) (allQ m)) ⊢ _
  rw [frm_0, frm_4]
  exact (halvesQ c c (allQ m)).2

/-- A slot received, split: half for the transfer that passes it on, half to read it. -/
theorem fwdO (t t' : Hop) (h : frm t c = into t' c) (hs : shr t = fullShare.left) :
    (copyPay m 3 t' c : sProp 𝕄) ⊢ iprop(ptO c (frm t c) (shr t) (allO m) ∗ ptO c (into t' c) fullShare.right (allO m)) := by
  rw [h, hs]
  exact (halvesO c (into t' c) (allO m)).1
theorem backO (t t' : Hop) (h : frm t c = into t' c) (hs : shr t = fullShare.left) :
    iprop(copyPay m 2 t c ∗ ptO c (into t' c) fullShare.right (allO m)) ⊢ (ptO c (into t' c) fullShare (allO m) : sProp 𝕄) := by
  show iprop(ptO c (frm t c) (shr t) (allO m) ∗ _) ⊢ _
  rw [h, hs]
  exact (halvesO c (into t' c) (allO m)).2
/-- A device's own slot, lent to the first transfer of either direction. -/
theorem ownO : (ptO c c fullShare (allO m) : sProp 𝕄) ⊢ iprop(ptO c (frm 0 c) (shr 0) (allO m) ∗ ptO c (frm 4 c) (shr 4) (allO m)) := by
  rw [frm_0, frm_4]
  exact (halvesO c c (allO m)).1
theorem ownBackO : iprop(copyPay m 2 0 c ∗ copyPay m 2 4 c) ⊢ (ptO c c fullShare (allO m) : sProp 𝕄) := by
  show iprop(ptO c (frm 0 c) (shr 0) (allO m) ∗ ptO c (frm 4 c) (shr 4) (allO m)) ⊢ _
  rw [frm_0, frm_4]
  exact (halvesO c c (allO m)).2

/-! ## Tokens -/

/-- What a device holds from the start for transfer `t`, going and coming. -/
def tok (t : Hop) (c : Dev nD) : sProp 𝕄 :=
  iprop((dutyTok ER (cell 0 t c) 0 false ∗ dutyTok ER (cell 1 t (nb t c)) 0 false ∗ dutyTok ER (cell 2 t c) 0 false ∗ dutyTok ER (cell 3 t (nb t c)) 0 false)
    ∗ atPos ER (cell 0 t c) 0 ∅ 0 ∗ atPos ER (cell 2 t c) 0 ∅ 0 ∗ wt 1 t c ∗ wt 3 t c)

theorem tok_tx (t : Hop) (p : Dev nD) (hp : p = nb t c) :
    iprop(tok (F := F) t c ∗ landing t p) ⊢ (iprop(txQ t c ∗ txO t c ∗ wt 1 t c ∗ wt 3 t c) : sProp 𝕄) := by
  subst hp
  unfold tok landing txQ txO
  iintro ⟨⟨⟨H0, H1, H2, H3⟩, Ha, Hb, Hw, Hv⟩, Hq, Ho, Hr, Hs⟩
  isplitl [Hq Hr H0 H1 Ha]
  · isplitl [Hq]; · iexact Hq
    isplitl [Hr]; · iexact Hr
    isplitl [H0]; · iexact H0
    isplitl [H1]; · iexact H1
    iexact Ha
  isplitl [Ho Hs H2 H3 Hb]
  · isplitl [Ho]; · iexact Ho
    isplitl [Hs]; · iexact Hs
    isplitl [H2]; · iexact H2
    isplitl [H3]; · iexact H3
    iexact Hb
  isplitl [Hw]; · iexact Hw
  iexact Hv

theorem nb_rt (t : Hop) (h : t.val < 4) : rt c = nb t c := by unfold nb; rw [if_pos h]
theorem nb_lf (t : Hop) (h : ¬ t.val < 4) : lf c = nb t c := by unfold nb; rw [if_neg h]

/-! ## The first part -/

theorem part1_run {Q : (Σ' (d0 : Dev nD) (v2 : BitVec 32) (v5 : BitVec 32) (v8 : BitVec 32) (v28 : IVec S256x256 32), IVec S256x256 32) → sProp 𝕄} (f : (cc0_scratch0 : Ref sig .tc).ty.Contents (Elt F)) (g : (cc0_scratch1 : Ref sig .tc).ty.Contents (Elt F)) :
    (env m K c : sProp 𝕄) ⊢ iprop(ins m c -∗ ptQ c c fullShare f -∗ ptO c c fullShare g -∗ ow c dues
      -∗ dutyTok ER (barCell (lf c)) 0 true -∗ dutyTok ER (barCell (rt c)) 0 false
      -∗ (landing 0 c ∗ landing 1 c ∗ landing 2 c ∗ landing 3 c) -∗ (landing 4 c ∗ landing 5 c ∗ landing 6 c)
      -∗ atPos ER (barCell c) 0 ∅ 0 -∗ cred (tallyAt (barCell c) () 2)
      -∗ (ins m c -∗ ptQ c c fullShare (allQ m) -∗ ptO c c fullShare (allO m) -∗ ow c [.cp 1 0, .cp 3 0, .cp 1 4, .cp 3 4, .cp 1 1, .cp 3 1, .cp 1 5, .cp 3 5, .cp 1 2, .cp 3 2, .cp 1 6, .cp 3 6, .cp 1 3, .cp 3 3]
        -∗ semVal (barCell c) 0 -∗ (landing 4 (lf c) ∗ landing 5 (lf c) ∗ landing 6 (lf c))
        -∗ (landing 0 (rt c) ∗ landing 1 (rt c) ∗ landing 2 (rt c) ∗ landing 3 (rt c)) -∗ Q ⟨c, (Scalar.remsi (Scalar.divsi (Dev.word c) 1#32) 8#32), (Scalar.remsi (Scalar.addi (Scalar.addi (Scalar.remsi (Scalar.divsi (Dev.word c) 1#32) 8#32) 1#32) 16#32) 8#32), (Scalar.remsi (Scalar.addi (Scalar.addi (Scalar.remsi (Scalar.divsi (Dev.word c) 1#32) 8#32) 4294967295#32) 16#32) 8#32), (iota .tc S256x256 32 [0] iota_S256x256_d0_w32), (iota .tc S256x256 32 [1] iota_S256x256_d1_w32)⟩)
      -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9) Q) := by
  rw [k0_part1_eq_skeleton]
  unfold k0_part1_skel
  simp only [semSignalWord, semWaitWord, Prog.lift, Prog.bind_op, Prog.bind_ret, Prog.pure_eq_ret, wp_deviceId]
  have hb : (SemArray.scalar (sig.barrier 0 rfl) : Sems sig S_).sem = barrier0 := rfl
  simp only [dev1_to c, dev2_to c, hb]
  unfold ow
  iintro #HE HI HQ HO' ⟨%W, HO⟩ Ht1 Ht2 Hl1 Hl2 Hat Hc Hk
  ihave #HIl := (env_bar m K c (lf c)) $$ HE
  ihave #HIr := (env_bar m K c (rt c)) $$ HE
  ihave #HIc := (env_bar m K c c) $$ HE
  ihave #HRl := (env_bar_reached m K c (lf c)) $$ HE
  ihave #HRr := (env_bar_reached m K c (rt c)) $$ HE
  ihave #HL := (env_lev m K c) $$ HE
  iapply (Rounds.wp_signal 𝒱₀ ER (ringRd m) (c : Thread nD τ) none (dst := (lf c : Thread nD τ)) (sem := barrier0) (r := 0) (d := true) (κ := K (barCell (lf c)))
      (by rw [duties_bar]; exact Finset.mem_univ _) ((amount_bar m (lf c) true).trans (by decide)) () (owedL c [.br, .cp 1 0, .cp 3 0, .cp 1 4, .cp 3 4, .cp 1 1, .cp 3 1, .cp 1 5, .cp 3 5, .cp 1 2, .cp 3 2, .cp 1 6, .cp 3 6, .cp 1 3, .cp 3 3]) rfl) $$ [HO Ht1 Hl1]
  · isplitr; · iexact HIl
    isplitl [HO]; · iexact HO
    isplitl [Ht1]; · iexact Ht1
    isplitl [Hl1]
    · rw [payload_bar]; unfold barPay; rw [show rt (lf c) = c from rt_lf c]; iexact Hl1
    · iexact HRl
  iintro HO
  iapply (Rounds.wp_signal 𝒱₀ ER (ringRd m) (c : Thread nD τ) none (dst := (rt c : Thread nD τ)) (sem := barrier0) (r := 0) (d := false) (κ := K (barCell (rt c)))
      (by rw [duties_bar]; exact Finset.mem_univ _) ((amount_bar m (rt c) false).trans (by decide)) () (owedL c [.cp 1 0, .cp 3 0, .cp 1 4, .cp 3 4, .cp 1 1, .cp 3 1, .cp 1 5, .cp 3 5, .cp 1 2, .cp 3 2, .cp 1 6, .cp 3 6, .cp 1 3, .cp 3 3]) rfl) $$ [HO Ht2 Hl2]
  · isplitr; · iexact HIr
    isplitl [HO]; · iexact HO
    isplitl [Ht2]; · iexact Ht2
    isplitl [Hl2]
    · rw [payload_bar]; unfold barPay; rw [show lf (rt c) = c from lf_rt c]; iexact Hl2
    · iexact HRr
  iintro HO
  iapply (Rounds.wp_wait_rest_token 𝒱₀ ER (ringRd m) (c : Thread nD τ) none (κ := K (barCell c))
      (wpE_semWait_eq 𝒱₀ (c : Thread nD τ) none Set.univ) (Set.mem_univ _) () (O := owedL c [.cp 1 0, .cp 3 0, .cp 1 4, .cp 3 4, .cp 1 1, .cp 3 1, .cp 1 5, .cp 3 5, .cp 1 2, .cp 3 2, .cp 1 6, .cp 3 6, .cp 1 3, .cp 3 3]) (W := W) (R := 0) (m := 0) (T := ∅)
      ((Nat.zero_add _).trans (by rw [expect_bar]; decide))) $$ [Hc HO Hat]
  · isplitr; · iexact HIc
    isplitl [Hc]; · iexact Hc
    isplitl [HO]; · iexact HO
    isplitr; · iapply (mayWait c barS [.cp 1 0, .cp 3 0, .cp 1 4, .cp 3 4, .cp 1 1, .cp 3 1, .cp 1 5, .cp 3 5, .cp 1 2, .cp 3 2, .cp 1 6, .cp 3 6, .cp 1 3, .cp 3 3] (by rw [role_bar]; decide)); iexact HL
    iexact Hat
  iintro ⟨HO, Hat, -, Hpay⟩
  ihave Hp := (Entails.of_eq (rest_bar m c)) $$ Hpay
  unfold barPay
  icases Hp with ⟨Hpl, Hpr⟩
  imod (Rounds.cell_close ER (ringRd m) (Set.mem_univ (K (barCell c))) id (R := 0 + 1) (duties_later m (barCell c))) $$ [Hat] with Hz
  · isplitr; · iexact HIc
    iexact Hat
  iapply (wp_loadWq m c) $$ HI
  iintro HI
  iapply (wp_loadQ c c fullShare f _ (k0_off1_eq c)) $$ HQ
  iintro HQ
  iapply (wp_storeQ m c f _ (k0_off1_eq c) _ rfl) $$ HQ
  iintro HQ
  iapply (wp_loadWo m c) $$ HI
  iintro HI
  iapply (wp_loadO c c fullShare g _ (k0_off2_eq c)) $$ HO'
  iintro HO'
  iapply (wp_storeO m c g _ (k0_off2_eq c) _ rfl) $$ HO'
  iintro HO'
  rw [wp_ret]
  imodintro
  iapply Hk $$ HI HQ HO' [HO] Hz Hpl Hpr
  iexists _; iexact HO

end Cert.KernelIdeal.Ring

end
-- ==== Proof.KernelIdealParts1.lean ====
/-
# The body, part by part: the own block and the first neighbours

Each part of the body at a device `c`, in continuation form: from the resources it touches, and a
continuation that takes them as the part leaves them with the values the part returns.
-/
module

public import proofs.«01_k».proof.Proof.KernelIdealStart

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

theorem part2_run {Q : (IVec S256x256 1) → sProp 𝕄} (v5 : BitVec 32) (v8 : BitVec 32) (v28 : IVec S256x256 32) (v29 : IVec S256x256 32) :
    (env m K c : sProp 𝕄) ⊢ iprop(ptO c (frm 0 c) (shr 0) (allO m) -∗ ptQ c (frm 0 c) (shr 0) (allQ m) -∗ ow c [.cp 1 0, .cp 3 0, .cp 1 4, .cp 3 4, .cp 1 1, .cp 3 1, .cp 1 5, .cp 3 5, .cp 1 2, .cp 3 2, .cp 1 6, .cp 3 6, .cp 1 3, .cp 3 3] -∗ txO 0 c -∗ txQ 0 c -∗
      (ow c [.cp 1 4, .cp 3 4, .cp 1 1, .cp 3 1, .cp 1 5, .cp 3 5, .cp 1 2, .cp 3 2, .cp 1 6, .cp 3 6, .cp 1 3, .cp 3 3] -∗ wt 0 0 c -∗ wt 2 0 c -∗ Q (k0_pay3 v28 v29))
      -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v5 v8 v28 v29) Q) := by
  rw [k0_part2_eq_skeleton]
  unfold k0_part2_skel
  simp only [Prog.lift, Prog.bind_op, Prog.bind_ret, Prog.pure_eq_ret]
  iintro #HE HFO0 HFQ0 HO HTO0 HTQ0 Hk
  iapply (wp_sendQ m K c 0 [.cp 3 0, .cp 1 4, .cp 3 4, .cp 1 1, .cp 3 1, .cp 1 5, .cp 3 5, .cp 1 2, .cp 3 2, .cp 1 6, .cp 3 6, .cp 1 3, .cp 3 3] _ (dev3_to c) _ (off3_0 c) _ _ sem8_0 sem9_0) $$ HE HFQ0 HTQ0 HO
  iintro HW00 HO
  iapply (wp_sendO m K c 0 [.cp 1 4, .cp 3 4, .cp 1 1, .cp 3 1, .cp 1 5, .cp 3 5, .cp 1 2, .cp 3 2, .cp 1 6, .cp 3 6, .cp 1 3, .cp 3 3] _ (dev4_to c) _ (off4_0 c) _ _ sem10_0 sem11_0) $$ HE HFO0 HTO0 HO
  iintro HW20 HO
  rw [wp_ret]
  imodintro
  iapply Hk $$ HO HW00 HW20

theorem part3_run {Q : (Σ' (v75 : FVec F S512x256 .bf16) (v77 : FVec F S256x512 .bf16) (v83 : FVec F S256x256 .bf16) (v86 : FVec F S256x64 .bf16) (v90 : FVec F S256x64 .bf16) (v94 : FVec F S256x64 .bf16), FVec F S256x256 .f32) → sProp 𝕄} (v2 : BitVec 32) (v8 : BitVec 32) :
    (env m K c : sProp 𝕄) ⊢ iprop(ptO c (frm 4 c) (shr 4) (allO m) -∗ ptQ c (frm 4 c) (shr 4) (allQ m) -∗ ins m c -∗ ow c [.cp 1 4, .cp 3 4, .cp 1 1, .cp 3 1, .cp 1 5, .cp 3 5, .cp 1 2, .cp 3 2, .cp 1 6, .cp 3 6, .cp 1 3, .cp 3 3] -∗ txO 4 c -∗ txQ 4 c -∗
      (ins m c -∗ ow c [.cp 1 1, .cp 3 1, .cp 1 5, .cp 3 5, .cp 1 2, .cp 3 2, .cp 1 6, .cp 3 6, .cp 1 3, .cp 3 3] -∗ wt 0 4 c -∗ wt 2 4 c -∗ Q ⟨k0_pay4 (wqB m c), k0_pay5 (woB m c), k0_pay6 (wqB m c) (xS m c 0), k0_pay7 (wqB m c) (xS m c 0), k0_pay8 (kS m c 0 c 0), k0_pay9 (vS m c 0 c 0), (constant S256x256 .f32 0x00000000#32)⟩)
      -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v8) Q) := by
  rw [k0_part3_eq_skeleton]
  unfold k0_part3_skel
  simp only [Prog.lift, Prog.bind_op, Prog.bind_ret, Prog.pure_eq_ret]
  iintro #HE HFO4 HFQ4 HI HO HTO4 HTQ4 Hk
  iapply (wp_sendQ m K c 4 [.cp 3 4, .cp 1 1, .cp 3 1, .cp 1 5, .cp 3 5, .cp 1 2, .cp 3 2, .cp 1 6, .cp 3 6, .cp 1 3, .cp 3 3] _ (dev5_to c) _ (off3_4 c) _ _ sem12_0 sem13_0) $$ HE HFQ4 HTQ4 HO
  iintro HW04 HO
  iapply (wp_sendO m K c 4 [.cp 1 1, .cp 3 1, .cp 1 5, .cp 3 5, .cp 1 2, .cp 3 2, .cp 1 6, .cp 3 6, .cp 1 3, .cp 3 3] _ (dev6_to c) _ (off4_4 c) _ _ sem14_0 sem15_0) $$ HE HFO4 HTO4 HO
  iintro HW24 HO
  iapply (wp_loadWq m c) $$ HI
  iintro HI
  iapply (wp_loadWo m c) $$ HI
  iintro HI
  iapply (wp_loadX m c 0 _ rfl) $$ HI
  iintro HI
  iapply (wp_loadK m c 0 c 0 _ (off5_own c 0)) $$ HI
  iintro HI
  iapply (wp_loadV m c 0 c 0 _ (off5_own c 0)) $$ HI
  iintro HI
  rw [wp_ret]
  imodintro
  iapply Hk $$ HI HO HW04 HW24

theorem part4_run {Q : (Σ' (v109 : FVec F S256x64 .bf16) (v135 : FVec F S256x64 .bf16), BitVec 32) → sProp 𝕄} (v2 : BitVec 32) (v33 : IVec S256x256 1) (v83 : FVec F S256x256 .bf16) (v86 : FVec F S256x64 .bf16) (v90 : FVec F S256x64 .bf16) (v94 : FVec F S256x64 .bf16) (cst_63 : FVec F S256x256 .f32) :
    (ins m c : sProp 𝕄) ⊢ iprop(
      (ins m c -∗ Q ⟨k0_pay10 v33 v86 v90 v94 cst_63, k0_pay11 v33 v83 (kS m c 0 c 1) (vS m c 0 c 1), (Scalar.muli v2 4#32)⟩)
      -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v83 v86 v90 v94 cst_63) Q) := by
  rw [k0_part4_eq_skeleton]
  unfold k0_part4_skel
  simp only [Prog.lift, Prog.bind_op, Prog.bind_ret, Prog.pure_eq_ret]
  iintro HI Hk
  iapply (wp_loadK m c 0 c 1 _ (off5_own c 1)) $$ HI
  iintro HI
  iapply (wp_loadV m c 0 c 1 _ (off5_own c 1)) $$ HI
  iintro HI
  rw [wp_ret]
  imodintro
  iapply Hk $$ HI

theorem part5_run {Q : (Σ' (v161 : FVec F S256x64 .bf16) (v172 : FVec F S256x64 .bf16) (v173 : FVec F S256x256 .f32), FVec F S256x256 .f32) → sProp 𝕄} (v2 : BitVec 32) (v33 : IVec S256x256 1) (v83 : FVec F S256x256 .bf16) (v136 : BitVec 32) :
    (ins m c : sProp 𝕄) ⊢ iprop(
      (ins m c -∗ Q ⟨k0_pay12 v33 v83 (kS m c 0 c 2) (vS m c 0 c 2), k0_pay13 (vS m c 0 c 3), k0_pay14 v83 (kS m c 0 c 3), k0_pay15 (F := F)⟩)
      -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v83 v136) Q) := by
  rw [k0_part5_eq_skeleton]
  unfold k0_part5_skel
  simp only [Prog.lift, Prog.bind_op, Prog.bind_ret, Prog.pure_eq_ret]
  iintro HI Hk
  iapply (wp_loadK m c 0 c 2 _ (off5_own c 2)) $$ HI
  iintro HI
  iapply (wp_loadV m c 0 c 2 _ (off5_own c 2)) $$ HI
  iintro HI
  iapply (wp_loadK m c 0 c 3 _ (off5_own c 3)) $$ HI
  iintro HI
  iapply (wp_loadV m c 0 c 3 _ (off5_own c 3)) $$ HI
  iintro HI
  rw [wp_ret]
  imodintro
  iapply Hk $$ HI

theorem part6_run {Q : (Σ' (v198 : FVec F S256x256 .bf16) (v209 : FVec F S256x64 .bf16) (v210 : FVec F S256x256 .f32), FVec F S256x256 .f32) → sProp 𝕄} (a a' : Vec F S1x256x512 .f32) (v2 : BitVec 32) (v33 : IVec S256x256 1) (v75 : FVec F S512x256 .bf16) (v77 : FVec F S256x512 .bf16) (v109 : FVec F S256x64 .bf16) (v135 : FVec F S256x64 .bf16) (v161 : FVec F S256x64 .bf16) (v172 : FVec F S256x64 .bf16) (v173 : FVec F S256x256 .f32) (v174 : FVec F S256x256 .f32) :
    (ins m c : sProp 𝕄) ⊢ iprop(out c a a' -∗
      (ins m c -∗ out c (k0_pay16 v33 v77 v109 v135 v161 v172 v173 v174) a' -∗ Q ⟨k0_pay17 v75 (xS m c 1), k0_pay18 (vS m c 1 c 0), k0_pay19 v75 (xS m c 1) (kS m c 1 c 0), k0_pay20 (F := F)⟩)
      -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v75 v77 v109 v135 v161 v172 v173 v174) Q) := by
  rw [k0_part6_eq_skeleton]
  unfold k0_part6_skel
  simp only [Prog.lift, Prog.bind_op, Prog.bind_ret, Prog.pure_eq_ret]
  iintro HI HY Hk
  iapply (wp_loadY c 0 _ _ _ rfl) $$ HY
  iintro HY
  iapply (wp_storeY0 c _ _ _) $$ HY
  iintro HY
  iapply (wp_loadX m c 1 _ rfl) $$ HI
  iintro HI
  iapply (wp_loadK m c 1 c 0 _ (off6_own c 0)) $$ HI
  iintro HI
  iapply (wp_loadV m c 1 c 0 _ (off6_own c 0)) $$ HI
  iintro HI
  rw [wp_ret]
  imodintro
  iapply Hk $$ HI HY

theorem part7_run {Q : (Σ' (v224 : FVec F S256x64 .bf16) (v250 : FVec F S256x64 .bf16) (v252 : BitVec 32), FVec F S256x64 .bf16) → sProp 𝕄} (v2 : BitVec 32) (v33 : IVec S256x256 1) (v198 : FVec F S256x256 .bf16) (v209 : FVec F S256x64 .bf16) (v210 : FVec F S256x256 .f32) (v211 : FVec F S256x256 .f32) :
    (ins m c : sProp 𝕄) ⊢ iprop(
      (ins m c -∗ Q ⟨k0_pay21 v33 v209 v210 v211, k0_pay22 v33 v198 (kS m c 1 c 1) (vS m c 1 c 1), (Scalar.addi (Scalar.muli v2 4#32) 2#32), k0_pay23 v198⟩)
      -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v198 v209 v210 v211) Q) := by
  rw [k0_part7_eq_skeleton]
  unfold k0_part7_skel
  simp only [Prog.lift, Prog.bind_op, Prog.bind_ret, Prog.pure_eq_ret]
  iintro HI Hk
  iapply (wp_loadK m c 1 c 1 _ (off6_own c 1)) $$ HI
  iintro HI
  iapply (wp_loadV m c 1 c 1 _ (off6_own c 1)) $$ HI
  iintro HI
  rw [wp_ret]
  imodintro
  iapply Hk $$ HI

theorem part8_run {Q : (Σ' (v276 : FVec F S256x64 .bf16) (v287 : FVec F S256x64 .bf16) (v290 : FVec F S256x256 .f32), FVec F S256 .f32) → sProp 𝕄} (v2 : BitVec 32) (v33 : IVec S256x256 1) (v198 : FVec F S256x256 .bf16) (v252 : BitVec 32) (v253 : FVec F S256x64 .bf16) :
    (ins m c : sProp 𝕄) ⊢ iprop(
      (ins m c -∗ Q ⟨k0_pay24 v33 v253 (kS m c 1 c 2) (vS m c 1 c 2), k0_pay25 (vS m c 1 c 3), k0_pay26 v33 v198 (kS m c 1 c 3), k0_pay27 v33 v198 (kS m c 1 c 3)⟩)
      -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v198 v252 v253) Q) := by
  rw [k0_part8_eq_skeleton]
  unfold k0_part8_skel
  simp only [Prog.lift, Prog.bind_op, Prog.bind_ret, Prog.pure_eq_ret]
  iintro HI Hk
  iapply (wp_loadK m c 1 c 2 _ (off6_own c 2)) $$ HI
  iintro HI
  iapply (wp_loadV m c 1 c 2 _ (off6_own c 2)) $$ HI
  iintro HI
  iapply (wp_loadK m c 1 c 3 _ (off6_own c 3)) $$ HI
  iintro HI
  iapply (wp_loadV m c 1 c 3 _ (off6_own c 3)) $$ HI
  iintro HI
  rw [wp_ret]
  imodintro
  iapply Hk $$ HI

theorem part9_run {Q : (BitVec 32) → sProp 𝕄} (a a' : Vec F S1x256x512 .f32) (v2 : BitVec 32) (v77 : FVec F S256x512 .bf16) (v224 : FVec F S256x64 .bf16) (v250 : FVec F S256x64 .bf16) (v276 : FVec F S256x64 .bf16) (v287 : FVec F S256x64 .bf16) (v290 : FVec F S256x256 .f32) (v291 : FVec F S256 .f32) :
    (env m K c : sProp 𝕄) ⊢ iprop(ow c [.cp 1 1, .cp 3 1, .cp 1 5, .cp 3 5, .cp 1 2, .cp 3 2, .cp 1 6, .cp 3 6, .cp 1 3, .cp 3 3] -∗ wt 1 0 c -∗ out c a a' -∗
      (ow c [.cp 1 1, .cp 3 1, .cp 1 5, .cp 3 5, .cp 1 2, .cp 3 2, .cp 1 6, .cp 3 6, .cp 1 3, .cp 3 3] -∗ copyPay m 1 0 c -∗ out c a (k0_pay28 v77 v224 v250 v276 v287 v290 v291) -∗ semVal (cell 1 0 c) 0 -∗ Q (Scalar.remsi (Scalar.addi (Scalar.addi v2 4294967295#32) 16#32) 8#32))
      -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 v2 v77 v224 v250 v276 v287 v290 v291) Q) := by
  rw [k0_part9_eq_skeleton]
  unfold k0_part9_skel
  simp only [Prog.lift, Prog.bind_op, Prog.bind_ret, Prog.pure_eq_ret]
  iintro #HE HO HW10 HY Hk
  iapply (wp_loadY c 1 _ _ _ rfl) $$ HY
  iintro HY
  iapply (wp_storeY1 c _ _ _) $$ HY
  iintro HY
  iapply (wp_waitQ m K c 1 (.inr rfl) 0 [.cp 1 1, .cp 3 1, .cp 1 5, .cp 3 5, .cp 1 2, .cp 3 2, .cp 1 6, .cp 3 6, .cp 1 3, .cp 3 3] _ sem9_0 (by decide)) $$ HE HW10 HO
  iintro HZ10 HP10 HO
  rw [wp_ret]
  imodintro
  iapply Hk $$ HO HP10 HY HZ10

theorem part10_run {Q : (BitVec 32) → sProp 𝕄} (v2 : BitVec 32) (v5 : BitVec 32) :
    (env m K c : sProp 𝕄) ⊢ iprop(ptQ c (frm 1 c) (shr 1) (allQ m) -∗ ow c [.cp 1 1, .cp 3 1, .cp 1 5, .cp 3 5, .cp 1 2, .cp 3 2, .cp 1 6, .cp 3 6, .cp 1 3, .cp 3 3] -∗ txO 1 c -∗ txQ 1 c -∗ wt 3 0 c -∗
      (ow c [.cp 1 5, .cp 3 5, .cp 1 2, .cp 3 2, .cp 1 6, .cp 3 6, .cp 1 3, .cp 3 3] -∗ ptO c (into 0 c) fullShare.right (allO m) -∗ wt 0 1 c -∗ wt 2 1 c -∗ semVal (cell 3 0 c) 0 -∗ Q (Scalar.remsi (Scalar.addi (Scalar.addi v2 1#32) 16#32) 8#32))
      -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v5) Q) := by
  rw [k0_part10_eq_skeleton]
  unfold k0_part10_skel
  simp only [Prog.lift, Prog.bind_op, Prog.bind_ret, Prog.pure_eq_ret]
  iintro #HE HFQ1 HO HTO1 HTQ1 HW30 Hk
  iapply (wp_waitO m K c 3 (.inr rfl) 0 [.cp 1 1, .cp 3 1, .cp 1 5, .cp 3 5, .cp 1 2, .cp 3 2, .cp 1 6, .cp 3 6, .cp 1 3, .cp 3 3] _ sem11_0 (by decide)) $$ HE HW30 HO
  iintro HZ30 HP30 HO
  iapply (wp_sendQ m K c 1 [.cp 3 1, .cp 1 5, .cp 3 5, .cp 1 2, .cp 3 2, .cp 1 6, .cp 3 6, .cp 1 3, .cp 3 3] _ (dev7_to c) _ (off7_l1 c) _ _ sem8_1 sem9_1) $$ HE HFQ1 HTQ1 HO
  iintro HW01 HO
  ihave HX := (fwdO m c 1 0 (frm_1 c) rfl) $$ HP30
  icases HX with ⟨HFO1, HSO0⟩
  iapply (wp_sendO m K c 1 [.cp 1 5, .cp 3 5, .cp 1 2, .cp 3 2, .cp 1 6, .cp 3 6, .cp 1 3, .cp 3 3] _ (dev8_to c) _ (off8_l1 c) _ _ sem10_1 sem11_1) $$ HE HFO1 HTO1 HO
  iintro HW21 HO
  rw [wp_ret]
  imodintro
  iapply Hk $$ HO HSO0 HW01 HW21 HZ30

theorem part11_run {Q : (PUnit) → sProp 𝕄} (v2 : BitVec 32) (v8 : BitVec 32) :
    (env m K c : sProp 𝕄) ⊢ iprop(ow c [.cp 1 5, .cp 3 5, .cp 1 2, .cp 3 2, .cp 1 6, .cp 3 6, .cp 1 3, .cp 3 3] -∗ txQ 5 c -∗ wt 1 4 c -∗ wt 3 4 c -∗
      (ow c [.cp 3 5, .cp 1 2, .cp 3 2, .cp 1 6, .cp 3 6, .cp 1 3, .cp 3 3] -∗ copyPay m 3 4 c -∗ ptQ c (into 4 c) fullShare.right (allQ m) -∗ wt 0 5 c -∗ semVal (cell 1 4 c) 0 -∗ semVal (cell 3 4 c) 0 -∗ Q ⟨⟩)
      -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v8) Q) := by
  rw [k0_part11_eq_skeleton]
  unfold k0_part11_skel
  simp only [Prog.lift, Prog.bind_op, Prog.bind_ret, Prog.pure_eq_ret]
  iintro #HE HO HTQ5 HW14 HW34 Hk
  iapply (wp_waitQ m K c 1 (.inr rfl) 4 [.cp 1 5, .cp 3 5, .cp 1 2, .cp 3 2, .cp 1 6, .cp 3 6, .cp 1 3, .cp 3 3] _ sem13_0 (by decide)) $$ HE HW14 HO
  iintro HZ14 HP14 HO
  iapply (wp_waitO m K c 3 (.inr rfl) 4 [.cp 1 5, .cp 3 5, .cp 1 2, .cp 3 2, .cp 1 6, .cp 3 6, .cp 1 3, .cp 3 3] _ sem15_0 (by decide)) $$ HE HW34 HO
  iintro HZ34 HP34 HO
  ihave HX := (fwdQ m c 5 4 (frm_5 c) rfl) $$ HP14
  icases HX with ⟨HFQ5, HSQ4⟩
  iapply (wp_sendQ m K c 5 [.cp 3 5, .cp 1 2, .cp 3 2, .cp 1 6, .cp 3 6, .cp 1 3, .cp 3 3] _ (dev9_to c) _ (off7_r1 c) _ _ sem12_1 sem13_1) $$ HE HFQ5 HTQ5 HO
  iintro HW05 HO
  rw [wp_ret]
  imodintro
  iapply Hk $$ HO HP34 HSQ4 HW05 HZ14 HZ34

theorem part12_run {Q : (Σ' (v388 : FVec F S512x256 .bf16) (v391 : FVec F S256x512 .bf16) (v397 : FVec F S256x256 .bf16) (v408 : FVec F S256x64 .bf16) (v416 : FVec F S256x256 .f32), FVec F S256 .f32) → sProp 𝕄} (q : PosShare TreeShare) (v33 : IVec S256x256 1) (v310 : BitVec 32) :
    (env m K c : sProp 𝕄) ⊢ iprop(ptO c (frm 5 c) (shr 5) (allO m) -∗ ins m c -∗ ow c [.cp 3 5, .cp 1 2, .cp 3 2, .cp 1 6, .cp 3 6, .cp 1 3, .cp 3 3] -∗ ptO c (into 0 c) q (allO m) -∗ ptQ c (into 0 c) q (allQ m) -∗ txO 5 c -∗
      (ins m c -∗ ow c [.cp 1 2, .cp 3 2, .cp 1 6, .cp 3 6, .cp 1 3, .cp 3 3] -∗ ptO c (into 0 c) q (allO m) -∗ ptQ c (into 0 c) q (allQ m) -∗ wt 2 5 c -∗ Q ⟨k0_pay29 (wqS m (into 0 c)), k0_pay30 (woS m (into 0 c)), k0_pay31 (wqS m (into 0 c)) (xS m c 0), k0_pay32 (vS m c 0 (into 0 c) 0), k0_pay33 v33 (wqS m (into 0 c)) (xS m c 0) (kS m c 0 (into 0 c) 0), k0_pay34 v33 (wqS m (into 0 c)) (xS m c 0) (kS m c 0 (into 0 c) 0)⟩)
      -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v310) Q) := by
  rw [k0_part12_eq_skeleton]
  unfold k0_part12_skel
  simp only [Prog.lift, Prog.bind_op, Prog.bind_ret, Prog.pure_eq_ret]
  iintro #HE HFO5 HI HO HSO0 HSQ0 HTO5 Hk
  iapply (wp_sendO m K c 5 [.cp 1 2, .cp 3 2, .cp 1 6, .cp 3 6, .cp 1 3, .cp 3 3] _ (dev10_to c) _ (off8_r1 c) _ _ sem14_1 sem15_1) $$ HE HFO5 HTO5 HO
  iintro HW25 HO
  iapply (wp_loadQ c (into 0 c) _ (allQ m) _ (off9_l1 c)) $$ HSQ0
  rw [readQ m (into 0 c)]
  iintro HSQ0
  iapply (wp_loadO c (into 0 c) _ (allO m) _ (off10_l1 c)) $$ HSO0
  rw [readO m (into 0 c)]
  iintro HSO0
  iapply (wp_loadX m c 0 _ rfl) $$ HI
  iintro HI
  iapply (wp_loadK m c 0 (into 0 c) 0 _ (off11_l1 c 0)) $$ HI
  iintro HI
  iapply (wp_loadV m c 0 (into 0 c) 0 _ (off11_l1 c 0)) $$ HI
  iintro HI
  rw [wp_ret]
  imodintro
  iapply Hk $$ HI HO HSO0 HSQ0 HW25

theorem part13_run {Q : (Σ' (v423 : FVec F S256x64 .bf16) (v449 : FVec F S256x64 .bf16) (v452 : FVec F S256x64 .bf16), FVec F S256x64 .bf16) → sProp 𝕄} (v33 : IVec S256x256 1) (v310 : BitVec 32) (v397 : FVec F S256x256 .bf16) (v408 : FVec F S256x64 .bf16) (v416 : FVec F S256x256 .f32) (v417 : FVec F S256 .f32) :
    (ins m c : sProp 𝕄) ⊢ iprop(
      (ins m c -∗ Q ⟨k0_pay35 v408 v416 v417, k0_pay36 v33 v397 (kS m c 0 (into 0 c) 1) (vS m c 0 (into 0 c) 1), k0_pay37 v397, k0_pay38 (kS m c 0 (into 0 c) 2)⟩)
      -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v310 v397 v408 v416 v417) Q) := by
  rw [k0_part13_eq_skeleton]
  unfold k0_part13_skel
  simp only [Prog.lift, Prog.bind_op, Prog.bind_ret, Prog.pure_eq_ret]
  iintro HI Hk
  iapply (wp_loadK m c 0 (into 0 c) 1 _ (off11_l1 c 1)) $$ HI
  iintro HI
  iapply (wp_loadV m c 0 (into 0 c) 1 _ (off11_l1 c 1)) $$ HI
  iintro HI
  iapply (wp_loadK m c 0 (into 0 c) 2 _ (off11_l1 c 2)) $$ HI
  iintro HI
  rw [wp_ret]
  imodintro
  iapply Hk $$ HI

theorem part14_run {Q : (Σ' (v475 : FVec F S256x64 .bf16) (v486 : FVec F S256x64 .bf16), FVec F S256x256 .f32) → sProp 𝕄} (v33 : IVec S256x256 1) (v310 : BitVec 32) (v397 : FVec F S256x256 .bf16) (v452 : FVec F S256x64 .bf16) (v456 : FVec F S256x64 .bf16) :
    (ins m c : sProp 𝕄) ⊢ iprop(
      (ins m c -∗ Q ⟨k0_pay39 v33 v452 v456 (vS m c 0 (into 0 c) 2), k0_pay40 (vS m c 0 (into 0 c) 3), k0_pay41 v33 v397 (kS m c 0 (into 0 c) 3)⟩)
      -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v310 v397 v452 v456) Q) := by
  rw [k0_part14_eq_skeleton]
  unfold k0_part14_skel
  simp only [Prog.lift, Prog.bind_op, Prog.bind_ret, Prog.pure_eq_ret]
  iintro HI Hk
  iapply (wp_loadV m c 0 (into 0 c) 2 _ (off11_l1 c 2)) $$ HI
  iintro HI
  iapply (wp_loadK m c 0 (into 0 c) 3 _ (off11_l1 c 3)) $$ HI
  iintro HI
  iapply (wp_loadV m c 0 (into 0 c) 3 _ (off11_l1 c 3)) $$ HI
  iintro HI
  rw [wp_ret]
  imodintro
  iapply Hk $$ HI

theorem part15_run {Q : (Σ' (v515 : FVec F S256x256 .bf16) (v526 : FVec F S256x64 .bf16), FVec F S256x256 .f32) → sProp 𝕄} (a a' : Vec F S1x256x512 .f32) (v33 : IVec S256x256 1) (v310 : BitVec 32) (v388 : FVec F S512x256 .bf16) (v391 : FVec F S256x512 .bf16) (v423 : FVec F S256x64 .bf16) (v449 : FVec F S256x64 .bf16) (v475 : FVec F S256x64 .bf16) (v486 : FVec F S256x64 .bf16) (v498 : FVec F S256x256 .f32) :
    (ins m c : sProp 𝕄) ⊢ iprop(out c a a' -∗
      (ins m c -∗ out c (k0_pay42 v391 v423 v449 v475 v486 v498 a) a' -∗ Q ⟨k0_pay43 v388 (xS m c 1), k0_pay44 (vS m c 1 (into 0 c) 0), k0_pay45 v33 v388 (xS m c 1) (kS m c 1 (into 0 c) 0)⟩)
      -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v310 v388 v391 v423 v449 v475 v486 v498) Q) := by
  rw [k0_part15_eq_skeleton]
  unfold k0_part15_skel
  simp only [Prog.lift, Prog.bind_op, Prog.bind_ret, Prog.pure_eq_ret]
  iintro HI HY Hk
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  iapply (wp_loadK m c 1 (into 0 c) 0 _ (off12_l1 c 0)) $$ HI
  iintro HI
  iapply (wp_loadV m c 1 (into 0 c) 0 _ (off12_l1 c 0)) $$ HI
  iintro HI
  rw [wp_ret]
  imodintro
  iapply Hk $$ HI HY

theorem part16_run {Q : (Σ' (v541 : FVec F S256x64 .bf16) (v567 : FVec F S256x64 .bf16) (v569 : BitVec 32) (v570 : FVec F S256x64 .bf16), FVec F S1x256x64 .bf16) → sProp 𝕄} (v33 : IVec S256x256 1) (v310 : BitVec 32) (v515 : FVec F S256x256 .bf16) (v526 : FVec F S256x64 .bf16) (v533 : FVec F S256x256 .f32) :
    (ins m c : sProp 𝕄) ⊢ iprop(
      (ins m c -∗ Q ⟨k0_pay46 v526 v533, k0_pay47 v33 v515 (kS m c 1 (into 0 c) 1) (vS m c 1 (into 0 c) 1), (Scalar.addi (Scalar.muli v310 4#32) 2#32), k0_pay48 v515, k0_pay49 (kS m c 1 (into 0 c) 2)⟩)
      -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v310 v515 v526 v533) Q) := by
  rw [k0_part16_eq_skeleton]
  unfold k0_part16_skel
  simp only [Prog.lift, Prog.bind_op, Prog.bind_ret, Prog.pure_eq_ret]
  iintro HI Hk
  iapply (wp_loadK m c 1 (into 0 c) 1 _ (off12_l1 c 1)) $$ HI
  iintro HI
  iapply (wp_loadV m c 1 (into 0 c) 1 _ (off12_l1 c 1)) $$ HI
  iintro HI
  iapply (wp_loadK m c 1 (into 0 c) 2 _ (off12_l1 c 2)) $$ HI
  iintro HI
  rw [wp_ret]
  imodintro
  iapply Hk $$ HI

theorem part17_run {Q : (Σ' (v593 : FVec F S256x64 .bf16) (v604 : FVec F S256x64 .bf16) (v612 : FVec F S256x256 .f32), FVec F S256 .f32) → sProp 𝕄} (v33 : IVec S256x256 1) (v310 : BitVec 32) (v515 : FVec F S256x256 .bf16) (v569 : BitVec 32) (v570 : FVec F S256x64 .bf16) (v573 : FVec F S1x256x64 .bf16) :
    (ins m c : sProp 𝕄) ⊢ iprop(
      (ins m c -∗ Q ⟨k0_pay50 v33 v570 v573 (vS m c 1 (into 0 c) 2), k0_pay51 (vS m c 1 (into 0 c) 3), k0_pay52 v33 v515 (kS m c 1 (into 0 c) 3), k0_pay53 v33 v515 (kS m c 1 (into 0 c) 3)⟩)
      -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v310 v515 v569 v570 v573) Q) := by
  rw [k0_part17_eq_skeleton]
  unfold k0_part17_skel
  simp only [Prog.lift, Prog.bind_op, Prog.bind_ret, Prog.pure_eq_ret]
  iintro HI Hk
  iapply (wp_loadV m c 1 (into 0 c) 2 _ (off12_l1 c 2)) $$ HI
  iintro HI
  iapply (wp_loadK m c 1 (into 0 c) 3 _ (off12_l1 c 3)) $$ HI
  iintro HI
  iapply (wp_loadV m c 1 (into 0 c) 3 _ (off12_l1 c 3)) $$ HI
  iintro HI
  rw [wp_ret]
  imodintro
  iapply Hk $$ HI

end Cert.KernelIdeal.Ring

end
-- ==== Proof.KernelIdealParts2.lean ====
/-
# The body, part by part: one step away

Each part of the body at a device `c`, in continuation form: from the resources it touches, and a
continuation that takes them as the part leaves them with the values the part returns.
-/
module

public import proofs.«01_k».proof.Proof.KernelIdealStart

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

theorem part18_run {Q : (Σ' (v630 : FVec F S512x256 .bf16) (v633 : FVec F S256x512 .bf16) (v639 : FVec F S256x256 .bf16) (v642 : FVec F S256x64 .bf16), FVec F S256x64 .bf16) → sProp 𝕄} (a a' : Vec F S1x256x512 .f32) (q : PosShare TreeShare) (v349 : BitVec 32) (v391 : FVec F S256x512 .bf16) (v541 : FVec F S256x64 .bf16) (v567 : FVec F S256x64 .bf16) (v593 : FVec F S256x64 .bf16) (v604 : FVec F S256x64 .bf16) (v612 : FVec F S256x256 .f32) (v613 : FVec F S256 .f32) :
    (ins m c : sProp 𝕄) ⊢ iprop(ptO c (into 4 c) q (allO m) -∗ ptQ c (into 4 c) q (allQ m) -∗ out c a a' -∗
      (ins m c -∗ ptO c (into 4 c) q (allO m) -∗ ptQ c (into 4 c) q (allQ m) -∗ out c a (k0_pay54 v391 v541 v567 v593 v604 v612 v613 a') -∗ Q ⟨k0_pay55 (wqS m (into 4 c)), k0_pay56 (woS m (into 4 c)), k0_pay57 (wqS m (into 4 c)) (xS m c 0), k0_pay58 (wqS m (into 4 c)) (xS m c 0), k0_pay59 (kS m c 0 (into 4 c) 0)⟩)
      -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v349 v391 v541 v567 v593 v604 v612 v613) Q) := by
  rw [k0_part18_eq_skeleton]
  unfold k0_part18_skel
  simp only [Prog.lift, Prog.bind_op, Prog.bind_ret, Prog.pure_eq_ret]
  iintro HI HSO4 HSQ4 HY Hk
  iapply (wp_loadY c 1 _ _ _ rfl) $$ HY
  rw [pick1]
  iintro HY
  iapply (wp_loadY c 1 _ _ _ rfl) $$ HY
  iintro HY
  iapply (wp_storeY1 c _ _ _) $$ HY
  iintro HY
  iapply (wp_loadQ c (into 4 c) _ (allQ m) _ (off9_r1 c)) $$ HSQ4
  rw [readQ m (into 4 c)]
  iintro HSQ4
  iapply (wp_loadO c (into 4 c) _ (allO m) _ (off10_r1 c)) $$ HSO4
  rw [readO m (into 4 c)]
  iintro HSO4
  iapply (wp_loadX m c 0 _ rfl) $$ HI
  iintro HI
  iapply (wp_loadK m c 0 (into 4 c) 0 _ (off11_r1 c 0)) $$ HI
  iintro HI
  rw [wp_ret]
  imodintro
  iapply Hk $$ HI HSO4 HSQ4 HY

theorem part19_run {Q : (Σ' (v665 : FVec F S256x64 .bf16) (v676 : FVec F S256x64 .bf16) (v689 : FVec F S256x256 .bf16), FVec F S256x64 .f32) → sProp 𝕄} (v33 : IVec S256x256 1) (v349 : BitVec 32) (v639 : FVec F S256x256 .bf16) (v642 : FVec F S256x64 .bf16) (v646 : FVec F S256x64 .bf16) :
    (ins m c : sProp 𝕄) ⊢ iprop(
      (ins m c -∗ Q ⟨k0_pay60 v33 v642 v646 (vS m c 0 (into 4 c) 0), k0_pay61 (vS m c 0 (into 4 c) 1), k0_pay62 v33 v639 (kS m c 0 (into 4 c) 1), (constant S256x64 .f32 0x00000000#32)⟩)
      -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v349 v639 v642 v646) Q) := by
  rw [k0_part19_eq_skeleton]
  unfold k0_part19_skel
  simp only [Prog.lift, Prog.bind_op, Prog.bind_ret, Prog.pure_eq_ret]
  iintro HI Hk
  iapply (wp_loadV m c 0 (into 4 c) 0 _ (off11_r1 c 0)) $$ HI
  iintro HI
  iapply (wp_loadK m c 0 (into 4 c) 1 _ (off11_r1 c 1)) $$ HI
  iintro HI
  iapply (wp_loadV m c 0 (into 4 c) 1 _ (off11_r1 c 1)) $$ HI
  iintro HI
  rw [wp_ret]
  imodintro
  iapply Hk $$ HI

theorem part20_run {Q : (Σ' (v691 : FVec F S256x64 .bf16) (v717 : FVec F S256x64 .bf16) (v720 : FVec F S256x64 .bf16) (v724 : FVec F S256x64 .bf16), FVec F S256x64 .bf16) → sProp 𝕄} (v33 : IVec S256x256 1) (v349 : BitVec 32) (v639 : FVec F S256x256 .bf16) (v676 : FVec F S256x64 .bf16) (v689 : FVec F S256x256 .bf16) (cst_414 : FVec F S256x64 .f32) :
    (ins m c : sProp 𝕄) ⊢ iprop(
      (ins m c -∗ Q ⟨k0_pay63 v676 v689 cst_414, k0_pay64 v33 v639 (kS m c 0 (into 4 c) 2) (vS m c 0 (into 4 c) 2), k0_pay65 v639, k0_pay66 (kS m c 0 (into 4 c) 3), k0_pay67 (vS m c 0 (into 4 c) 3)⟩)
      -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v349 v639 v676 v689 cst_414) Q) := by
  rw [k0_part20_eq_skeleton]
  unfold k0_part20_skel
  simp only [Prog.lift, Prog.bind_op, Prog.bind_ret, Prog.pure_eq_ret]
  iintro HI Hk
  iapply (wp_loadK m c 0 (into 4 c) 2 _ (off11_r1 c 2)) $$ HI
  iintro HI
  iapply (wp_loadV m c 0 (into 4 c) 2 _ (off11_r1 c 2)) $$ HI
  iintro HI
  iapply (wp_loadK m c 0 (into 4 c) 3 _ (off11_r1 c 3)) $$ HI
  iintro HI
  iapply (wp_loadV m c 0 (into 4 c) 3 _ (off11_r1 c 3)) $$ HI
  iintro HI
  rw [wp_ret]
  imodintro
  iapply Hk $$ HI

theorem part21_run {Q : (Σ' (v757 : FVec F S256x256 .bf16) (v759 : BitVec 32) (v760 : FVec F S256x64 .bf16), FVec F S256x64 .bf16) → sProp 𝕄} (a a' : Vec F S1x256x512 .f32) (v33 : IVec S256x256 1) (v349 : BitVec 32) (v630 : FVec F S512x256 .bf16) (v633 : FVec F S256x512 .bf16) (v665 : FVec F S256x64 .bf16) (v691 : FVec F S256x64 .bf16) (v717 : FVec F S256x64 .bf16) (v720 : FVec F S256x64 .bf16) (v724 : FVec F S256x64 .bf16) (v728 : FVec F S256x64 .bf16) :
    (ins m c : sProp 𝕄) ⊢ iprop(out c a a' -∗
      (ins m c -∗ out c (k0_pay68 v33 v633 v665 v691 v717 v720 v724 v728 a) a' -∗ Q ⟨k0_pay69 v630 (xS m c 1), (Scalar.addi (Scalar.muli v349 4#32) 0#32), k0_pay70 v630 (xS m c 1), k0_pay71 (kS m c 1 (into 4 c) 0)⟩)
      -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v349 v630 v633 v665 v691 v717 v720 v724 v728) Q) := by
  rw [k0_part21_eq_skeleton]
  unfold k0_part21_skel
  simp only [Prog.lift, Prog.bind_op, Prog.bind_ret, Prog.pure_eq_ret]
  iintro HI HY Hk
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  iapply (wp_loadK m c 1 (into 4 c) 0 _ (off12_r1 c 0)) $$ HI
  iintro HI
  rw [wp_ret]
  imodintro
  iapply Hk $$ HI HY

theorem part22_run {Q : (Σ' (v783 : FVec F S256x64 .bf16) (v794 : FVec F S256x64 .bf16) (v802 : FVec F S256x256 .f32), FVec F S256x256 .f32) → sProp 𝕄} (v33 : IVec S256x256 1) (v349 : BitVec 32) (v757 : FVec F S256x256 .bf16) (v759 : BitVec 32) (v760 : FVec F S256x64 .bf16) (v764 : FVec F S256x64 .bf16) :
    (ins m c : sProp 𝕄) ⊢ iprop(
      (ins m c -∗ Q ⟨k0_pay72 v33 v760 v764 (vS m c 1 (into 4 c) 0), k0_pay73 (vS m c 1 (into 4 c) 1), k0_pay74 v33 v757 (kS m c 1 (into 4 c) 1), k0_pay75 v33 v757 (kS m c 1 (into 4 c) 1)⟩)
      -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v349 v757 v759 v760 v764) Q) := by
  rw [k0_part22_eq_skeleton]
  unfold k0_part22_skel
  simp only [Prog.lift, Prog.bind_op, Prog.bind_ret, Prog.pure_eq_ret]
  iintro HI Hk
  iapply (wp_loadV m c 1 (into 4 c) 0 _ (off12_r1 c 0)) $$ HI
  iintro HI
  iapply (wp_loadK m c 1 (into 4 c) 1 _ (off12_r1 c 1)) $$ HI
  iintro HI
  iapply (wp_loadV m c 1 (into 4 c) 1 _ (off12_r1 c 1)) $$ HI
  iintro HI
  rw [wp_ret]
  imodintro
  iapply Hk $$ HI

theorem part23_run {Q : (Σ' (v809 : FVec F S256x64 .bf16) (v835 : FVec F S256x64 .bf16) (v838 : FVec F S256x64 .bf16), FVec F S256x64 .bf16) → sProp 𝕄} (v33 : IVec S256x256 1) (v349 : BitVec 32) (v757 : FVec F S256x256 .bf16) (v794 : FVec F S256x64 .bf16) (v802 : FVec F S256x256 .f32) (v805 : FVec F S256x256 .f32) :
    (ins m c : sProp 𝕄) ⊢ iprop(
      (ins m c -∗ Q ⟨k0_pay76 v794 v802 v805, k0_pay77 v33 v757 (kS m c 1 (into 4 c) 2) (vS m c 1 (into 4 c) 2), k0_pay78 v757, k0_pay79 (kS m c 1 (into 4 c) 3)⟩)
      -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v349 v757 v794 v802 v805) Q) := by
  rw [k0_part23_eq_skeleton]
  unfold k0_part23_skel
  simp only [Prog.lift, Prog.bind_op, Prog.bind_ret, Prog.pure_eq_ret]
  iintro HI Hk
  iapply (wp_loadK m c 1 (into 4 c) 2 _ (off12_r1 c 2)) $$ HI
  iintro HI
  iapply (wp_loadV m c 1 (into 4 c) 2 _ (off12_r1 c 2)) $$ HI
  iintro HI
  iapply (wp_loadK m c 1 (into 4 c) 3 _ (off12_r1 c 3)) $$ HI
  iintro HI
  rw [wp_ret]
  imodintro
  iapply Hk $$ HI

theorem part24_run {Q : (BitVec 32) → sProp 𝕄} (a a' : Vec F S1x256x512 .f32) (v2 : BitVec 32) (v33 : IVec S256x256 1) (v633 : FVec F S256x512 .bf16) (v783 : FVec F S256x64 .bf16) (v809 : FVec F S256x64 .bf16) (v835 : FVec F S256x64 .bf16) (v838 : FVec F S256x64 .bf16) (v842 : FVec F S256x64 .bf16) :
    (ins m c : sProp 𝕄) ⊢ iprop(out c a a' -∗
      (ins m c -∗ out c a (k0_pay80 v33 v633 v783 v809 v835 v838 v842 (vS m c 1 (into 4 c) 3) a') -∗ Q (Scalar.remsi (Scalar.addi (Scalar.addi v2 4294967294#32) 16#32) 8#32))
      -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v633 v783 v809 v835 v838 v842) Q) := by
  rw [k0_part24_eq_skeleton]
  unfold k0_part24_skel
  simp only [Prog.lift, Prog.bind_op, Prog.bind_ret, Prog.pure_eq_ret]
  iintro HI HY Hk
  iapply (wp_loadV m c 1 (into 4 c) 3 _ (off12_r1 c 3)) $$ HI
  iintro HI
  iapply (wp_loadY c 1 _ _ _ rfl) $$ HY
  rw [pick1]
  iintro HY
  iapply (wp_loadY c 1 _ _ _ rfl) $$ HY
  iintro HY
  iapply (wp_storeY1 c _ _ _) $$ HY
  iintro HY
  rw [wp_ret]
  imodintro
  iapply Hk $$ HI HY

theorem part25_run {Q : (PUnit) → sProp 𝕄} (v2 : BitVec 32) (v5 : BitVec 32) :
    (env m K c : sProp 𝕄) ⊢ iprop(ow c [.cp 1 2, .cp 3 2, .cp 1 6, .cp 3 6, .cp 1 3, .cp 3 3] -∗ txQ 2 c -∗ wt 1 1 c -∗ wt 3 1 c -∗
      (ow c [.cp 3 2, .cp 1 6, .cp 3 6, .cp 1 3, .cp 3 3] -∗ copyPay m 3 1 c -∗ ptQ c (into 1 c) fullShare.right (allQ m) -∗ wt 0 2 c -∗ semVal (cell 1 1 c) 0 -∗ semVal (cell 3 1 c) 0 -∗ Q ⟨⟩)
      -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v5) Q) := by
  rw [k0_part25_eq_skeleton]
  unfold k0_part25_skel
  simp only [Prog.lift, Prog.bind_op, Prog.bind_ret, Prog.pure_eq_ret]
  iintro #HE HO HTQ2 HW11 HW31 Hk
  iapply (wp_waitQ m K c 1 (.inr rfl) 1 [.cp 1 2, .cp 3 2, .cp 1 6, .cp 3 6, .cp 1 3, .cp 3 3] _ sem9_1 (by decide)) $$ HE HW11 HO
  iintro HZ11 HP11 HO
  iapply (wp_waitO m K c 3 (.inr rfl) 1 [.cp 1 2, .cp 3 2, .cp 1 6, .cp 3 6, .cp 1 3, .cp 3 3] _ sem11_1 (by decide)) $$ HE HW31 HO
  iintro HZ31 HP31 HO
  ihave HX := (fwdQ m c 2 1 (frm_2 c) rfl) $$ HP11
  icases HX with ⟨HFQ2, HSQ1⟩
  iapply (wp_sendQ m K c 2 [.cp 3 2, .cp 1 6, .cp 3 6, .cp 1 3, .cp 3 3] _ (dev11_to c) _ (off7_l2 c) _ _ sem8_2 sem9_2) $$ HE HFQ2 HTQ2 HO
  iintro HW02 HO
  rw [wp_ret]
  imodintro
  iapply Hk $$ HO HP31 HSQ1 HW02 HZ11 HZ31

theorem part26_run {Q : (BitVec 32) → sProp 𝕄} (v2 : BitVec 32) (v8 : BitVec 32) :
    (env m K c : sProp 𝕄) ⊢ iprop(ptO c (frm 2 c) (shr 2) (allO m) -∗ ow c [.cp 3 2, .cp 1 6, .cp 3 6, .cp 1 3, .cp 3 3] -∗ txO 2 c -∗ wt 1 5 c -∗ wt 3 5 c -∗
      (ow c [.cp 1 6, .cp 3 6, .cp 1 3, .cp 3 3] -∗ copyPay m 1 5 c -∗ copyPay m 3 5 c -∗ wt 2 2 c -∗ semVal (cell 1 5 c) 0 -∗ semVal (cell 3 5 c) 0 -∗ Q (Scalar.remsi (Scalar.addi (Scalar.addi v2 2#32) 16#32) 8#32))
      -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v8) Q) := by
  rw [k0_part26_eq_skeleton]
  unfold k0_part26_skel
  simp only [Prog.lift, Prog.bind_op, Prog.bind_ret, Prog.pure_eq_ret]
  iintro #HE HFO2 HO HTO2 HW15 HW35 Hk
  iapply (wp_sendO m K c 2 [.cp 1 6, .cp 3 6, .cp 1 3, .cp 3 3] _ (dev12_to c) _ (off8_l2 c) _ _ sem10_2 sem11_2) $$ HE HFO2 HTO2 HO
  iintro HW22 HO
  iapply (wp_waitQ m K c 1 (.inr rfl) 5 [.cp 1 6, .cp 3 6, .cp 1 3, .cp 3 3] _ sem13_1 (by decide)) $$ HE HW15 HO
  iintro HZ15 HP15 HO
  iapply (wp_waitO m K c 3 (.inr rfl) 5 [.cp 1 6, .cp 3 6, .cp 1 3, .cp 3 3] _ sem15_1 (by decide)) $$ HE HW35 HO
  iintro HZ35 HP35 HO
  rw [wp_ret]
  imodintro
  iapply Hk $$ HO HP15 HP35 HW22 HZ15 HZ35

theorem part27_run {Q : (Σ' (v950 : FVec F S512x256 .bf16) (v953 : FVec F S256x512 .bf16) (v959 : FVec F S256x256 .bf16) (v962 : FVec F S256x64 .bf16), FVec F S256x64 .bf16) → sProp 𝕄} (q : PosShare TreeShare) (v8 : BitVec 32) (v872 : BitVec 32) :
    (env m K c : sProp 𝕄) ⊢ iprop(ptO c (frm 6 c) (shr 6) (allO m) -∗ ptQ c (frm 6 c) (shr 6) (allQ m) -∗ ins m c -∗ ow c [.cp 1 6, .cp 3 6, .cp 1 3, .cp 3 3] -∗ ptO c (into 1 c) q (allO m) -∗ ptQ c (into 1 c) q (allQ m) -∗ txO 6 c -∗ txQ 6 c -∗
      (ins m c -∗ ow c [.cp 1 3, .cp 3 3] -∗ ptO c (into 1 c) q (allO m) -∗ ptQ c (into 1 c) q (allQ m) -∗ wt 0 6 c -∗ wt 2 6 c -∗ Q ⟨k0_pay81 (wqS m (into 1 c)), k0_pay82 (woS m (into 1 c)), k0_pay83 (wqS m (into 1 c)) (xS m c 0), k0_pay84 (wqS m (into 1 c)) (xS m c 0), k0_pay85 (kS m c 0 (into 1 c) 0)⟩)
      -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v8 v872) Q) := by
  rw [k0_part27_eq_skeleton]
  unfold k0_part27_skel
  simp only [Prog.lift, Prog.bind_op, Prog.bind_ret, Prog.pure_eq_ret]
  iintro #HE HFO6 HFQ6 HI HO HSO1 HSQ1 HTO6 HTQ6 Hk
  iapply (wp_sendQ m K c 6 [.cp 3 6, .cp 1 3, .cp 3 3] _ (dev13_to c) _ (off7_r2 c) _ _ sem12_2 sem13_2) $$ HE HFQ6 HTQ6 HO
  iintro HW06 HO
  iapply (wp_sendO m K c 6 [.cp 1 3, .cp 3 3] _ (dev14_to c) _ (off8_r2 c) _ _ sem14_2 sem15_2) $$ HE HFO6 HTO6 HO
  iintro HW26 HO
  iapply (wp_loadQ c (into 1 c) _ (allQ m) _ (off9_l2 c)) $$ HSQ1
  rw [readQ m (into 1 c)]
  iintro HSQ1
  iapply (wp_loadO c (into 1 c) _ (allO m) _ (off10_l2 c)) $$ HSO1
  rw [readO m (into 1 c)]
  iintro HSO1
  iapply (wp_loadX m c 0 _ rfl) $$ HI
  iintro HI
  iapply (wp_loadK m c 0 (into 1 c) 0 _ (off11_l2 c 0)) $$ HI
  iintro HI
  rw [wp_ret]
  imodintro
  iapply Hk $$ HI HO HSO1 HSQ1 HW06 HW26

theorem part28_run {Q : (Σ' (v985 : FVec F S256x64 .bf16) (v996 : FVec F S256x64 .bf16) (v1009 : FVec F S256x256 .bf16), FVec F S256x64 .f32) → sProp 𝕄} (v33 : IVec S256x256 1) (v872 : BitVec 32) (v959 : FVec F S256x256 .bf16) (v962 : FVec F S256x64 .bf16) (v966 : FVec F S256x64 .bf16) :
    (ins m c : sProp 𝕄) ⊢ iprop(
      (ins m c -∗ Q ⟨k0_pay86 v33 v962 v966 (vS m c 0 (into 1 c) 0), k0_pay87 (vS m c 0 (into 1 c) 1), k0_pay88 v33 v959 (kS m c 0 (into 1 c) 1), (constant S256x64 .f32 0x00000000#32)⟩)
      -∗ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v872 v959 v962 v966) Q) := by
  rw [k0_part28_eq_skeleton]
  unfold k0_part28_skel
  simp only [Prog.lift, Prog.bind_op, Prog.bind_ret, Prog.pure_eq_ret]
  iintro HI Hk
  iapply (wp_loadV m c 0 (into 1 c) 0 _ (off11_l2 c 0)) $$ HI
  iintro HI
  iapply (wp_loadK m c 0 (into 1 c) 1 _ (off11_l2 c 1)) $$ HI
  iintro HI
  iapply (wp_loadV m c 0 (into 1 c) 1 _ (off11_l2 c 1)) $$ HI
  iintro HI
  rw [wp_ret]
  imodintro
  iapply Hk $$ HI

theorem part29_run {Q : (Σ' (v1011 : FVec F S256x64 .bf16) (v1037 : FVec F S256x64 .bf16) (v1040 : FVec F S256x64 .bf16) (v1044 : FVec F S256x64 .bf16), FVec F S256x64 .bf16) → sProp 𝕄} (v33 : IVec S256x256 1) (v872 : BitVec 32) (v959 : FVec F S256x256 .bf16) (v996 : FVec F S256x64 .bf16) (v1009 : FVec F S256x256 .bf16) (cst_623 : FVec F S256x64 .f32) :
    (ins m c : sProp 𝕄) ⊢ iprop(
      (ins m c -∗ Q ⟨k0_pay89 v996 v1009 cst_623, k0_pay90 v33 v959 (kS m c 0 (into 1 c) 2) (vS m c 0 (into 1 c) 2), k0_pay91 v959, k0_pay92 (kS m c 0 (into 1 c) 3), k0_pay93 (vS m c 0 (into 1 c) 3)⟩)
      -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v872 v959 v996 v1009 cst_623) Q) := by
  rw [k0_part29_eq_skeleton]
  unfold k0_part29_skel
  simp only [Prog.lift, Prog.bind_op, Prog.bind_ret, Prog.pure_eq_ret]
  iintro HI Hk
  iapply (wp_loadK m c 0 (into 1 c) 2 _ (off11_l2 c 2)) $$ HI
  iintro HI
  iapply (wp_loadV m c 0 (into 1 c) 2 _ (off11_l2 c 2)) $$ HI
  iintro HI
  iapply (wp_loadK m c 0 (into 1 c) 3 _ (off11_l2 c 3)) $$ HI
  iintro HI
  iapply (wp_loadV m c 0 (into 1 c) 3 _ (off11_l2 c 3)) $$ HI
  iintro HI
  rw [wp_ret]
  imodintro
  iapply Hk $$ HI

theorem part30_run {Q : (Σ' (v1077 : FVec F S256x256 .bf16) (v1079 : BitVec 32) (v1080 : FVec F S256x64 .bf16), FVec F S256x64 .bf16) → sProp 𝕄} (a a' : Vec F S1x256x512 .f32) (v33 : IVec S256x256 1) (v872 : BitVec 32) (v950 : FVec F S512x256 .bf16) (v953 : FVec F S256x512 .bf16) (v985 : FVec F S256x64 .bf16) (v1011 : FVec F S256x64 .bf16) (v1037 : FVec F S256x64 .bf16) (v1040 : FVec F S256x64 .bf16) (v1044 : FVec F S256x64 .bf16) (v1048 : FVec F S256x64 .bf16) :
    (ins m c : sProp 𝕄) ⊢ iprop(out c a a' -∗
      (ins m c -∗ out c (k0_pay94 v33 v953 v985 v1011 v1037 v1040 v1044 v1048 a) a' -∗ Q ⟨k0_pay95 v950 (xS m c 1), (Scalar.addi (Scalar.muli v872 4#32) 0#32), k0_pay96 v950 (xS m c 1), k0_pay97 (kS m c 1 (into 1 c) 0)⟩)
      -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v872 v950 v953 v985 v1011 v1037 v1040 v1044 v1048) Q) := by
  rw [k0_part30_eq_skeleton]
  unfold k0_part30_skel
  simp only [Prog.lift, Prog.bind_op, Prog.bind_ret, Prog.pure_eq_ret]
  iintro HI HY Hk
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  iapply (wp_loadK m c 1 (into 1 c) 0 _ (off12_l2 c 0)) $$ HI
  iintro HI
  rw [wp_ret]
  imodintro
  iapply Hk $$ HI HY

theorem part31_run {Q : (Σ' (v1103 : FVec F S256x64 .bf16) (v1114 : FVec F S256x64 .bf16) (v1122 : FVec F S256x256 .f32), FVec F S256x256 .f32) → sProp 𝕄} (v33 : IVec S256x256 1) (v872 : BitVec 32) (v1077 : FVec F S256x256 .bf16) (v1079 : BitVec 32) (v1080 : FVec F S256x64 .bf16) (v1084 : FVec F S256x64 .bf16) :
    (ins m c : sProp 𝕄) ⊢ iprop(
      (ins m c -∗ Q ⟨k0_pay98 v33 v1080 v1084 (vS m c 1 (into 1 c) 0), k0_pay99 (vS m c 1 (into 1 c) 1), k0_pay100 v33 v1077 (kS m c 1 (into 1 c) 1), k0_pay101 v33 v1077 (kS m c 1 (into 1 c) 1)⟩)
      -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v872 v1077 v1079 v1080 v1084) Q) := by
  rw [k0_part31_eq_skeleton]
  unfold k0_part31_skel
  simp only [Prog.lift, Prog.bind_op, Prog.bind_ret, Prog.pure_eq_ret]
  iintro HI Hk
  iapply (wp_loadV m c 1 (into 1 c) 0 _ (off12_l2 c 0)) $$ HI
  iintro HI
  iapply (wp_loadK m c 1 (into 1 c) 1 _ (off12_l2 c 1)) $$ HI
  iintro HI
  iapply (wp_loadV m c 1 (into 1 c) 1 _ (off12_l2 c 1)) $$ HI
  iintro HI
  rw [wp_ret]
  imodintro
  iapply Hk $$ HI

theorem part32_run {Q : (Σ' (v1129 : FVec F S256x64 .bf16) (v1155 : FVec F S256x64 .bf16) (v1158 : FVec F S256x64 .bf16), FVec F S256x64 .bf16) → sProp 𝕄} (v33 : IVec S256x256 1) (v872 : BitVec 32) (v1077 : FVec F S256x256 .bf16) (v1114 : FVec F S256x64 .bf16) (v1122 : FVec F S256x256 .f32) (v1125 : FVec F S256x256 .f32) :
    (ins m c : sProp 𝕄) ⊢ iprop(
      (ins m c -∗ Q ⟨k0_pay102 v1114 v1122 v1125, k0_pay103 v33 v1077 (kS m c 1 (into 1 c) 2) (vS m c 1 (into 1 c) 2), k0_pay104 v1077, k0_pay105 (kS m c 1 (into 1 c) 3)⟩)
      -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v872 v1077 v1114 v1122 v1125) Q) := by
  rw [k0_part32_eq_skeleton]
  unfold k0_part32_skel
  simp only [Prog.lift, Prog.bind_op, Prog.bind_ret, Prog.pure_eq_ret]
  iintro HI Hk
  iapply (wp_loadK m c 1 (into 1 c) 2 _ (off12_l2 c 2)) $$ HI
  iintro HI
  iapply (wp_loadV m c 1 (into 1 c) 2 _ (off12_l2 c 2)) $$ HI
  iintro HI
  iapply (wp_loadK m c 1 (into 1 c) 3 _ (off12_l2 c 3)) $$ HI
  iintro HI
  rw [wp_ret]
  imodintro
  iapply Hk $$ HI

theorem part33_run {Q : (Σ' (v1192 : FVec F S512x256 .bf16) (v1195 : FVec F S256x512 .bf16), FVec F S256x256 .bf16) → sProp 𝕄} (a a' : Vec F S1x256x512 .f32) (q : PosShare TreeShare) (v33 : IVec S256x256 1) (v911 : BitVec 32) (v953 : FVec F S256x512 .bf16) (v1103 : FVec F S256x64 .bf16) (v1129 : FVec F S256x64 .bf16) (v1155 : FVec F S256x64 .bf16) (v1158 : FVec F S256x64 .bf16) (v1162 : FVec F S256x64 .bf16) :
    (ins m c : sProp 𝕄) ⊢ iprop(ptO c (into 5 c) q (allO m) -∗ ptQ c (into 5 c) q (allQ m) -∗ out c a a' -∗
      (ins m c -∗ ptO c (into 5 c) q (allO m) -∗ ptQ c (into 5 c) q (allQ m) -∗ out c a (k0_pay106 v33 v953 v1103 v1129 v1155 v1158 v1162 (vS m c 1 (into 1 c) 3) a') -∗ Q ⟨k0_pay107 (wqS m (into 5 c)), k0_pay108 (woS m (into 5 c)), k0_pay109 (wqS m (into 5 c)) (xS m c 0)⟩)
      -∗ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v911 v953 v1103 v1129 v1155 v1158 v1162) Q) := by
  rw [k0_part33_eq_skeleton]
  unfold k0_part33_skel
  simp only [Prog.lift, Prog.bind_op, Prog.bind_ret, Prog.pure_eq_ret]
  iintro HI HSO5 HSQ5 HY Hk
  iapply (wp_loadV m c 1 (into 1 c) 3 _ (off12_l2 c 3)) $$ HI
  iintro HI
  iapply (wp_loadY c 1 _ _ _ rfl) $$ HY
  rw [pick1]
  iintro HY
  iapply (wp_loadY c 1 _ _ _ rfl) $$ HY
  iintro HY
  iapply (wp_storeY1 c _ _ _) $$ HY
  iintro HY
  iapply (wp_loadQ c (into 5 c) _ (allQ m) _ (off9_r2 c)) $$ HSQ5
  rw [readQ m (into 5 c)]
  iintro HSQ5
  iapply (wp_loadO c (into 5 c) _ (allO m) _ (off10_r2 c)) $$ HSO5
  rw [readO m (into 5 c)]
  iintro HSO5
  iapply (wp_loadX m c 0 _ rfl) $$ HI
  iintro HI
  rw [wp_ret]
  imodintro
  iapply Hk $$ HI HSO5 HSQ5 HY

end Cert.KernelIdeal.Ring

end
-- ==== Proof.KernelIdealParts3.lean ====
/-
# The body, part by part: two steps away

Each part of the body at a device `c`, in continuation form: from the resources it touches, and a
continuation that takes them as the part leaves them with the values the part returns.
-/
module

public import proofs.«01_k».proof.Proof.KernelIdealStart

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

theorem part34_run {Q : (Σ' (v1227 : FVec F S256x64 .bf16) (v1238 : FVec F S256x64 .bf16), FVec F S256x256 .f32) → sProp 𝕄} (v33 : IVec S256x256 1) (v911 : BitVec 32) (v1201 : FVec F S256x256 .bf16) :
    (ins m c : sProp 𝕄) ⊢ iprop(
      (ins m c -∗ Q ⟨k0_pay110 v33 v1201 (kS m c 0 (into 5 c) 0) (vS m c 0 (into 5 c) 0), k0_pay111 (vS m c 0 (into 5 c) 1), k0_pay112 v1201 (kS m c 0 (into 5 c) 1)⟩)
      -∗ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v911 v1201) Q) := by
  rw [k0_part34_eq_skeleton]
  unfold k0_part34_skel
  simp only [Prog.lift, Prog.bind_op, Prog.bind_ret, Prog.pure_eq_ret]
  iintro HI Hk
  iapply (wp_loadK m c 0 (into 5 c) 0 _ (off11_r2 c 0)) $$ HI
  iintro HI
  iapply (wp_loadV m c 0 (into 5 c) 0 _ (off11_r2 c 0)) $$ HI
  iintro HI
  iapply (wp_loadK m c 0 (into 5 c) 1 _ (off11_r2 c 1)) $$ HI
  iintro HI
  iapply (wp_loadV m c 0 (into 5 c) 1 _ (off11_r2 c 1)) $$ HI
  iintro HI
  rw [wp_ret]
  imodintro
  iapply Hk $$ HI

theorem part35_run {Q : (Σ' (v1253 : FVec F S256x64 .bf16) (v1279 : FVec F S256x64 .bf16) (v1280 : BitVec 32), BitVec 32) → sProp 𝕄} (v33 : IVec S256x256 1) (v911 : BitVec 32) (v1201 : FVec F S256x256 .bf16) (v1238 : FVec F S256x64 .bf16) (v1239 : FVec F S256x256 .f32) :
    (ins m c : sProp 𝕄) ⊢ iprop(
      (ins m c -∗ Q ⟨k0_pay113 v33 v1238 v1239, k0_pay114 v33 v1201 (kS m c 0 (into 5 c) 2) (vS m c 0 (into 5 c) 2), (Scalar.muli v911 4#32), 3#32⟩)
      -∗ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v911 v1201 v1238 v1239) Q) := by
  rw [k0_part35_eq_skeleton]
  unfold k0_part35_skel
  simp only [Prog.lift, Prog.bind_op, Prog.bind_ret, Prog.pure_eq_ret]
  iintro HI Hk
  iapply (wp_loadK m c 0 (into 5 c) 2 _ (off11_r2 c 2)) $$ HI
  iintro HI
  iapply (wp_loadV m c 0 (into 5 c) 2 _ (off11_r2 c 2)) $$ HI
  iintro HI
  rw [wp_ret]
  imodintro
  iapply Hk $$ HI

theorem part36_run {Q : (Σ' (v1316 : FVec F S256x256 .f32), F .f32) → sProp 𝕄} (a a' : Vec F S1x256x512 .f32) (v33 : IVec S256x256 1) (v1192 : FVec F S512x256 .bf16) (v1195 : FVec F S256x512 .bf16) (v1201 : FVec F S256x256 .bf16) (v1227 : FVec F S256x64 .bf16) (v1253 : FVec F S256x64 .bf16) (v1279 : FVec F S256x64 .bf16) (v1280 : BitVec 32) (c3_i32_770 : BitVec 32) :
    (ins m c : sProp 𝕄) ⊢ iprop(out c a a' -∗
      (ins m c -∗ out c (k0_pay115 v33 v1195 v1201 v1227 v1253 v1279 (kS m c 0 (into 5 c) 3) (vS m c 0 (into 5 c) 3) a) a' -∗ Q ⟨k0_pay116 v1192 (xS m c 1), (Scalar.ofBits .f32 0x3E000000#32)⟩)
      -∗ wp frame (wpE (defs₀ (F := F)) 𝒱₀ (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1192 v1195 v1201 v1227 v1253 v1279 v1280 c3_i32_770) Q) := by
  rw [k0_part36_eq_skeleton]
  unfold k0_part36_skel
  simp only [Prog.lift, Prog.bind_op, Prog.bind_ret, Prog.pure_eq_ret]
  iintro HI HY Hk
  iapply (wp_loadK m c 0 (into 5 c) 3 _ (off11_r2 c 3)) $$ HI
  iintro HI
  iapply (wp_loadV m c 0 (into 5 c) 3 _ (off11_r2 c 3)) $$ HI
  iintro HI
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  rw [wp_ret]
  imodintro
  iapply Hk $$ HI HY

theorem part37_run {Q : (Σ' (v1319 : FVec F S256x256 .bf16) (v1345 : FVec F S256x64 .bf16) (v1348 : FVec F S256x64 .bf16) (v1352 : FVec F S256x64 .bf16), FVec F S1x256x64 .bf16) → sProp 𝕄} (v33 : IVec S256x256 1) (v911 : BitVec 32) (v1316 : FVec F S256x256 .f32) (cst_793 : F .f32) :
    (ins m c : sProp 𝕄) ⊢ iprop(
      (ins m c -∗ Q ⟨k0_pay117 v1316 cst_793, k0_pay118 v33 v1316 cst_793 (kS m c 1 (into 5 c) 0) (vS m c 1 (into 5 c) 0), k0_pay119 v1316 cst_793, k0_pay120 (kS m c 1 (into 5 c) 1), k0_pay121 (vS m c 1 (into 5 c) 1)⟩)
      -∗ wp frame (wpE (defs₀ (F := F)) 𝒱₀ (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v911 v1316 cst_793) Q) := by
  rw [k0_part37_eq_skeleton]
  unfold k0_part37_skel
  simp only [Prog.lift, Prog.bind_op, Prog.bind_ret, Prog.pure_eq_ret]
  iintro HI Hk
  iapply (wp_loadK m c 1 (into 5 c) 0 _ (off12_r2 c 0)) $$ HI
  iintro HI
  iapply (wp_loadV m c 1 (into 5 c) 0 _ (off12_r2 c 0)) $$ HI
  iintro HI
  iapply (wp_loadK m c 1 (into 5 c) 1 _ (off12_r2 c 1)) $$ HI
  iintro HI
  iapply (wp_loadV m c 1 (into 5 c) 1 _ (off12_r2 c 1)) $$ HI
  iintro HI
  rw [wp_ret]
  imodintro
  iapply Hk $$ HI

theorem part38_run {Q : (Σ' (v1371 : FVec F S256x64 .bf16), FVec F S256x64 .bf16) → sProp 𝕄} (v33 : IVec S256x256 1) (v911 : BitVec 32) (v1319 : FVec F S256x256 .bf16) (v1348 : FVec F S256x64 .bf16) (v1352 : FVec F S256x64 .bf16) (v1355 : FVec F S1x256x64 .bf16) :
    (ins m c : sProp 𝕄) ⊢ iprop(
      (ins m c -∗ Q ⟨k0_pay122 v33 v1348 v1352 v1355, k0_pay123 v33 v1319 (kS m c 1 (into 5 c) 2) (vS m c 1 (into 5 c) 2)⟩)
      -∗ wp frame (wpE (defs₀ (F := F)) 𝒱₀ (c : Thread nD τ) none) Set.univ (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v911 v1319 v1348 v1352 v1355) Q) := by
  rw [k0_part38_eq_skeleton]
  unfold k0_part38_skel
  simp only [Prog.lift, Prog.bind_op, Prog.bind_ret, Prog.pure_eq_ret]
  iintro HI Hk
  iapply (wp_loadK m c 1 (into 5 c) 2 _ (off12_r2 c 2)) $$ HI
  iintro HI
  iapply (wp_loadV m c 1 (into 5 c) 2 _ (off12_r2 c 2)) $$ HI
  iintro HI
  rw [wp_ret]
  imodintro
  iapply Hk $$ HI

theorem part39_run {Q : (Σ' (v1433 : BitVec 32), BitVec 32) → sProp 𝕄} (a a' : Vec F S1x256x512 .f32) (v2 : BitVec 32) (v33 : IVec S256x256 1) (v911 : BitVec 32) (v1195 : FVec F S256x512 .bf16) (v1319 : FVec F S256x256 .bf16) (v1345 : FVec F S256x64 .bf16) (v1371 : FVec F S256x64 .bf16) (v1397 : FVec F S256x64 .bf16) :
    (ins m c : sProp 𝕄) ⊢ iprop(out c a a' -∗
      (ins m c -∗ out c a (k0_pay124 v33 v1195 v1319 v1345 v1371 v1397 (kS m c 1 (into 5 c) 3) (vS m c 1 (into 5 c) 3) a') -∗ Q ⟨(Scalar.addi (Scalar.addi v2 4294967293#32) 16#32), 8#32⟩)
      -∗ wp frame (wpE (defs₀ (F := F)) 𝒱₀ (c : Thread nD τ) none) Set.univ (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v33 v911 v1195 v1319 v1345 v1371 v1397) Q) := by
  rw [k0_part39_eq_skeleton]
  unfold k0_part39_skel
  simp only [Prog.lift, Prog.bind_op, Prog.bind_ret, Prog.pure_eq_ret]
  iintro HI HY Hk
  iapply (wp_loadK m c 1 (into 5 c) 3 _ (off12_r2 c 3)) $$ HI
  iintro HI
  iapply (wp_loadV m c 1 (into 5 c) 3 _ (off12_r2 c 3)) $$ HI
  iintro HI
  iapply (wp_loadY c 1 _ _ _ rfl) $$ HY
  rw [pick1]
  iintro HY
  iapply (wp_loadY c 1 _ _ _ rfl) $$ HY
  iintro HY
  iapply (wp_storeY1 c _ _ _) $$ HY
  iintro HY
  rw [wp_ret]
  imodintro
  iapply Hk $$ HI HY

theorem part40_run {Q : (BitVec 32) → sProp 𝕄} (v2 : BitVec 32) (v5 : BitVec 32) (v1433 : BitVec 32) (c8_i32_854 : BitVec 32) :
    (env m K c : sProp 𝕄) ⊢ iprop(ow c [.cp 1 3, .cp 3 3] -∗ txQ 3 c -∗ wt 1 2 c -∗ wt 3 2 c -∗
      (ow c [.cp 3 3] -∗ copyPay m 3 2 c -∗ ptQ c (into 2 c) fullShare.right (allQ m) -∗ wt 0 3 c -∗ semVal (cell 1 2 c) 0 -∗ semVal (cell 3 2 c) 0 -∗ Q (Scalar.remsi v1433 c8_i32_854))
      -∗ wp frame (wpE (defs₀ (F := F)) 𝒱₀ (c : Thread nD τ) none) Set.univ (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v5 v1433 c8_i32_854) Q) := by
  rw [k0_part40_eq_skeleton]
  unfold k0_part40_skel
  simp only [Prog.lift, Prog.bind_op, Prog.bind_ret, Prog.pure_eq_ret]
  iintro #HE HO HTQ3 HW12 HW32 Hk
  iapply (wp_waitQ m K c 1 (.inr rfl) 2 [.cp 1 3, .cp 3 3] _ sem9_2 (by decide)) $$ HE HW12 HO
  iintro HZ12 HP12 HO
  iapply (wp_waitO m K c 3 (.inr rfl) 2 [.cp 1 3, .cp 3 3] _ sem11_2 (by decide)) $$ HE HW32 HO
  iintro HZ32 HP32 HO
  ihave HX := (fwdQ m c 3 2 (frm_3 c) rfl) $$ HP12
  icases HX with ⟨HFQ3, HSQ2⟩
  iapply (wp_sendQ m K c 3 [.cp 3 3] _ (dev15_to c) _ (off7_l3 c) _ _ sem8_3 sem9_3) $$ HE HFQ3 HTQ3 HO
  iintro HW03 HO
  rw [wp_ret]
  imodintro
  iapply Hk $$ HO HP32 HSQ2 HW03 HZ12 HZ32

theorem part41_run {Q : (BitVec 32) → sProp 𝕄} (v2 : BitVec 32) (v5 : BitVec 32) :
    (env m K c : sProp 𝕄) ⊢ iprop(ptO c (frm 3 c) (shr 3) (allO m) -∗ ow c [.cp 3 3] -∗ txO 3 c -∗ wt 1 6 c -∗
      (ow c [] -∗ copyPay m 1 6 c -∗ wt 2 3 c -∗ semVal (cell 1 6 c) 0 -∗ Q (Scalar.remsi (Scalar.addi (Scalar.addi v2 3#32) 16#32) 8#32))
      -∗ wp frame (wpE (defs₀ (F := F)) 𝒱₀ (c : Thread nD τ) none) Set.univ (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v5) Q) := by
  rw [k0_part41_eq_skeleton]
  unfold k0_part41_skel
  simp only [Prog.lift, Prog.bind_op, Prog.bind_ret, Prog.pure_eq_ret]
  iintro #HE HFO3 HO HTO3 HW16 Hk
  iapply (wp_sendO m K c 3 [] _ (dev16_to c) _ (off8_l3 c) _ _ sem10_3 sem11_3) $$ HE HFO3 HTO3 HO
  iintro HW23 HO
  iapply (wp_waitQ m K c 1 (.inr rfl) 6 [] _ sem13_2 (by decide)) $$ HE HW16 HO
  iintro HZ16 HP16 HO
  rw [wp_ret]
  imodintro
  iapply Hk $$ HO HP16 HW23 HZ16

theorem part42_run {Q : (Σ' (v1492 : FVec F S512x256 .bf16) (v1495 : FVec F S256x512 .bf16) (v1501 : FVec F S256x256 .bf16), FVec F S256x64 .f32) → sProp 𝕄} (q : PosShare TreeShare) (v33 : IVec S256x256 1) (v1434 : BitVec 32) :
    (env m K c : sProp 𝕄) ⊢ iprop(ins m c -∗ ow c [] -∗ ptO c (into 2 c) q (allO m) -∗ ptQ c (into 2 c) q (allQ m) -∗ wt 3 6 c -∗
      (ins m c -∗ ow c [] -∗ copyPay m 3 6 c -∗ ptO c (into 2 c) q (allO m) -∗ ptQ c (into 2 c) q (allQ m) -∗ semVal (cell 3 6 c) 0 -∗ Q ⟨k0_pay125 (wqS m (into 2 c)), k0_pay126 (woS m (into 2 c)), k0_pay127 (wqS m (into 2 c)) (xS m c 0), k0_pay128 v33 (wqS m (into 2 c)) (xS m c 0) (kS m c 0 (into 2 c) 0) (vS m c 0 (into 2 c) 0)⟩)
      -∗ wp frame (wpE (defs₀ (F := F)) 𝒱₀ (c : Thread nD τ) none) Set.univ (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1434) Q) := by
  rw [k0_part42_eq_skeleton]
  unfold k0_part42_skel
  simp only [Prog.lift, Prog.bind_op, Prog.bind_ret, Prog.pure_eq_ret]
  iintro #HE HI HO HSO2 HSQ2 HW36 Hk
  iapply (wp_waitO m K c 3 (.inr rfl) 6 [] _ sem15_2 (by decide)) $$ HE HW36 HO
  iintro HZ36 HP36 HO
  iapply (wp_loadQ c (into 2 c) _ (allQ m) _ (off9_l3 c)) $$ HSQ2
  rw [readQ m (into 2 c)]
  iintro HSQ2
  iapply (wp_loadO c (into 2 c) _ (allO m) _ (off10_l3 c)) $$ HSO2
  rw [readO m (into 2 c)]
  iintro HSO2
  iapply (wp_loadX m c 0 _ rfl) $$ HI
  iintro HI
  iapply (wp_loadK m c 0 (into 2 c) 0 _ (off11_l3 c 0)) $$ HI
  iintro HI
  iapply (wp_loadV m c 0 (into 2 c) 0 _ (off11_l3 c 0)) $$ HI
  iintro HI
  rw [wp_ret]
  imodintro
  iapply Hk $$ HI HO HP36 HSO2 HSQ2 HZ36

theorem part43_run {Q : (Σ' (v1527 : FVec F S256x64 .bf16) (v1553 : FVec F S256x64 .bf16) (v1556 : FVec F S256x64 .bf16) (v1560 : FVec F S256x64 .bf16) (v1564 : FVec F S256x64 .bf16), FVec F S256x256 .f32) → sProp 𝕄} (v33 : IVec S256x256 1) (v1434 : BitVec 32) (v1501 : FVec F S256x256 .bf16) (v1526 : FVec F S256x64 .f32) :
    (ins m c : sProp 𝕄) ⊢ iprop(
      (ins m c -∗ Q ⟨k0_pay129 v1526, k0_pay130 v33 v1501 (kS m c 0 (into 2 c) 1) (vS m c 0 (into 2 c) 1), k0_pay131 v1501, k0_pay132 (kS m c 0 (into 2 c) 2), k0_pay133 (vS m c 0 (into 2 c) 2), (constant S256x256 .f32 0x00000000#32)⟩)
      -∗ wp frame (wpE (defs₀ (F := F)) 𝒱₀ (c : Thread nD τ) none) Set.univ (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1434 v1501 v1526) Q) := by
  rw [k0_part43_eq_skeleton]
  unfold k0_part43_skel
  simp only [Prog.lift, Prog.bind_op, Prog.bind_ret, Prog.pure_eq_ret]
  iintro HI Hk
  iapply (wp_loadK m c 0 (into 2 c) 1 _ (off11_l3 c 1)) $$ HI
  iintro HI
  iapply (wp_loadV m c 0 (into 2 c) 1 _ (off11_l3 c 1)) $$ HI
  iintro HI
  iapply (wp_loadK m c 0 (into 2 c) 2 _ (off11_l3 c 2)) $$ HI
  iintro HI
  iapply (wp_loadV m c 0 (into 2 c) 2 _ (off11_l3 c 2)) $$ HI
  iintro HI
  rw [wp_ret]
  imodintro
  iapply Hk $$ HI

theorem part44_run {Q : (Σ' (v1606 : FVec F S256x256 .bf16), FVec F S256x512 .f32) → sProp 𝕄} (v33 : IVec S256x256 1) (v1434 : BitVec 32) (v1501 : FVec F S256x256 .bf16) (v1527 : FVec F S256x64 .bf16) (v1553 : FVec F S256x64 .bf16) (v1556 : FVec F S256x64 .bf16) (v1560 : FVec F S256x64 .bf16) (v1564 : FVec F S256x64 .bf16) (cst_957 : FVec F S256x256 .f32) :
    (ins m c : sProp 𝕄) ⊢ iprop(
      (ins m c -∗ Q ⟨k0_pay134 v33 v1501 v1527 v1553 v1556 v1560 v1564 cst_957 (kS m c 0 (into 2 c) 3) (vS m c 0 (into 2 c) 3), (constant S256x512 .f32 0x00000000#32)⟩)
      -∗ wp frame (wpE (defs₀ (F := F)) 𝒱₀ (c : Thread nD τ) none) Set.univ (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1434 v1501 v1527 v1553 v1556 v1560 v1564 cst_957) Q) := by
  rw [k0_part44_eq_skeleton]
  unfold k0_part44_skel
  simp only [Prog.lift, Prog.bind_op, Prog.bind_ret, Prog.pure_eq_ret]
  iintro HI Hk
  iapply (wp_loadK m c 0 (into 2 c) 3 _ (off11_l3 c 3)) $$ HI
  iintro HI
  iapply (wp_loadV m c 0 (into 2 c) 3 _ (off11_l3 c 3)) $$ HI
  iintro HI
  rw [wp_ret]
  imodintro
  iapply Hk $$ HI

theorem part45_run {Q : (Σ' (v1619 : FVec F S256x256 .bf16) (v1630 : FVec F S256x64 .bf16), FVec F S256x256 .f32) → sProp 𝕄} (a a' : Vec F S1x256x512 .f32) (v33 : IVec S256x256 1) (v1434 : BitVec 32) (v1492 : FVec F S512x256 .bf16) (v1495 : FVec F S256x512 .bf16) (v1606 : FVec F S256x256 .bf16) (cst_975 : FVec F S256x512 .f32) :
    (ins m c : sProp 𝕄) ⊢ iprop(out c a a' -∗
      (ins m c -∗ out c (k0_pay135 v1495 v1606 cst_975 a) a' -∗ Q ⟨k0_pay136 v1492 (xS m c 1), k0_pay137 (vS m c 1 (into 2 c) 0), k0_pay138 v33 v1492 (xS m c 1) (kS m c 1 (into 2 c) 0)⟩)
      -∗ wp frame (wpE (defs₀ (F := F)) 𝒱₀ (c : Thread nD τ) none) Set.univ (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1434 v1492 v1495 v1606 cst_975) Q) := by
  rw [k0_part45_eq_skeleton]
  unfold k0_part45_skel
  simp only [Prog.lift, Prog.bind_op, Prog.bind_ret, Prog.pure_eq_ret]
  iintro HI HY Hk
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  iapply (wp_loadK m c 1 (into 2 c) 0 _ (off12_l3 c 0)) $$ HI
  iintro HI
  iapply (wp_loadV m c 1 (into 2 c) 0 _ (off12_l3 c 0)) $$ HI
  iintro HI
  rw [wp_ret]
  imodintro
  iapply Hk $$ HI HY

theorem part46_run {Q : (Σ' (v1645 : FVec F S256x64 .bf16) (v1671 : FVec F S256x64 .bf16) (v1674 : FVec F S256x64 .bf16) (v1678 : FVec F S256x64 .bf16), Vec F S1x1x256x64 .bf16) → sProp 𝕄} (v33 : IVec S256x256 1) (v1434 : BitVec 32) (v1619 : FVec F S256x256 .bf16) (v1630 : FVec F S256x64 .bf16) (v1642 : FVec F S256x256 .f32) :
    (ins m c : sProp 𝕄) ⊢ iprop(
      (ins m c -∗ Q ⟨k0_pay139 v1630 v1642, k0_pay140 v33 v1619 (kS m c 1 (into 2 c) 1) (vS m c 1 (into 2 c) 1), k0_pay141 v1619, k0_pay142 (kS m c 1 (into 2 c) 2), (vS m c 1 (into 2 c) 2)⟩)
      -∗ wp frame (wpE (defs₀ (F := F)) 𝒱₀ (c : Thread nD τ) none) Set.univ (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1434 v1619 v1630 v1642) Q) := by
  rw [k0_part46_eq_skeleton]
  unfold k0_part46_skel
  simp only [Prog.lift, Prog.bind_op, Prog.bind_ret, Prog.pure_eq_ret]
  iintro HI Hk
  iapply (wp_loadK m c 1 (into 2 c) 1 _ (off12_l3 c 1)) $$ HI
  iintro HI
  iapply (wp_loadV m c 1 (into 2 c) 1 _ (off12_l3 c 1)) $$ HI
  iintro HI
  iapply (wp_loadK m c 1 (into 2 c) 2 _ (off12_l3 c 2)) $$ HI
  iintro HI
  iapply (wp_loadV m c 1 (into 2 c) 2 _ (off12_l3 c 2)) $$ HI
  iintro HI
  rw [wp_ret]
  imodintro
  iapply Hk $$ HI

theorem part47_run {Q : (Σ' (v1697 : FVec F S256x64 .bf16), FVec F S256x64 .f32) → sProp 𝕄} (v33 : IVec S256x256 1) (v1434 : BitVec 32) (v1619 : FVec F S256x256 .bf16) (v1674 : FVec F S256x64 .bf16) (v1678 : FVec F S256x64 .bf16) (v1680 : Vec F S1x1x256x64 .bf16) :
    (ins m c : sProp 𝕄) ⊢ iprop(
      (ins m c -∗ Q ⟨k0_pay143 v33 v1674 v1678 v1680, k0_pay144 v33 v1619 (kS m c 1 (into 2 c) 3) (vS m c 1 (into 2 c) 3)⟩)
      -∗ wp frame (wpE (defs₀ (F := F)) 𝒱₀ (c : Thread nD τ) none) Set.univ (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1434 v1619 v1674 v1678 v1680) Q) := by
  rw [k0_part47_eq_skeleton]
  unfold k0_part47_skel
  simp only [Prog.lift, Prog.bind_op, Prog.bind_ret, Prog.pure_eq_ret]
  iintro HI Hk
  iapply (wp_loadK m c 1 (into 2 c) 3 _ (off12_l3 c 3)) $$ HI
  iintro HI
  iapply (wp_loadV m c 1 (into 2 c) 3 _ (off12_l3 c 3)) $$ HI
  iintro HI
  rw [wp_ret]
  imodintro
  iapply Hk $$ HI

theorem part48_run {Q : (Σ' (v1734 : FVec F S512x256 .bf16) (v1737 : FVec F S256x512 .bf16) (v1743 : FVec F S256x256 .bf16) (v1754 : FVec F S256x64 .bf16) (v1755 : FVec F S256x256 .f32), F .f32) → sProp 𝕄} (a a' : Vec F S1x256x512 .f32) (q : PosShare TreeShare) (v1473 : BitVec 32) (v1495 : FVec F S256x512 .bf16) (v1645 : FVec F S256x64 .bf16) (v1671 : FVec F S256x64 .bf16) (v1697 : FVec F S256x64 .bf16) (v1722 : FVec F S256x64 .f32) :
    (ins m c : sProp 𝕄) ⊢ iprop(ptO c (into 6 c) q (allO m) -∗ ptQ c (into 6 c) q (allQ m) -∗ out c a a' -∗
      (ins m c -∗ ptO c (into 6 c) q (allO m) -∗ ptQ c (into 6 c) q (allQ m) -∗ out c a (k0_pay145 v1495 v1645 v1671 v1697 v1722 a') -∗ Q ⟨k0_pay146 (wqS m (into 6 c)), k0_pay147 (woS m (into 6 c)), k0_pay148 (wqS m (into 6 c)) (xS m c 0), k0_pay149 (vS m c 0 (into 6 c) 0), k0_pay150 (wqS m (into 6 c)) (xS m c 0) (kS m c 0 (into 6 c) 0), (Scalar.ofBits .f32 0xCE6E6B28#32)⟩)
      -∗ wp frame (wpE (defs₀ (F := F)) 𝒱₀ (c : Thread nD τ) none) Set.univ (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v1473 v1495 v1645 v1671 v1697 v1722) Q) := by
  rw [k0_part48_eq_skeleton]
  unfold k0_part48_skel
  simp only [Prog.lift, Prog.bind_op, Prog.bind_ret, Prog.pure_eq_ret]
  iintro HI HSO6 HSQ6 HY Hk
  iapply (wp_loadY c 1 _ _ _ rfl) $$ HY
  rw [pick1]
  iintro HY
  iapply (wp_loadY c 1 _ _ _ rfl) $$ HY
  iintro HY
  iapply (wp_storeY1 c _ _ _) $$ HY
  iintro HY
  iapply (wp_loadQ c (into 6 c) _ (allQ m) _ (off9_r3 c)) $$ HSQ6
  rw [readQ m (into 6 c)]
  iintro HSQ6
  iapply (wp_loadO c (into 6 c) _ (allO m) _ (off10_r3 c)) $$ HSO6
  rw [readO m (into 6 c)]
  iintro HSO6
  iapply (wp_loadX m c 0 _ rfl) $$ HI
  iintro HI
  iapply (wp_loadK m c 0 (into 6 c) 0 _ (off11_r3 c 0)) $$ HI
  iintro HI
  iapply (wp_loadV m c 0 (into 6 c) 0 _ (off11_r3 c 0)) $$ HI
  iintro HI
  rw [wp_ret]
  imodintro
  iapply Hk $$ HI HSO6 HSQ6 HY

end Cert.KernelIdeal.Ring

end
-- ==== Proof.KernelIdealParts4.lean ====
/-
# The body, part by part: three and four steps away, and the last waits

Each part of the body at a device `c`, in continuation form: from the resources it touches, and a
continuation that takes them as the part leaves them with the values the part returns.
-/
module

public import proofs.«01_k».proof.Proof.KernelIdealStart

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

theorem part49_run {Q : (Σ' (v1769 : FVec F S256x64 .bf16) (v1795 : FVec F S256x64 .bf16), BitVec 32) → sProp 𝕄} (v33 : IVec S256x256 1) (v1473 : BitVec 32) (v1743 : FVec F S256x256 .bf16) (v1754 : FVec F S256x64 .bf16) (v1755 : FVec F S256x256 .f32) (cst_1064 : F .f32) :
    (ins m c : sProp 𝕄) ⊢ iprop(
      (ins m c -∗ Q ⟨k0_pay151 v33 v1754 v1755 cst_1064, k0_pay152 v33 v1743 (kS m c 0 (into 6 c) 1) (vS m c 0 (into 6 c) 1), (Scalar.addi (Scalar.muli v1473 4#32) 2#32)⟩)
      -∗ wp frame (wpE (defs₀ (F := F)) 𝒱₀ (c : Thread nD τ) none) Set.univ (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1473 v1743 v1754 v1755 cst_1064) Q) := by
  rw [k0_part49_eq_skeleton]
  unfold k0_part49_skel
  simp only [Prog.lift, Prog.bind_op, Prog.bind_ret, Prog.pure_eq_ret]
  iintro HI Hk
  iapply (wp_loadK m c 0 (into 6 c) 1 _ (off11_r3 c 1)) $$ HI
  iintro HI
  iapply (wp_loadV m c 0 (into 6 c) 1 _ (off11_r3 c 1)) $$ HI
  iintro HI
  rw [wp_ret]
  imodintro
  iapply Hk $$ HI

theorem part50_run {Q : (Σ' (v1821 : FVec F S256x64 .bf16) (v1832 : FVec F S256x64 .bf16), FVec F S256x256 .f32) → sProp 𝕄} (v33 : IVec S256x256 1) (v1473 : BitVec 32) (v1743 : FVec F S256x256 .bf16) (v1797 : BitVec 32) :
    (ins m c : sProp 𝕄) ⊢ iprop(
      (ins m c -∗ Q ⟨k0_pay153 v33 v1743 (kS m c 0 (into 6 c) 2) (vS m c 0 (into 6 c) 2), k0_pay154 (vS m c 0 (into 6 c) 3), k0_pay155 v33 v1743 (kS m c 0 (into 6 c) 3)⟩)
      -∗ wp frame (wpE (defs₀ (F := F)) 𝒱₀ (c : Thread nD τ) none) Set.univ (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1473 v1743 v1797) Q) := by
  rw [k0_part50_eq_skeleton]
  unfold k0_part50_skel
  simp only [Prog.lift, Prog.bind_op, Prog.bind_ret, Prog.pure_eq_ret]
  iintro HI Hk
  iapply (wp_loadK m c 0 (into 6 c) 2 _ (off11_r3 c 2)) $$ HI
  iintro HI
  iapply (wp_loadV m c 0 (into 6 c) 2 _ (off11_r3 c 2)) $$ HI
  iintro HI
  iapply (wp_loadK m c 0 (into 6 c) 3 _ (off11_r3 c 3)) $$ HI
  iintro HI
  iapply (wp_loadV m c 0 (into 6 c) 3 _ (off11_r3 c 3)) $$ HI
  iintro HI
  rw [wp_ret]
  imodintro
  iapply Hk $$ HI

theorem part51_run {Q : (Σ' (v1861 : FVec F S256x256 .bf16) (v1864 : FVec F S256x64 .bf16) (v1868 : FVec F S256x64 .bf16), FVec F S256x64 .bf16) → sProp 𝕄} (a a' : Vec F S1x256x512 .f32) (v1473 : BitVec 32) (v1734 : FVec F S512x256 .bf16) (v1737 : FVec F S256x512 .bf16) (v1769 : FVec F S256x64 .bf16) (v1795 : FVec F S256x64 .bf16) (v1821 : FVec F S256x64 .bf16) (v1832 : FVec F S256x64 .bf16) (v1835 : FVec F S256x256 .f32) :
    (ins m c : sProp 𝕄) ⊢ iprop(out c a a' -∗
      (ins m c -∗ out c (k0_pay156 v1737 v1769 v1795 v1821 v1832 v1835 a) a' -∗ Q ⟨k0_pay157 v1734 (xS m c 1), k0_pay158 v1734 (xS m c 1), k0_pay159 (kS m c 1 (into 6 c) 0), k0_pay160 (vS m c 1 (into 6 c) 0)⟩)
      -∗ wp frame (wpE (defs₀ (F := F)) 𝒱₀ (c : Thread nD τ) none) Set.univ (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v1473 v1734 v1737 v1769 v1795 v1821 v1832 v1835) Q) := by
  rw [k0_part51_eq_skeleton]
  unfold k0_part51_skel
  simp only [Prog.lift, Prog.bind_op, Prog.bind_ret, Prog.pure_eq_ret]
  iintro HI HY Hk
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  iapply (wp_loadK m c 1 (into 6 c) 0 _ (off12_r3 c 0)) $$ HI
  iintro HI
  iapply (wp_loadV m c 1 (into 6 c) 0 _ (off12_r3 c 0)) $$ HI
  iintro HI
  rw [wp_ret]
  imodintro
  iapply Hk $$ HI HY

theorem part52_run {Q : (Σ' (v1887 : FVec F S256x64 .bf16) (v1913 : FVec F S256x64 .bf16), BitVec 32) → sProp 𝕄} (v33 : IVec S256x256 1) (v1473 : BitVec 32) (v1861 : FVec F S256x256 .bf16) (v1864 : FVec F S256x64 .bf16) (v1868 : FVec F S256x64 .bf16) (v1872 : FVec F S256x64 .bf16) :
    (ins m c : sProp 𝕄) ⊢ iprop(
      (ins m c -∗ Q ⟨k0_pay161 v33 v1864 v1868 v1872, k0_pay162 v33 v1861 (kS m c 1 (into 6 c) 1) (vS m c 1 (into 6 c) 1), 4#32⟩)
      -∗ wp frame (wpE (defs₀ (F := F)) 𝒱₀ (c : Thread nD τ) none) Set.univ (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1473 v1861 v1864 v1868 v1872) Q) := by
  rw [k0_part52_eq_skeleton]
  unfold k0_part52_skel
  simp only [Prog.lift, Prog.bind_op, Prog.bind_ret, Prog.pure_eq_ret]
  iintro HI Hk
  iapply (wp_loadK m c 1 (into 6 c) 1 _ (off12_r3 c 1)) $$ HI
  iintro HI
  iapply (wp_loadV m c 1 (into 6 c) 1 _ (off12_r3 c 1)) $$ HI
  iintro HI
  rw [wp_ret]
  imodintro
  iapply Hk $$ HI

theorem part53_run {Q : (Σ' (v1939 : FVec F S256x64 .bf16) (v1950 : FVec F S256x64 .bf16) (v1951 : FVec F S256x256 .f32), F .f32) → sProp 𝕄} (v33 : IVec S256x256 1) (v1473 : BitVec 32) (v1861 : FVec F S256x256 .bf16) (c4_i32_1145 : BitVec 32) :
    (ins m c : sProp 𝕄) ⊢ iprop(
      (ins m c -∗ Q ⟨k0_pay163 v33 v1861 (kS m c 1 (into 6 c) 2) (vS m c 1 (into 6 c) 2), k0_pay164 (vS m c 1 (into 6 c) 3), k0_pay165 v1861 (kS m c 1 (into 6 c) 3), (Scalar.ofBits .f32 0xCE6E6B28#32)⟩)
      -∗ wp frame (wpE (defs₀ (F := F)) 𝒱₀ (c : Thread nD τ) none) Set.univ (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1473 v1861 c4_i32_1145) Q) := by
  rw [k0_part53_eq_skeleton]
  unfold k0_part53_skel
  simp only [Prog.lift, Prog.bind_op, Prog.bind_ret, Prog.pure_eq_ret]
  iintro HI Hk
  iapply (wp_loadK m c 1 (into 6 c) 2 _ (off12_r3 c 2)) $$ HI
  iintro HI
  iapply (wp_loadV m c 1 (into 6 c) 2 _ (off12_r3 c 2)) $$ HI
  iintro HI
  iapply (wp_loadK m c 1 (into 6 c) 3 _ (off12_r3 c 3)) $$ HI
  iintro HI
  iapply (wp_loadV m c 1 (into 6 c) 3 _ (off12_r3 c 3)) $$ HI
  iintro HI
  rw [wp_ret]
  imodintro
  iapply Hk $$ HI

theorem part54_run {Q : (BitVec 32) → sProp 𝕄} (a a' : Vec F S1x256x512 .f32) (v2 : BitVec 32) (v33 : IVec S256x256 1) (v1737 : FVec F S256x512 .bf16) (v1887 : FVec F S256x64 .bf16) (v1913 : FVec F S256x64 .bf16) (v1939 : FVec F S256x64 .bf16) (v1950 : FVec F S256x64 .bf16) (v1951 : FVec F S256x256 .f32) (cst_1167 : F .f32) :
    (env m K c : sProp 𝕄) ⊢ iprop(ow c [] -∗ wt 1 3 c -∗ out c a a' -∗
      (ow c [] -∗ copyPay m 1 3 c -∗ out c a (k0_pay166 v33 v1737 v1887 v1913 v1939 v1950 v1951 cst_1167 a') -∗ semVal (cell 1 3 c) 0 -∗ Q (Scalar.remsi (Scalar.addi (Scalar.addi v2 4294967292#32) 16#32) 8#32))
      -∗ wp frame (wpE (defs₀ (F := F)) 𝒱₀ (c : Thread nD τ) none) Set.univ (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 v2 v33 v1737 v1887 v1913 v1939 v1950 v1951 cst_1167) Q) := by
  rw [k0_part54_eq_skeleton]
  unfold k0_part54_skel
  simp only [Prog.lift, Prog.bind_op, Prog.bind_ret, Prog.pure_eq_ret]
  iintro #HE HO HW13 HY Hk
  iapply (wp_loadY c 1 _ _ _ rfl) $$ HY
  rw [pick1]
  iintro HY
  iapply (wp_loadY c 1 _ _ _ rfl) $$ HY
  iintro HY
  iapply (wp_storeY1 c _ _ _) $$ HY
  iintro HY
  iapply (wp_waitQ m K c 1 (.inr rfl) 3 [] _ sem9_3 (by decide)) $$ HE HW13 HO
  iintro HZ13 HP13 HO
  rw [wp_ret]
  imodintro
  iapply Hk $$ HO HP13 HY HZ13

theorem part55_run {Q : (Σ' (v1995 : FVec F S512x256 .bf16) (v1998 : FVec F S256x512 .bf16) (v2004 : FVec F S256x256 .bf16) (v2015 : FVec F S256x64 .bf16) (v2016 : FVec F S256x256 .f32), F .f32) → sProp 𝕄} (q : PosShare TreeShare) (v2 : BitVec 32) (v1976 : BitVec 32) :
    (env m K c : sProp 𝕄) ⊢ iprop(ins m c -∗ ow c [] -∗ ptQ c (into 3 c) q (allQ m) -∗ wt 3 3 c -∗
      (ins m c -∗ ow c [] -∗ ptO c (into 3 c) fullShare (allO m) -∗ ptQ c (into 3 c) q (allQ m) -∗ semVal (cell 3 3 c) 0 -∗ Q ⟨k0_pay167 (wqS m (into 3 c)), k0_pay168 (woS m (into 3 c)), k0_pay169 (wqS m (into 3 c)) (xS m c 0), k0_pay170 (vS m c 0 (into 3 c) 0), k0_pay171 (wqS m (into 3 c)) (xS m c 0) (kS m c 0 (into 3 c) 0), (Scalar.ofBits .f32 0xCE6E6B28#32)⟩)
      -∗ wp frame (wpE (defs₀ (F := F)) 𝒱₀ (c : Thread nD τ) none) Set.univ (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v2 v1976) Q) := by
  rw [k0_part55_eq_skeleton]
  unfold k0_part55_skel
  simp only [Prog.lift, Prog.bind_op, Prog.bind_ret, Prog.pure_eq_ret]
  iintro #HE HI HO HSQ3 HW33 Hk
  iapply (wp_waitO m K c 3 (.inr rfl) 3 [] _ sem11_3 (by decide)) $$ HE HW33 HO
  iintro HZ33 HP33 HO
  iapply (wp_loadQ c (into 3 c) _ (allQ m) _ (off9_l4 c)) $$ HSQ3
  rw [readQ m (into 3 c)]
  iintro HSQ3
  ihave HSO3 := (show copyPay m 3 3 c ⊢ ptO c (into 3 c) fullShare (allO m) from .rfl) $$ HP33
  iapply (wp_loadO c (into 3 c) _ (allO m) _ (off10_l4 c)) $$ HSO3
  rw [readO m (into 3 c)]
  iintro HSO3
  iapply (wp_loadX m c 0 _ rfl) $$ HI
  iintro HI
  iapply (wp_loadK m c 0 (into 3 c) 0 _ (off11_l4 c 0)) $$ HI
  iintro HI
  iapply (wp_loadV m c 0 (into 3 c) 0 _ (off11_l4 c 0)) $$ HI
  iintro HI
  rw [wp_ret]
  imodintro
  iapply Hk $$ HI HO HSO3 HSQ3 HZ33

theorem part56_run {Q : (Σ' (v2030 : FVec F S256x64 .bf16) (v2056 : FVec F S256x64 .bf16), BitVec 32) → sProp 𝕄} (v33 : IVec S256x256 1) (v1976 : BitVec 32) (v2004 : FVec F S256x256 .bf16) (v2015 : FVec F S256x64 .bf16) (v2016 : FVec F S256x256 .f32) (cst_1218 : F .f32) :
    (ins m c : sProp 𝕄) ⊢ iprop(
      (ins m c -∗ Q ⟨k0_pay172 v33 v2015 v2016 cst_1218, k0_pay173 v33 v2004 (kS m c 0 (into 3 c) 1) (vS m c 0 (into 3 c) 1), (Scalar.addi (Scalar.muli v1976 4#32) 2#32)⟩)
      -∗ wp frame (wpE (defs₀ (F := F)) 𝒱₀ (c : Thread nD τ) none) Set.univ (k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1976 v2004 v2015 v2016 cst_1218) Q) := by
  rw [k0_part56_eq_skeleton]
  unfold k0_part56_skel
  simp only [Prog.lift, Prog.bind_op, Prog.bind_ret, Prog.pure_eq_ret]
  iintro HI Hk
  iapply (wp_loadK m c 0 (into 3 c) 1 _ (off11_l4 c 1)) $$ HI
  iintro HI
  iapply (wp_loadV m c 0 (into 3 c) 1 _ (off11_l4 c 1)) $$ HI
  iintro HI
  rw [wp_ret]
  imodintro
  iapply Hk $$ HI

theorem part57_run {Q : (Σ' (v2082 : FVec F S256x64 .bf16) (v2093 : FVec F S256x64 .bf16), FVec F S256x256 .f32) → sProp 𝕄} (v33 : IVec S256x256 1) (v1976 : BitVec 32) (v2004 : FVec F S256x256 .bf16) (v2058 : BitVec 32) :
    (ins m c : sProp 𝕄) ⊢ iprop(
      (ins m c -∗ Q ⟨k0_pay174 v33 v2004 (kS m c 0 (into 3 c) 2) (vS m c 0 (into 3 c) 2), k0_pay175 (vS m c 0 (into 3 c) 3), k0_pay176 v33 v2004 (kS m c 0 (into 3 c) 3)⟩)
      -∗ wp frame (wpE (defs₀ (F := F)) 𝒱₀ (c : Thread nD τ) none) Set.univ (k0_part57 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1976 v2004 v2058) Q) := by
  rw [k0_part57_eq_skeleton]
  unfold k0_part57_skel
  simp only [Prog.lift, Prog.bind_op, Prog.bind_ret, Prog.pure_eq_ret]
  iintro HI Hk
  iapply (wp_loadK m c 0 (into 3 c) 2 _ (off11_l4 c 2)) $$ HI
  iintro HI
  iapply (wp_loadV m c 0 (into 3 c) 2 _ (off11_l4 c 2)) $$ HI
  iintro HI
  iapply (wp_loadK m c 0 (into 3 c) 3 _ (off11_l4 c 3)) $$ HI
  iintro HI
  iapply (wp_loadV m c 0 (into 3 c) 3 _ (off11_l4 c 3)) $$ HI
  iintro HI
  rw [wp_ret]
  imodintro
  iapply Hk $$ HI

theorem part58_run {Q : (Σ' (v2122 : FVec F S256x256 .bf16) (v2125 : FVec F S256x64 .bf16) (v2129 : FVec F S256x64 .bf16), FVec F S256x64 .bf16) → sProp 𝕄} (a a' : Vec F S1x256x512 .f32) (v1976 : BitVec 32) (v1995 : FVec F S512x256 .bf16) (v1998 : FVec F S256x512 .bf16) (v2030 : FVec F S256x64 .bf16) (v2056 : FVec F S256x64 .bf16) (v2082 : FVec F S256x64 .bf16) (v2093 : FVec F S256x64 .bf16) (v2096 : FVec F S256x256 .f32) :
    (ins m c : sProp 𝕄) ⊢ iprop(out c a a' -∗
      (ins m c -∗ out c (k0_pay177 v1998 v2030 v2056 v2082 v2093 v2096 a) a' -∗ Q ⟨k0_pay178 v1995 (xS m c 1), k0_pay179 v1995 (xS m c 1), k0_pay180 (kS m c 1 (into 3 c) 0), k0_pay181 (vS m c 1 (into 3 c) 0)⟩)
      -∗ wp frame (wpE (defs₀ (F := F)) 𝒱₀ (c : Thread nD τ) none) Set.univ (k0_part58 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v1976 v1995 v1998 v2030 v2056 v2082 v2093 v2096) Q) := by
  rw [k0_part58_eq_skeleton]
  unfold k0_part58_skel
  simp only [Prog.lift, Prog.bind_op, Prog.bind_ret, Prog.pure_eq_ret]
  iintro HI HY Hk
  iapply (wp_loadY c 0 _ _ _ rfl) $$ HY
  rw [pick0]
  iintro HY
  iapply (wp_loadY c 0 _ _ _ rfl) $$ HY
  iintro HY
  iapply (wp_storeY0 c _ _ _) $$ HY
  iintro HY
  iapply (wp_loadX m c 1 _ rfl) $$ HI
  iintro HI
  iapply (wp_loadK m c 1 (into 3 c) 0 _ (off12_l4 c 0)) $$ HI
  iintro HI
  iapply (wp_loadV m c 1 (into 3 c) 0 _ (off12_l4 c 0)) $$ HI
  iintro HI
  rw [wp_ret]
  imodintro
  iapply Hk $$ HI HY

theorem part59_run {Q : (Σ' (v2148 : FVec F S256x64 .bf16) (v2174 : FVec F S256x64 .bf16), BitVec 32) → sProp 𝕄} (v33 : IVec S256x256 1) (v1976 : BitVec 32) (v2122 : FVec F S256x256 .bf16) (v2125 : FVec F S256x64 .bf16) (v2129 : FVec F S256x64 .bf16) (v2133 : FVec F S256x64 .bf16) :
    (ins m c : sProp 𝕄) ⊢ iprop(
      (ins m c -∗ Q ⟨k0_pay182 v33 v2125 v2129 v2133, k0_pay183 v33 v2122 (kS m c 1 (into 3 c) 1) (vS m c 1 (into 3 c) 1), 4#32⟩)
      -∗ wp frame (wpE (defs₀ (F := F)) 𝒱₀ (c : Thread nD τ) none) Set.univ (k0_part59 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1976 v2122 v2125 v2129 v2133) Q) := by
  rw [k0_part59_eq_skeleton]
  unfold k0_part59_skel
  simp only [Prog.lift, Prog.bind_op, Prog.bind_ret, Prog.pure_eq_ret]
  iintro HI Hk
  iapply (wp_loadK m c 1 (into 3 c) 1 _ (off12_l4 c 1)) $$ HI
  iintro HI
  iapply (wp_loadV m c 1 (into 3 c) 1 _ (off12_l4 c 1)) $$ HI
  iintro HI
  rw [wp_ret]
  imodintro
  iapply Hk $$ HI

theorem part60_run {Q : (Σ' (v2200 : FVec F S256x64 .bf16) (v2211 : FVec F S256x64 .bf16) (v2212 : FVec F S256x256 .f32), F .f32) → sProp 𝕄} (v33 : IVec S256x256 1) (v1976 : BitVec 32) (v2122 : FVec F S256x256 .bf16) (c4_i32_1299 : BitVec 32) :
    (ins m c : sProp 𝕄) ⊢ iprop(
      (ins m c -∗ Q ⟨k0_pay184 v33 v2122 (kS m c 1 (into 3 c) 2) (vS m c 1 (into 3 c) 2), k0_pay185 (vS m c 1 (into 3 c) 3), k0_pay186 v2122 (kS m c 1 (into 3 c) 3), (Scalar.ofBits .f32 0xCE6E6B28#32)⟩)
      -∗ wp frame (wpE (defs₀ (F := F)) 𝒱₀ (c : Thread nD τ) none) Set.univ (k0_part60 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1976 v2122 c4_i32_1299) Q) := by
  rw [k0_part60_eq_skeleton]
  unfold k0_part60_skel
  simp only [Prog.lift, Prog.bind_op, Prog.bind_ret, Prog.pure_eq_ret]
  iintro HI Hk
  iapply (wp_loadK m c 1 (into 3 c) 2 _ (off12_l4 c 2)) $$ HI
  iintro HI
  iapply (wp_loadV m c 1 (into 3 c) 2 _ (off12_l4 c 2)) $$ HI
  iintro HI
  iapply (wp_loadK m c 1 (into 3 c) 3 _ (off12_l4 c 3)) $$ HI
  iintro HI
  iapply (wp_loadV m c 1 (into 3 c) 3 _ (off12_l4 c 3)) $$ HI
  iintro HI
  rw [wp_ret]
  imodintro
  iapply Hk $$ HI

theorem part61_run {Q : (PUnit) → sProp 𝕄} (a a' : Vec F S1x256x512 .f32) (v33 : IVec S256x256 1) (v1998 : FVec F S256x512 .bf16) (v2148 : FVec F S256x64 .bf16) (v2174 : FVec F S256x64 .bf16) (v2200 : FVec F S256x64 .bf16) (v2211 : FVec F S256x64 .bf16) (v2212 : FVec F S256x256 .f32) (cst_1321 : F .f32) :
    (env m K c : sProp 𝕄) ⊢ iprop(ow c [] -∗ wt 0 0 c -∗ out c a a' -∗
      (ow c [] -∗ copyPay m 0 0 c -∗ out c a (k0_pay187 v33 v1998 v2148 v2174 v2200 v2211 v2212 cst_1321 a') -∗ semVal (cell 0 0 c) 0 -∗ Q ⟨⟩)
      -∗ wp frame (wpE (defs₀ (F := F)) 𝒱₀ (c : Thread nD τ) none) Set.univ (k0_part61 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c v33 v1998 v2148 v2174 v2200 v2211 v2212 cst_1321) Q) := by
  rw [k0_part61_eq_skeleton]
  unfold k0_part61_skel
  simp only [Prog.lift, Prog.bind_op, Prog.bind_ret, Prog.pure_eq_ret]
  iintro #HE HO HW00 HY Hk
  iapply (wp_loadY c 1 _ _ _ rfl) $$ HY
  rw [pick1]
  iintro HY
  iapply (wp_loadY c 1 _ _ _ rfl) $$ HY
  iintro HY
  iapply (wp_storeY1 c _ _ _) $$ HY
  iintro HY
  iapply (wp_waitQ m K c 0 (.inl rfl) 0 [] _ sem8_0 (by decide) (src := srcQ (k0_off3 c) (k0_off3_inb c)) (dst := srcQ (k0_off3 c) (k0_off3_inb c)) (hsrc := (((Memref.isWhole_whole _).wordExact_slice rfl _ (k0_off3_wordsbf16 c)).reshape _ _)) (hdst := (((Memref.isWhole_whole _).wordExact_slice rfl _ (k0_off3_wordsbf16 c)).reshape _ _))) $$ HE HW00 HO
  iintro HZ00 HP00 HO
  rw [wp_ret]
  imodintro
  iapply Hk $$ HO HP00 HY HZ00

theorem part62_run {Q : (PUnit) → sProp 𝕄} :
    (env m K c : sProp 𝕄) ⊢ iprop(ow c [] -∗ wt 0 1 c -∗ wt 0 4 c -∗ wt 2 0 c -∗ wt 2 1 c -∗ wt 2 4 c -∗
      (ow c [] -∗ copyPay m 0 1 c -∗ copyPay m 0 4 c -∗ copyPay m 2 0 c -∗ copyPay m 2 1 c -∗ copyPay m 2 4 c -∗ semVal (cell 0 1 c) 0 -∗ semVal (cell 0 4 c) 0 -∗ semVal (cell 2 0 c) 0 -∗ semVal (cell 2 1 c) 0 -∗ semVal (cell 2 4 c) 0 -∗ Q ⟨⟩)
      -∗ wp frame (wpE (defs₀ (F := F)) 𝒱₀ (c : Thread nD τ) none) Set.univ (k0_part62 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c) Q) := by
  rw [k0_part62_eq_skeleton]
  unfold k0_part62_skel
  simp only [Prog.lift, Prog.bind_op, Prog.bind_ret, Prog.pure_eq_ret]
  iintro #HE HO HW01 HW04 HW20 HW21 HW24 Hk
  iapply (wp_waitO m K c 2 (.inl rfl) 0 [] _ sem10_0 (by decide) (src := srcO (k0_off4 c) (k0_off4_inb c)) (dst := srcO (k0_off4 c) (k0_off4_inb c)) (hsrc := (((Memref.isWhole_whole _).wordExact_slice rfl _ (k0_off4_wordsbf16 c)).reshape _ _)) (hdst := (((Memref.isWhole_whole _).wordExact_slice rfl _ (k0_off4_wordsbf16 c)).reshape _ _))) $$ HE HW20 HO
  iintro HZ20 HP20 HO
  iapply (wp_waitQ m K c 0 (.inl rfl) 4 [] _ sem12_0 (by decide) (src := srcQ (k0_off3 c) (k0_off3_inb c)) (dst := srcQ (k0_off3 c) (k0_off3_inb c)) (hsrc := (((Memref.isWhole_whole _).wordExact_slice rfl _ (k0_off3_wordsbf16 c)).reshape _ _)) (hdst := (((Memref.isWhole_whole _).wordExact_slice rfl _ (k0_off3_wordsbf16 c)).reshape _ _))) $$ HE HW04 HO
  iintro HZ04 HP04 HO
  iapply (wp_waitO m K c 2 (.inl rfl) 4 [] _ sem14_0 (by decide) (src := srcO (k0_off4 c) (k0_off4_inb c)) (dst := srcO (k0_off4 c) (k0_off4_inb c)) (hsrc := (((Memref.isWhole_whole _).wordExact_slice rfl _ (k0_off4_wordsbf16 c)).reshape _ _)) (hdst := (((Memref.isWhole_whole _).wordExact_slice rfl _ (k0_off4_wordsbf16 c)).reshape _ _))) $$ HE HW24 HO
  iintro HZ24 HP24 HO
  iapply (wp_waitQ m K c 0 (.inl rfl) 1 [] _ sem8_1 (by decide) (src := srcQ (k0_off7 c 4294967295#32) (k0_off7_inb c 0)) (dst := srcQ (k0_off7 c 4294967295#32) (k0_off7_inb c 0)) (hsrc := (((Memref.isWhole_whole _).wordExact_slice rfl _ (k0_off7_wordsbf16 c 0)).reshape _ _)) (hdst := (((Memref.isWhole_whole _).wordExact_slice rfl _ (k0_off7_wordsbf16 c 0)).reshape _ _))) $$ HE HW01 HO
  iintro HZ01 HP01 HO
  iapply (wp_waitO m K c 2 (.inl rfl) 1 [] _ sem10_1 (by decide) (src := srcO (k0_off8 c 4294967295#32) (k0_off8_inb c 0)) (dst := srcO (k0_off8 c 4294967295#32) (k0_off8_inb c 0)) (hsrc := (((Memref.isWhole_whole _).wordExact_slice rfl _ (k0_off8_wordsbf16 c 0)).reshape _ _)) (hdst := (((Memref.isWhole_whole _).wordExact_slice rfl _ (k0_off8_wordsbf16 c 0)).reshape _ _))) $$ HE HW21 HO
  iintro HZ21 HP21 HO
  rw [wp_ret]
  imodintro
  iapply Hk $$ HO HP01 HP04 HP20 HP21 HP24 HZ01 HZ04 HZ20 HZ21 HZ24

theorem part63_run {Q : (PUnit) → sProp 𝕄} :
    (env m K c : sProp 𝕄) ⊢ iprop(ow c [] -∗ wt 0 2 c -∗ wt 0 5 c -∗ wt 2 2 c -∗ wt 2 5 c -∗
      (ow c [] -∗ copyPay m 0 2 c -∗ copyPay m 0 5 c -∗ copyPay m 2 2 c -∗ copyPay m 2 5 c -∗ semVal (cell 0 2 c) 0 -∗ semVal (cell 0 5 c) 0 -∗ semVal (cell 2 2 c) 0 -∗ semVal (cell 2 5 c) 0 -∗ Q ⟨⟩)
      -∗ wp frame (wpE (defs₀ (F := F)) 𝒱₀ (c : Thread nD τ) none) Set.univ (k0_part63 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 c) Q) := by
  rw [k0_part63_eq_skeleton]
  unfold k0_part63_skel
  simp only [Prog.lift, Prog.bind_op, Prog.bind_ret, Prog.pure_eq_ret]
  iintro #HE HO HW02 HW05 HW22 HW25 Hk
  iapply (wp_waitQ m K c 0 (.inl rfl) 5 [] _ sem12_1 (by decide) (src := srcQ (k0_off7 c 1#32) (k0_off7_inb c 1)) (dst := srcQ (k0_off7 c 1#32) (k0_off7_inb c 1)) (hsrc := (((Memref.isWhole_whole _).wordExact_slice rfl _ (k0_off7_wordsbf16 c 1)).reshape _ _)) (hdst := (((Memref.isWhole_whole _).wordExact_slice rfl _ (k0_off7_wordsbf16 c 1)).reshape _ _))) $$ HE HW05 HO
  iintro HZ05 HP05 HO
  iapply (wp_waitO m K c 2 (.inl rfl) 5 [] _ sem14_1 (by decide) (src := srcO (k0_off8 c 1#32) (k0_off8_inb c 1)) (dst := srcO (k0_off8 c 1#32) (k0_off8_inb c 1)) (hsrc := (((Memref.isWhole_whole _).wordExact_slice rfl _ (k0_off8_wordsbf16 c 1)).reshape _ _)) (hdst := (((Memref.isWhole_whole _).wordExact_slice rfl _ (k0_off8_wordsbf16 c 1)).reshape _ _))) $$ HE HW25 HO
  iintro HZ25 HP25 HO
  iapply (wp_waitQ m K c 0 (.inl rfl) 2 [] _ sem8_2 (by decide) (src := srcQ (k0_off7 c 4294967294#32) (k0_off7_inb c 2)) (dst := srcQ (k0_off7 c 4294967294#32) (k0_off7_inb c 2)) (hsrc := (((Memref.isWhole_whole _).wordExact_slice rfl _ (k0_off7_wordsbf16 c 2)).reshape _ _)) (hdst := (((Memref.isWhole_whole _).wordExact_slice rfl _ (k0_off7_wordsbf16 c 2)).reshape _ _))) $$ HE HW02 HO
  iintro HZ02 HP02 HO
  iapply (wp_waitO m K c 2 (.inl rfl) 2 [] _ sem10_2 (by decide) (src := srcO (k0_off8 c 4294967294#32) (k0_off8_inb c 2)) (dst := srcO (k0_off8 c 4294967294#32) (k0_off8_inb c 2)) (hsrc := (((Memref.isWhole_whole _).wordExact_slice rfl _ (k0_off8_wordsbf16 c 2)).reshape _ _)) (hdst := (((Memref.isWhole_whole _).wordExact_slice rfl _ (k0_off8_wordsbf16 c 2)).reshape _ _))) $$ HE HW22 HO
  iintro HZ22 HP22 HO
  rw [wp_ret]
  imodintro
  iapply Hk $$ HO HP02 HP05 HP22 HP25 HZ02 HZ05 HZ22 HZ25

end Cert.KernelIdeal.Ring

end
-- ==== Proof.KernelIdealBody.lean ====
/-
# The body of one device

The whole body at a device `c`: from its blocks, its own slots, the tokens and the places at its
cells, to its output summed over all groups and every cell of its own closed at nought.
-/
module

public import proofs.«01_k».proof.Proof.KernelIdealStart
public import proofs.«01_k».proof.Proof.KernelIdealParts1
public import proofs.«01_k».proof.Proof.KernelIdealParts2
public import proofs.«01_k».proof.Proof.KernelIdealParts3
public import proofs.«01_k».proof.Proof.KernelIdealParts4

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

theorem seven {M : Type} [URA M] (Φ : Hop → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The four cells of transfer `t` at a device, at nought. -/
def shut (t : Hop) (c : Dev nD) : sProp 𝕄 :=
  iprop(semVal (cell 0 t c) 0 ∗ semVal (cell 1 t c) 0 ∗ semVal (cell 2 t c) 0 ∗ semVal (cell 3 t c) 0)

theorem scratchQ : (pt c cc0_scratch0 (allQ m) : sProp 𝕄) = iprop(ptQ c c fullShare (allQ m) ∗ ptQ c (into 0 c) fullShare (allQ m) ∗ ptQ c (into 1 c) fullShare (allQ m) ∗ ptQ c (into 2 c) fullShare (allQ m)
    ∗ ptQ c (into 3 c) fullShare (allQ m) ∗ ptQ c (into 4 c) fullShare (allQ m) ∗ ptQ c (into 5 c) fullShare (allQ m) ∗ ptQ c (into 6 c) fullShare (allQ m)) :=
  (wholeQ c (allQ m)).trans (slots_eq c fun j => ptQ c j fullShare (allQ m))
theorem scratchO : (pt c cc0_scratch1 (allO m) : sProp 𝕄) = iprop(ptO c c fullShare (allO m) ∗ ptO c (into 0 c) fullShare (allO m) ∗ ptO c (into 1 c) fullShare (allO m) ∗ ptO c (into 2 c) fullShare (allO m)
    ∗ ptO c (into 3 c) fullShare (allO m) ∗ ptO c (into 4 c) fullShare (allO m) ∗ ptO c (into 5 c) fullShare (allO m) ∗ ptO c (into 6 c) fullShare (allO m)) :=
  (wholeO c (allO m)).trans (slots_eq c fun j => ptO c j fullShare (allO m))

set_option maxHeartbeats 4000000 in
theorem body_run {Q : PUnit → sProp 𝕄} (a a' : Vec F S1x256x512 .f32) (f : (cc0_scratch0 : Ref sig .tc).ty.Contents (Elt F)) (g : (cc0_scratch1 : Ref sig .tc).ty.Contents (Elt F)) :
    (env m K c : sProp 𝕄) ⊢ iprop(ins m c -∗ out c a a' -∗ ptQ c c fullShare f -∗ ptO c c fullShare g -∗ ow c dues
      -∗ dutyTok ER (barCell (lf c)) 0 true -∗ dutyTok ER (barCell (rt c)) 0 false
      -∗ bigSep Finset.univ (fun t => landing t c) -∗ bigSep Finset.univ (fun t => tok t c)
      -∗ atPos ER (barCell c) 0 ∅ 0 -∗ cred (tallyAt (barCell c) () 2)
      -∗ ((ins m c ∗ out c (sumV m c 0 used) (sumV m c 1 used) ∗ pt c cc0_scratch0 (allQ m) ∗ pt c cc0_scratch1 (allO m) ∗ ow c []
        ∗ semVal (barCell c) 0 ∗ bigSep Finset.univ (fun t => shut t c)) -∗ Q ⟨⟩)
      -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9) Q) := by
  rw [seven, seven, seven, scratchQ m c, scratchO m c]
  rw [cc0_body_eq_skeleton]
  unfold cc0_body_skel
  rw [wp_bind, k0_part64_eq_skeleton]
  unfold k0_part64_skel
  iintro #HE HI HY HQ HQ' HO Hb1 Hb2 ⟨HL0, HL1, HL2, HL3, HL4, HL5, HL6⟩ ⟨HK0, HK1, HK2, HK3, HK4, HK5, HK6⟩ Hba Hbc Hk
  rw [wp_bind]
  iapply (part1_run m K c f g) $$ HE HI HQ HQ' HO Hb1 Hb2 [HL0 HL1 HL2 HL3] [HL4 HL5 HL6] Hba Hbc
  · isplitl [HL0]; · iexact HL0
    isplitl [HL1]; · iexact HL1
    isplitl [HL2]; · iexact HL2
    iexact HL3
  · isplitl [HL4]; · iexact HL4
    isplitl [HL5]; · iexact HL5
    iexact HL6
  iintro HI HQ HQ' HO Hb0 ⟨HL4, HL5, HL6⟩ ⟨HL0, HL1, HL2, HL3⟩
  ihave HX0 := (tok_tx c 0 _ (nb_rt c 0 (by decide))) $$ [HK0 HL0]
  · isplitl [HK0]; · iexact HK0
    iexact HL0
  icases HX0 with ⟨HTQ0, HTO0, HW10, HW30⟩
  ihave HX1 := (tok_tx c 1 _ (nb_rt c 1 (by decide))) $$ [HK1 HL1]
  · isplitl [HK1]; · iexact HK1
    iexact HL1
  icases HX1 with ⟨HTQ1, HTO1, HW11, HW31⟩
  ihave HX2 := (tok_tx c 2 _ (nb_rt c 2 (by decide))) $$ [HK2 HL2]
  · isplitl [HK2]; · iexact HK2
    iexact HL2
  icases HX2 with ⟨HTQ2, HTO2, HW12, HW32⟩
  ihave HX3 := (tok_tx c 3 _ (nb_rt c 3 (by decide))) $$ [HK3 HL3]
  · isplitl [HK3]; · iexact HK3
    iexact HL3
  icases HX3 with ⟨HTQ3, HTO3, HW13, HW33⟩
  ihave HX4 := (tok_tx c 4 _ (nb_lf c 4 (by decide))) $$ [HK4 HL4]
  · isplitl [HK4]; · iexact HK4
    iexact HL4
  icases HX4 with ⟨HTQ4, HTO4, HW14, HW34⟩
  ihave HX5 := (tok_tx c 5 _ (nb_lf c 5 (by decide))) $$ [HK5 HL5]
  · isplitl [HK5]; · iexact HK5
    iexact HL5
  icases HX5 with ⟨HTQ5, HTO5, HW15, HW35⟩
  ihave HX6 := (tok_tx c 6 _ (nb_lf c 6 (by decide))) $$ [HK6 HL6]
  · isplitl [HK6]; · iexact HK6
    iexact HL6
  icases HX6 with ⟨HTQ6, HTO6, HW16, HW36⟩
  ihave HXQ := (ownQ m c) $$ HQ
  icases HXQ with ⟨HFQ0, HFQ4⟩
  ihave HXO := (ownO m c) $$ HQ'
  icases HXO with ⟨HFO0, HFO4⟩
  try dsimp only
  rw [wp_bind]
  iapply (part2_run m K c _ _ _ _) $$ HE HFO0 HFQ0 HO HTO0 HTQ0
  iintro HO HW00 HW20
  try dsimp only
  rw [wp_bind]
  iapply (part3_run m K c _ _) $$ HE HFO4 HFQ4 HI HO HTO4 HTQ4
  iintro HI HO HW04 HW24
  try dsimp only
  rw [wp_bind]
  iapply (part4_run m c _ _ _ _ _ _ _) $$ HI
  iintro HI
  try dsimp only
  rw [wp_bind]
  iapply (part5_run m c _ _ _ _) $$ HI
  iintro HI
  try dsimp only
  rw [wp_bind]
  iapply (part6_run m c _ _ _ _ _ _ _ _ _ _ _ _) $$ HI HY
  iintro HI HY
  generalize hz : k0_pay16 (F := F) _ _ _ _ _ _ _ _ = z
  rw [show z = (sumV m c 0 []) from hz.symm.trans rfl]
  clear hz z
  try dsimp only
  rw [wp_bind]
  iapply (part7_run m c _ _ _ _ _ _) $$ HI
  iintro HI
  try dsimp only
  rw [wp_bind]
  iapply (part8_run m c _ _ _ _ _) $$ HI
  iintro HI
  try dsimp only
  rw [wp_bind]
  iapply (part9_run m K c _ _ _ _ _ _ _ _ _ _) $$ HE HO HW10 HY
  iintro HO HP10 HY HZ10
  generalize hz : k0_pay28 (F := F) _ _ _ _ _ _ _ = z
  rw [show z = (sumV m c 1 []) from hz.symm.trans rfl]
  clear hz z
  try dsimp only
  rw [wp_bind]
  ihave HX := (fwdQ m c 1 0 (frm_1 c) rfl) $$ HP10
  icases HX with ⟨HFQ1, HSQ0⟩
  iapply (part10_run m K c _ _) $$ HE HFQ1 HO HTO1 HTQ1 HW30
  iintro HO HSO0 HW01 HW21 HZ30
  try dsimp only
  rw [wp_bind]
  iapply (part11_run m K c _ _) $$ HE HO HTQ5 HW14 HW34
  iintro HO HP34 HSQ4 HW05 HZ14 HZ34
  try dsimp only
  rw [wp_bind]
  ihave HX := (fwdO m c 5 4 (frm_5 c) rfl) $$ HP34
  icases HX with ⟨HFO5, HSO4⟩
  iapply (part12_run m K c _ _ _) $$ HE HFO5 HI HO HSO0 HSQ0 HTO5
  iintro HI HO HSO0 HSQ0 HW25
  try dsimp only
  rw [wp_bind]
  iapply (part13_run m c _ _ _ _ _ _) $$ HI
  iintro HI
  try dsimp only
  rw [wp_bind]
  iapply (part14_run m c _ _ _ _ _) $$ HI
  iintro HI
  try dsimp only
  rw [wp_bind]
  iapply (part15_run m c _ _ _ _ _ _ _ _ _ _ _) $$ HI HY
  iintro HI HY
  generalize hz : k0_pay42 (F := F) _ _ _ _ _ _ _ = z
  rw [show z = (sumV m c 0 [0]) from hz.symm.trans rfl]
  clear hz z
  try dsimp only
  rw [wp_bind]
  iapply (part16_run m c _ _ _ _ _) $$ HI
  iintro HI
  try dsimp only
  rw [wp_bind]
  iapply (part17_run m c _ _ _ _ _ _) $$ HI
  iintro HI
  try dsimp only
  rw [wp_bind]
  iapply (part18_run m c _ _ _ _ _ _ _ _ _ _ _) $$ HI HSO4 HSQ4 HY
  iintro HI HSO4 HSQ4 HY
  generalize hz : k0_pay54 (F := F) _ _ _ _ _ _ _ _ = z
  rw [show z = (sumV m c 1 [0]) from hz.symm.trans rfl]
  clear hz z
  try dsimp only
  rw [wp_bind]
  iapply (part19_run m c _ _ _ _ _) $$ HI
  iintro HI
  try dsimp only
  rw [wp_bind]
  iapply (part20_run m c _ _ _ _ _ _) $$ HI
  iintro HI
  try dsimp only
  rw [wp_bind]
  iapply (part21_run m c _ _ _ _ _ _ _ _ _ _ _ _) $$ HI HY
  iintro HI HY
  generalize hz : k0_pay68 (F := F) _ _ _ _ _ _ _ _ _ = z
  rw [show z = (sumV m c 0 [4, 0]) from hz.symm.trans rfl]
  clear hz z
  try dsimp only
  rw [wp_bind]
  iapply (part22_run m c _ _ _ _ _ _) $$ HI
  iintro HI
  try dsimp only
  rw [wp_bind]
  iapply (part23_run m c _ _ _ _ _ _) $$ HI
  iintro HI
  try dsimp only
  rw [wp_bind]
  iapply (part24_run m c _ _ _ _ _ _ _ _ _ _) $$ HI HY
  iintro HI HY
  generalize hz : k0_pay80 (F := F) _ _ _ _ _ _ _ _ _ = z
  rw [show z = (sumV m c 1 [4, 0]) from hz.symm.trans rfl]
  clear hz z
  try dsimp only
  rw [wp_bind]
  iapply (part25_run m K c _ _) $$ HE HO HTQ2 HW11 HW31
  iintro HO HP31 HSQ1 HW02 HZ11 HZ31
  try dsimp only
  rw [wp_bind]
  ihave HX := (fwdO m c 2 1 (frm_2 c) rfl) $$ HP31
  icases HX with ⟨HFO2, HSO1⟩
  iapply (part26_run m K c _ _) $$ HE HFO2 HO HTO2 HW15 HW35
  iintro HO HP15 HP35 HW22 HZ15 HZ35
  try dsimp only
  rw [wp_bind]
  ihave HX := (fwdO m c 6 5 (frm_6 c) rfl) $$ HP35
  icases HX with ⟨HFO6, HSO5⟩
  ihave HX := (fwdQ m c 6 5 (frm_6 c) rfl) $$ HP15
  icases HX with ⟨HFQ6, HSQ5⟩
  iapply (part27_run m K c _ _ _) $$ HE HFO6 HFQ6 HI HO HSO1 HSQ1 HTO6 HTQ6
  iintro HI HO HSO1 HSQ1 HW06 HW26
  try dsimp only
  rw [wp_bind]
  iapply (part28_run m c _ _ _ _ _) $$ HI
  iintro HI
  try dsimp only
  rw [wp_bind]
  iapply (part29_run m c _ _ _ _ _ _) $$ HI
  iintro HI
  try dsimp only
  rw [wp_bind]
  iapply (part30_run m c _ _ _ _ _ _ _ _ _ _ _ _) $$ HI HY
  iintro HI HY
  generalize hz : k0_pay94 (F := F) _ _ _ _ _ _ _ _ _ = z
  rw [show z = (sumV m c 0 [1, 4, 0]) from hz.symm.trans rfl]
  clear hz z
  try dsimp only
  rw [wp_bind]
  iapply (part31_run m c _ _ _ _ _ _) $$ HI
  iintro HI
  try dsimp only
  rw [wp_bind]
  iapply (part32_run m c _ _ _ _ _ _) $$ HI
  iintro HI
  try dsimp only
  rw [wp_bind]
  iapply (part33_run m c _ _ _ _ _ _ _ _ _ _ _) $$ HI HSO5 HSQ5 HY
  iintro HI HSO5 HSQ5 HY
  generalize hz : k0_pay106 (F := F) _ _ _ _ _ _ _ _ _ = z
  rw [show z = (sumV m c 1 [1, 4, 0]) from hz.symm.trans rfl]
  clear hz z
  try dsimp only
  rw [wp_bind]
  iapply (part34_run m c _ _ _) $$ HI
  iintro HI
  try dsimp only
  rw [wp_bind]
  iapply (part35_run m c _ _ _ _ _) $$ HI
  iintro HI
  try dsimp only
  rw [wp_bind]
  iapply (part36_run m c _ _ _ _ _ _ _ _ _ _ _) $$ HI HY
  iintro HI HY
  generalize hz : k0_pay115 (F := F) _ _ _ _ _ _ _ _ _ = z
  rw [show z = (sumV m c 0 [5, 1, 4, 0]) from hz.symm.trans rfl]
  clear hz z
  try dsimp only
  rw [wp_bind]
  iapply (part37_run m c _ _ _ _) $$ HI
  iintro HI
  try dsimp only
  rw [wp_bind]
  iapply (part38_run m c _ _ _ _ _ _) $$ HI
  iintro HI
  try dsimp only
  rw [wp_bind]
  iapply (part39_run m c _ _ _ _ _ _ _ _ _ _) $$ HI HY
  iintro HI HY
  generalize hz : k0_pay124 (F := F) _ _ _ _ _ _ _ _ _ = z
  rw [show z = (sumV m c 1 [5, 1, 4, 0]) from hz.symm.trans rfl]
  clear hz z
  try dsimp only
  rw [wp_bind]
  iapply (part40_run m K c _ _ _ _) $$ HE HO HTQ3 HW12 HW32
  iintro HO HP32 HSQ2 HW03 HZ12 HZ32
  try dsimp only
  rw [wp_bind]
  ihave HX := (fwdO m c 3 2 (frm_3 c) rfl) $$ HP32
  icases HX with ⟨HFO3, HSO2⟩
  iapply (part41_run m K c _ _) $$ HE HFO3 HO HTO3 HW16
  iintro HO HP16 HW23 HZ16
  try dsimp only
  rw [wp_bind]
  iapply (part42_run m K c _ _ _) $$ HE HI HO HSO2 HSQ2 HW36
  iintro HI HO HP36 HSO2 HSQ2 HZ36
  try dsimp only
  rw [wp_bind]
  iapply (part43_run m c _ _ _ _) $$ HI
  iintro HI
  try dsimp only
  rw [wp_bind]
  iapply (part44_run m c _ _ _ _ _ _ _ _ _) $$ HI
  iintro HI
  try dsimp only
  rw [wp_bind]
  iapply (part45_run m c _ _ _ _ _ _ _ _) $$ HI HY
  iintro HI HY
  generalize hz : k0_pay135 (F := F) _ _ _ _ = z
  rw [show z = (sumV m c 0 [2, 5, 1, 4, 0]) from hz.symm.trans rfl]
  clear hz z
  try dsimp only
  rw [wp_bind]
  iapply (part46_run m c _ _ _ _ _) $$ HI
  iintro HI
  try dsimp only
  rw [wp_bind]
  iapply (part47_run m c _ _ _ _ _ _) $$ HI
  iintro HI
  try dsimp only
  rw [wp_bind]
  ihave HSO6 := (show copyPay m 3 6 c ⊢ ptO c (into 6 c) fullShare (allO m) from .rfl) $$ HP36
  ihave HSQ6 := (show copyPay m 1 6 c ⊢ ptQ c (into 6 c) fullShare (allQ m) from .rfl) $$ HP16
  iapply (part48_run m c _ _ _ _ _ _ _ _ _) $$ HI HSO6 HSQ6 HY
  iintro HI HSO6 HSQ6 HY
  generalize hz : k0_pay145 (F := F) _ _ _ _ _ _ = z
  rw [show z = (sumV m c 1 [2, 5, 1, 4, 0]) from hz.symm.trans rfl]
  clear hz z
  try dsimp only
  rw [wp_bind]
  iapply (part49_run m c _ _ _ _ _ _) $$ HI
  iintro HI
  try dsimp only
  rw [wp_bind]
  iapply (part50_run m c _ _ _ _) $$ HI
  iintro HI
  try dsimp only
  rw [wp_bind]
  iapply (part51_run m c _ _ _ _ _ _ _ _ _ _) $$ HI HY
  iintro HI HY
  generalize hz : k0_pay156 (F := F) _ _ _ _ _ _ _ = z
  rw [show z = (sumV m c 0 [6, 2, 5, 1, 4, 0]) from hz.symm.trans rfl]
  clear hz z
  try dsimp only
  rw [wp_bind]
  iapply (part52_run m c _ _ _ _ _ _) $$ HI
  iintro HI
  try dsimp only
  rw [wp_bind]
  iapply (part53_run m c _ _ _ _) $$ HI
  iintro HI
  try dsimp only
  rw [wp_bind]
  iapply (part54_run m K c _ _ _ _ _ _ _ _ _ _ _) $$ HE HO HW13 HY
  iintro HO HP13 HY HZ13
  generalize hz : k0_pay166 (F := F) _ _ _ _ _ _ _ _ _ = z
  rw [show z = (sumV m c 1 [6, 2, 5, 1, 4, 0]) from hz.symm.trans rfl]
  clear hz z
  try dsimp only
  rw [wp_bind]
  ihave HSQ3 := (show copyPay m 1 3 c ⊢ ptQ c (into 3 c) fullShare (allQ m) from .rfl) $$ HP13
  iapply (part55_run m K c _ _ _) $$ HE HI HO HSQ3 HW33
  iintro HI HO HSO3 HSQ3 HZ33
  try dsimp only
  rw [wp_bind]
  iapply (part56_run m c _ _ _ _ _ _) $$ HI
  iintro HI
  try dsimp only
  rw [wp_bind]
  iapply (part57_run m c _ _ _ _) $$ HI
  iintro HI
  try dsimp only
  rw [wp_bind]
  iapply (part58_run m c _ _ _ _ _ _ _ _ _ _) $$ HI HY
  iintro HI HY
  generalize hz : k0_pay177 (F := F) _ _ _ _ _ _ _ = z
  rw [show z = (sumV m c 0 [3, 6, 2, 5, 1, 4, 0]) from hz.symm.trans rfl]
  clear hz z
  try dsimp only
  rw [wp_bind]
  iapply (part59_run m c _ _ _ _ _ _) $$ HI
  iintro HI
  try dsimp only
  rw [wp_bind]
  iapply (part60_run m c _ _ _ _) $$ HI
  iintro HI
  try dsimp only
  rw [Prog.pure_eq_ret, wp_ret]
  imodintro
  try dsimp only
  rw [wp_bind]
  iapply (part61_run m K c _ _ _ _ _ _ _ _ _ _) $$ HE HO HW00 HY
  iintro HO HP00 HY HZ00
  generalize hz : k0_pay187 (F := F) _ _ _ _ _ _ _ _ _ = z
  rw [show z = (sumV m c 1 [3, 6, 2, 5, 1, 4, 0]) from hz.symm.trans rfl]
  clear hz z
  try dsimp only
  rw [wp_bind]
  iapply (part62_run m K c ) $$ HE HO HW01 HW04 HW20 HW21 HW24
  iintro HO HP01 HP04 HP20 HP21 HP24 HZ01 HZ04 HZ20 HZ21 HZ24
  try dsimp only
  rw [wp_bind]
  iapply (part63_run m K c ) $$ HE HO HW02 HW05 HW22 HW25
  iintro HO HP02 HP05 HP22 HP25 HZ02 HZ05 HZ22 HZ25
  try dsimp only
  simp only [Prog.lift, Prog.bind_op, Prog.bind_ret, Prog.pure_eq_ret]
  iapply (wp_waitQ m K c 0 (.inl rfl) 6 [] _ sem12_2 (by decide) (src := srcQ (k0_off7 c 2#32) (k0_off7_inb c 3)) (dst := srcQ (k0_off7 c 2#32) (k0_off7_inb c 3)) (hsrc := (((Memref.isWhole_whole _).wordExact_slice rfl _ (k0_off7_wordsbf16 c 3)).reshape _ _)) (hdst := (((Memref.isWhole_whole _).wordExact_slice rfl _ (k0_off7_wordsbf16 c 3)).reshape _ _))) $$ HE HW06 HO
  iintro HZ06 HP06 HO
  iapply (wp_waitO m K c 2 (.inl rfl) 6 [] _ sem14_2 (by decide) (src := srcO (k0_off8 c 2#32) (k0_off8_inb c 3)) (dst := srcO (k0_off8 c 2#32) (k0_off8_inb c 3)) (hsrc := (((Memref.isWhole_whole _).wordExact_slice rfl _ (k0_off8_wordsbf16 c 3)).reshape _ _)) (hdst := (((Memref.isWhole_whole _).wordExact_slice rfl _ (k0_off8_wordsbf16 c 3)).reshape _ _))) $$ HE HW26 HO
  iintro HZ26 HP26 HO
  iapply (wp_waitQ m K c 0 (.inl rfl) 3 [] _ sem8_3 (by decide) (src := srcQ (k0_off7 c 4294967293#32) (k0_off7_inb c 4)) (dst := srcQ (k0_off7 c 4294967293#32) (k0_off7_inb c 4)) (hsrc := (((Memref.isWhole_whole _).wordExact_slice rfl _ (k0_off7_wordsbf16 c 4)).reshape _ _)) (hdst := (((Memref.isWhole_whole _).wordExact_slice rfl _ (k0_off7_wordsbf16 c 4)).reshape _ _))) $$ HE HW03 HO
  iintro HZ03 HP03 HO
  iapply (wp_waitO m K c 2 (.inl rfl) 3 [] _ sem10_3 (by decide) (src := srcO (k0_off8 c 4294967293#32) (k0_off8_inb c 4)) (dst := srcO (k0_off8 c 4294967293#32) (k0_off8_inb c 4)) (hsrc := (((Memref.isWhole_whole _).wordExact_slice rfl _ (k0_off8_wordsbf16 c 4)).reshape _ _)) (hdst := (((Memref.isWhole_whole _).wordExact_slice rfl _ (k0_off8_wordsbf16 c 4)).reshape _ _))) $$ HE HW23 HO
  iintro HZ23 HP23 HO
  ihave HBQ := (ownBackQ m c) $$ [HP00 HP04]
  · isplitl [HP00]; · iexact HP00
    iexact HP04
  ihave HBQ0 := (backQ m c 1 0 (frm_1 c) rfl) $$ [HP01 HSQ0]
  · isplitl [HP01]; · iexact HP01
    iexact HSQ0
  ihave HBQ1 := (backQ m c 2 1 (frm_2 c) rfl) $$ [HP02 HSQ1]
  · isplitl [HP02]; · iexact HP02
    iexact HSQ1
  ihave HBQ2 := (backQ m c 3 2 (frm_3 c) rfl) $$ [HP03 HSQ2]
  · isplitl [HP03]; · iexact HP03
    iexact HSQ2
  ihave HBQ4 := (backQ m c 5 4 (frm_5 c) rfl) $$ [HP05 HSQ4]
  · isplitl [HP05]; · iexact HP05
    iexact HSQ4
  ihave HBQ5 := (backQ m c 6 5 (frm_6 c) rfl) $$ [HP06 HSQ5]
  · isplitl [HP06]; · iexact HP06
    iexact HSQ5
  ihave HBO := (ownBackO m c) $$ [HP20 HP24]
  · isplitl [HP20]; · iexact HP20
    iexact HP24
  ihave HBO0 := (backO m c 1 0 (frm_1 c) rfl) $$ [HP21 HSO0]
  · isplitl [HP21]; · iexact HP21
    iexact HSO0
  ihave HBO1 := (backO m c 2 1 (frm_2 c) rfl) $$ [HP22 HSO1]
  · isplitl [HP22]; · iexact HP22
    iexact HSO1
  ihave HBO2 := (backO m c 3 2 (frm_3 c) rfl) $$ [HP23 HSO2]
  · isplitl [HP23]; · iexact HP23
    iexact HSO2
  ihave HBO4 := (backO m c 5 4 (frm_5 c) rfl) $$ [HP25 HSO4]
  · isplitl [HP25]; · iexact HP25
    iexact HSO4
  ihave HBO5 := (backO m c 6 5 (frm_6 c) rfl) $$ [HP26 HSO5]
  · isplitl [HP26]; · iexact HP26
    iexact HSO5
  rw [wp_ret]
  imodintro
  iapply Hk
  isplitl [HI]; · iexact HI
  isplitl [HY]; · iexact HY
  isplitl [HBQ HBQ0 HBQ1 HBQ2 HSQ3 HBQ4 HBQ5 HSQ6]
  · isplitl [HBQ]; · iexact HBQ
    isplitl [HBQ0]; · iexact HBQ0
    isplitl [HBQ1]; · iexact HBQ1
    isplitl [HBQ2]; · iexact HBQ2
    isplitl [HSQ3]; · iexact HSQ3
    isplitl [HBQ4]; · iexact HBQ4
    isplitl [HBQ5]; · iexact HBQ5
    iexact HSQ6
  isplitl [HBO HBO0 HBO1 HBO2 HSO3 HBO4 HBO5 HSO6]
  · isplitl [HBO]; · iexact HBO
    isplitl [HBO0]; · iexact HBO0
    isplitl [HBO1]; · iexact HBO1
    isplitl [HBO2]; · iexact HBO2
    isplitl [HSO3]; · iexact HSO3
    isplitl [HBO4]; · iexact HBO4
    isplitl [HBO5]; · iexact HBO5
    iexact HSO6
  isplitl [HO]; · iexact HO
  isplitl [Hb0]; · iexact Hb0
  unfold shut
  isplitl [HZ00 HZ10 HZ20 HZ30]
  · isplitl [HZ00]; · iexact HZ00
    isplitl [HZ10]; · iexact HZ10
    isplitl [HZ20]; · iexact HZ20
    iexact HZ30
  isplitl [HZ01 HZ11 HZ21 HZ31]
  · isplitl [HZ01]; · iexact HZ01
    isplitl [HZ11]; · iexact HZ11
    isplitl [HZ21]; · iexact HZ21
    iexact HZ31
  isplitl [HZ02 HZ12 HZ22 HZ32]
  · isplitl [HZ02]; · iexact HZ02
    isplitl [HZ12]; · iexact HZ12
    isplitl [HZ22]; · iexact HZ22
    iexact HZ32
  isplitl [HZ03 HZ13 HZ23 HZ33]
  · isplitl [HZ03]; · iexact HZ03
    isplitl [HZ13]; · iexact HZ13
    isplitl [HZ23]; · iexact HZ23
    iexact HZ33
  isplitl [HZ04 HZ14 HZ24 HZ34]
  · isplitl [HZ04]; · iexact HZ04
    isplitl [HZ14]; · iexact HZ14
    isplitl [HZ24]; · iexact HZ24
    iexact HZ34
  isplitl [HZ05 HZ15 HZ25 HZ35]
  · isplitl [HZ05]; · iexact HZ05
    isplitl [HZ15]; · iexact HZ15
    isplitl [HZ25]; · iexact HZ25
    iexact HZ35
  isplitl [HZ06]; · iexact HZ06
  isplitl [HZ16]; · iexact HZ16
  isplitl [HZ26]; · iexact HZ26
  iexact HZ36

end Cert.KernelIdeal.Ring

end
-- ==== Proof.KernelIdealLaunch.lean ====
/-
# The launch

What every device is dealt at the start: the places at its cells, the right to open those of its
transfers, the tokens of the debts it pays and the credit it waits with.
-/
module

public import proofs.«01_k».proof.Proof.KernelIdealStart
public import Idealize.ShloMosaic.Harness.Basic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)

/-! ## What a device holds between the launch and the kernel's region -/

/-- The tokens of the four duties device `c` pays by its transfer `t`. -/
def pays (t : Hop) (c : Dev nD) : sProp 𝕄 :=
  iprop(dutyTok ER (cell 0 t c) 0 false ∗ dutyTok ER (cell 1 t (nb t c)) 0 false ∗ dutyTok ER (cell 2 t c) 0 false ∗ dutyTok ER (cell 3 t (nb t c)) 0 false)

/-- The tokens of its two signals. -/
def calls (c : Dev nD) : sProp 𝕄 := iprop(dutyTok ER (barCell (lf c)) 0 true ∗ dutyTok ER (barCell (rt c)) 0 false)

/-- What only the device has. -/
def linear (c : Dev nD) : sProp 𝕄 :=
  iprop(atPos ER (barCell c) 0 ∅ 0 ∗ (bigSep Finset.univ fun kt : Kind × Hop => openTok ER (cell kt.1 kt.2 c))
    ∗ calls c ∗ bigSep Finset.univ fun t : Hop => pays t c)

/-- The credit of one transfer's arrival. -/
def arrive (t : Hop) (c : Dev nD) : sProp 𝕄 :=
  iprop(cred (tallyAt (cell 1 t c) () (credit 1)) ∗ cred (tallyAt (cell 3 t c) () (credit 3)))
/-- The credit the device waits with at the barrier and for the arrivals. -/
def credits (c : Dev nD) : sProp 𝕄 :=
  iprop(cred (tallyAt (barCell c) () 2) ∗ bigSep Finset.univ fun t : Hop => arrive t c)

def kept (c : Dev nD) : sProp 𝕄 := iprop((∃ K, records m K ∗ linear c) ∗ credits c)

/-- The same once the transfers' cells are open. -/
def entered (c : Dev nD) : sProp 𝕄 :=
  iprop(∃ K, env m K c ∗ calls c ∗ (bigSep Finset.univ fun t : Hop => tok t c) ∗ atPos ER (barCell c) 0 ∅ 0 ∗ cred (tallyAt (barCell c) () 2))

/-! ## Opening the cells -/

theorem four {M : Type} [URA M] (Φ : Kind → sProp M) : bigSep Finset.univ Φ = iprop(Φ 0 ∗ Φ 1 ∗ Φ 2 ∗ Φ 3) :=
  bigSep_univ_eq_bigSepL [0, 1, 2, 3] (by decide) (by decide) Φ

/-- A family over the four sorts and the seven transfers, transfer by transfer. -/
theorem by_hop {M : Type} [URA M] (Φ : Kind → Hop → sProp M) :
    bigSep Finset.univ (fun kt : Kind × Hop => Φ kt.1 kt.2) = bigSep Finset.univ fun t : Hop => iprop(Φ 0 t ∗ Φ 1 t ∗ Φ 2 t ∗ Φ 3 t) := by
  rw [bigSep_univ_prod (fun kt : Kind × Hop => Φ kt.1 kt.2), four, bigSep_sep', bigSep_sep', bigSep_sep']

theorem open_one (K : GSem nD τ sig → ℕ) (c : Dev nD) (kt : Kind × Hop) :
    iprop(records m K ∗ (openTok ER (cell kt.1 kt.2 c) ∗ semVal ((c.tc : Thread nD τ), osem kt) 0))
      ⊢ (|={Set.univ}=> iprop(atPos ER (cell kt.1 kt.2 c) 0 ∅ 0 ∗ reached ER (cell kt.1 kt.2 c) 0) : sProp 𝕄) := by
  iintro ⟨HR, Ho, Hv⟩
  iapply (Rounds.cell_open ER (ringRd m) (g := cell kt.1 kt.2 c) (Set.mem_univ (K (cell kt.1 kt.2 c))))
  isplitl [HR]; · iapply (records_inv m K (cell_mem kt.1 kt.2 c)); iexact HR
  isplitl [Ho] <;> iassumption

theorem open_all (K : GSem nD τ sig → ℕ) (c : Dev nD) :
    iprop(records m K ∗ (bigSep Finset.univ fun kt : Kind × Hop => openTok ER (cell kt.1 kt.2 c)) ∗ Pipeline.ownSems0 osem c)
      ⊢ (|={Set.univ}=> iprop((bigSep Finset.univ fun kt : Kind × Hop => atPos ER (cell kt.1 kt.2 c) 0 ∅ 0)
          ∗ bigSep Finset.univ fun kt : Kind × Hop => reached ER (cell kt.1 kt.2 c) 0) : sProp 𝕄) := by
  have hall : iprop(records m K ∗ bigSep Finset.univ fun kt : Kind × Hop => iprop(openTok ER (cell kt.1 kt.2 c) ∗ semVal ((c.tc : Thread nD τ), osem kt) 0))
      ⊢ (|={Set.univ}=> bigSep Finset.univ fun kt : Kind × Hop => iprop(atPos ER (cell kt.1 kt.2 c) 0 ∅ 0 ∗ reached ER (cell kt.1 kt.2 c) 0) : sProp 𝕄) :=
    (bigSep_with_persistent fun kt _ => open_one m K c kt).trans (bigSep_fupd _ _)
  rw [bigSep_sep', bigSep_sep'] at hall
  exact hall

theorem enter (c : Dev nD) : iprop(kept m c ∗ Pipeline.ownSems0 osem c ∗ levAts L lv) ⊢ (|={Set.univ}=> entered m c : sProp 𝕄) := by
  unfold kept credits linear
  iintro ⟨⟨⟨%K, #HR, Hbar, Hop, Hcalls, Hpays⟩, Hcb, Harr⟩, Hown, #Hlev⟩
  imod (open_all m K c) $$ [Hop Hown] with ⟨Hat, #Hre⟩
  · isplitr; · iexact HR
    isplitl [Hop] <;> iassumption
  imodintro
  unfold entered
  iexists K
  isplitr
  · unfold env
    isplitr; · iexact HR
    isplitr; · iexact Hre
    iexact Hlev
  isplitl [Hcalls]; · iexact Hcalls
  isplitl [Hat Hpays Harr]
  · have hat : (bigSep Finset.univ (fun kt : Kind × Hop => atPos ER (cell kt.1 kt.2 c) 0 ∅ 0) : sProp 𝕄)
        ⊢ bigSep Finset.univ fun t : Hop => iprop(atPos ER (cell 0 t c) 0 ∅ 0 ∗ atPos ER (cell 1 t c) 0 ∅ 0 ∗ atPos ER (cell 2 t c) 0 ∅ 0 ∗ atPos ER (cell 3 t c) 0 ∅ 0) :=
      Entails.of_eq (by_hop fun k t => atPos ER (cell k t c) 0 ∅ 0)
    have hone : ∀ t : Hop, iprop((atPos ER (cell 0 t c) 0 ∅ 0 ∗ atPos ER (cell 1 t c) 0 ∅ 0 ∗ atPos ER (cell 2 t c) 0 ∅ 0 ∗ atPos ER (cell 3 t c) 0 ∅ 0)
        ∗ (pays t c ∗ arrive t c)) ⊢ (tok t c : sProp 𝕄) := fun t => by
      unfold pays arrive tok wt
      iintro ⟨⟨H0, H1, H2, H3⟩, Hp, Ha1, Ha3⟩
      isplitl [Hp]; · iexact Hp
      isplitl [H0]; · iexact H0
      isplitl [H2]; · iexact H2
      isplitl [H1 Ha1]
      · isplitl [H1] <;> iassumption
      isplitl [H3] <;> iassumption
    have hones : bigSep Finset.univ (fun t : Hop => iprop((atPos ER (cell 0 t c) 0 ∅ 0 ∗ atPos ER (cell 1 t c) 0 ∅ 0 ∗ atPos ER (cell 2 t c) 0 ∅ 0 ∗ atPos ER (cell 3 t c) 0 ∅ 0)
        ∗ (pays t c ∗ arrive t c))) ⊢ bigSep Finset.univ (fun t : Hop => (tok t c : sProp 𝕄)) := bigSep_mono fun t _ => hone t
    ihave Hat' := hat $$ Hat
    iapply hones
    iapply bigSep_pair
    isplitl [Hat']; · iexact Hat'
    iapply bigSep_pair
    isplitl [Hpays] <;> iassumption
  isplitl [Hbar] <;> iassumption

/-! ## The tokens, each handed to the device that pays with it -/

/-- The duties of a device's cells: two of the barrier's, one of each transfer's. -/
abbrev Duty := Bool ⊕ (Kind × Hop)
abbrev dutySem : Duty → SemLoc sig × Bool
  | .inl b => (barS, b)
  | .inr kt => (osem kt, false)
theorem dutySem_inj : Function.Injective dutySem := by
  rintro (b | kt) (b' | kt') h
  · exact congrArg Sum.inl (congrArg Prod.snd h)
  · exact absurd (congrArg Prod.fst h).symm (osem_ne_bar kt')
  · exact absurd (congrArg Prod.fst h) (osem_ne_bar kt)
  · exact congrArg Sum.inr (osem_inj (congrArg Prod.fst h))

def allToks : Finset (GSem nD τ sig × ℕ × Bool) :=
  Finset.univ.map ⟨fun cd : Dev nD × Duty => (((cd.1 : Thread nD τ), (dutySem cd.2).1), 0, (dutySem cd.2).2), fun _ _ h =>
    Prod.ext (congrArg (fun t : GSem nD τ sig × ℕ × Bool => t.1.1.1) h)
      (dutySem_inj (Prod.ext (congrArg (fun t : GSem nD τ sig × ℕ × Bool => t.1.2) h) (congrArg (fun t : GSem nD τ sig × ℕ × Bool => t.2.2) h)))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- One step along the way a transfer goes, as a renaming of the devices. -/
def turn (t : Hop) : Dev nD ≃ Dev nD := ⟨nb t, bn t, bn_nb t, nb_bn t⟩

theorem around {M : Type} [URA M] (Ψ : Hop → Dev nD → sProp M) :
    bigSep Finset.univ (fun c : Dev nD => bigSep Finset.univ fun t : Hop => Ψ t c)
      = bigSep Finset.univ (fun c : Dev nD => bigSep Finset.univ fun t : Hop => Ψ t (nb t c)) := by
  rw [bigSep_univ_comm (fun (c : Dev nD) (t : Hop) => Ψ t c), bigSep_univ_comm (fun (c : Dev nD) (t : Hop) => Ψ t (nb t c))]
  exact bigSep_congr fun t _ => bigSep_univ_equiv (turn t) (Ψ t)

theorem dealt : (bigSep allToks (fun x => dutyTok ER x.1 x.2.1 x.2.2) : sProp 𝕄)
    = iprop((bigSep Finset.univ fun c : Dev nD => calls c) ∗ bigSep Finset.univ fun c : Dev nD => bigSep Finset.univ fun t : Hop => pays t c) := by
  unfold allToks
  rw [bigSep_map, bigSep_univ_prod]
  have hc : ∀ c : Dev nD, (bigSep Finset.univ (fun d : Duty => dutyTok ER ((c : Thread nD τ), (dutySem d).1) 0 (dutySem d).2) : sProp 𝕄)
      = iprop((dutyTok ER (barCell c) 0 false ∗ dutyTok ER (barCell c) 0 true)
        ∗ ((bigSep Finset.univ fun t : Hop => dutyTok ER (cell 0 t c) 0 false) ∗ (bigSep Finset.univ fun t : Hop => dutyTok ER (cell 1 t c) 0 false)
          ∗ (bigSep Finset.univ fun t : Hop => dutyTok ER (cell 2 t c) 0 false) ∗ (bigSep Finset.univ fun t : Hop => dutyTok ER (cell 3 t c) 0 false))) := fun c => by
    rw [bigSep_univ_sum]
    refine congrArg₂ _ ?_ ?_
    · exact bigSep_univ_eq_bigSepL [false, true] (by decide) (by decide) _
    · have h := by_hop (M := 𝕄) fun k t => dutyTok ER (cell k t c) 0 false
      rw [bigSep_sep', bigSep_sep', bigSep_sep'] at h
      exact h
  refine (bigSep_congr fun c _ => hc c).trans ?_
  unfold calls pays
  rw [bigSep_sep', bigSep_sep', bigSep_sep', bigSep_sep', bigSep_sep', bigSep_sep']
  rw [around (M := 𝕄) fun t c => dutyTok ER (cell 1 t c) 0 false, around (M := 𝕄) fun t c => dutyTok ER (cell 3 t c) 0 false]
  rw [bigSep_univ_equiv (turn 0) (fun c : Dev nD => (dutyTok ER (barCell c) 0 false : sProp 𝕄)),
    bigSep_univ_equiv (turn 4) (fun c : Dev nD => (dutyTok ER (barCell c) 0 true : sProp 𝕄))]
  have hr : ∀ c : Dev nD, turn 0 c = rt c := fun c => rfl
  have hl : ∀ c : Dev nD, turn 4 c = lf c := fun c => rfl
  simp only [hr, hl]
  rw [show ∀ A B C : sProp 𝕄, iprop((A ∗ B) ∗ C) = iprop((B ∗ A) ∗ C) from fun A B C => congrArg (fun X => iprop(X ∗ C)) (BI.equiv_iff.mp ⟨Idealize.SL.BI.sep_comm, Idealize.SL.BI.sep_comm⟩)]
  refine congrArg₂ _ rfl ?_
  rw [← bigSep_sep', ← bigSep_sep', ← bigSep_sep']
  refine bigSep_congr fun c _ => ?_
  rw [bigSep_sep', bigSep_sep', bigSep_sep']

/-! ## The credit -/

theorem total (g : GSem nD τ sig) (l : List Due) :
    ∑ d : Dev nD, owedL d l g () = (l.map fun e => ∑ d : Dev nD, if g = dueCell d e then dueAmt e else 0).sum := by
  induction l with
  | nil => simp [owedL]
  | cons e l ih =>
    rw [List.map_cons, List.sum_cons, ← ih, add_comm, ← Finset.sum_add_distrib]
    refine Finset.sum_congr rfl fun d _ => ?_
    rw [show owedL d (e :: l) = owedL d l + tallyAt (dueCell d e) () (dueAmt e) from rfl, Pi.add_apply, Finsupp.add_apply, tallyAt_apply]
    simp

theorem cell_eq {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩

theorem hit_bar (c : Dev nD) (e : Due) :
    (∑ d : Dev nD, if barCell c = dueCell d e then dueAmt e else 0) = if e = .bl ∨ e = .br then 1 else 0 := by
  cases e with
  | bl =>
    rw [if_pos (.inl rfl), Finset.sum_eq_single (rt c)]
    · rw [if_pos (by show barCell c = barCell (lf (rt c)); rw [lf_rt])]; rfl
    · exact fun d _ hd => if_neg fun h => hd (by rw [(cell_eq h).1, rt_lf])
    · exact fun h => absurd (Finset.mem_univ _) h
  | br =>
    rw [if_pos (.inr rfl), Finset.sum_eq_single (lf c)]
    · rw [if_pos (by show barCell c = barCell (rt (lf c)); rw [rt_lf])]; rfl
    · exact fun d _ hd => if_neg fun h => hd (by rw [(cell_eq h).1, lf_rt])
    · exact fun h => absurd (Finset.mem_univ _) h
  | cp k t =>
    rw [if_neg (by rintro (h | h) <;> cases h)]
    exact Finset.sum_eq_zero fun d _ => if_neg fun h => osem_ne_bar (k, t) (cell_eq h).2.symm

theorem hit_cell (k : Kind) (t : Hop) (c : Dev nD) (e : Due) :
    (∑ d : Dev nD, if cell k t c = dueCell d e then dueAmt e else 0) = if e = .cp k t then credit k else 0 := by
  cases e with
  | bl =>
    rw [if_neg (by intro h; cases h)]
    exact Finset.sum_eq_zero fun d _ => if_neg fun h => osem_ne_bar (k, t) (cell_eq h).2
  | br =>
    rw [if_neg (by intro h; cases h)]
    exact Finset.sum_eq_zero fun d _ => if_neg fun h => osem_ne_bar (k, t) (cell_eq h).2
  | cp k' t' =>
    by_cases hkt : (k', t') = (k, t)
    · obtain ⟨rfl, rfl⟩ := Prod.mk.inj hkt
      rw [if_pos rfl, Finset.sum_eq_single (bn t' c)]
      · rw [if_pos (by show cell k' t' c = cell k' t' (nb t' (bn t' c)); rw [nb_bn])]; rfl
      · exact fun d _ hd => if_neg fun h => hd (by rw [(cell_eq h).1, bn_nb])
      · exact fun h => absurd (Finset.mem_univ _) h
    · rw [if_neg (by rintro ⟨⟩; exact hkt rfl)]
      exact Finset.sum_eq_zero fun d _ => if_neg fun h => hkt (osem_inj (cell_eq h).2).symm

theorem sum_bar : (dues.map fun e => if e = .bl ∨ e = .br then 1 else 0).sum = 2 := by decide
theorem sum_cell (k : Kind) (hk : k.val % 2 = 1) (t : Hop) (n : ℕ) : (dues.map fun e => if e = .cp k t then n else 0).sum = n := by
  have h : ∀ k : Kind, k.val % 2 = 1 → ∀ t : Hop, dues.count (.cp k t) = 1 := by decide
  rw [show (dues.map fun e => if e = .cp k t then n else 0).sum = dues.count (.cp k t) * n from ?_, h k hk t, one_mul]
  induction dues with
  | nil => simp
  | cons e l ih =>
    rw [List.map_cons, List.sum_cons, ih, List.count_cons, add_mul, add_comm]
    congr 1
    by_cases he : e = .cp k t
    · rw [if_pos he, if_pos (by simp [he]), one_mul]
    · rw [if_neg he, if_neg (by simp [he]), zero_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  unfold O₀
  rw [total, List.map_congr_left fun e _ => hit_bar c e, sum_bar]

theorem launch_cell (k : Kind) (hk : k.val % 2 = 1) (t : Hop) (c : Dev nD) :
    tallyOn (cell k t c) (launchCredit (Pipeline.owing O₀) 0 (cell k t c)) = (tallyAt (cell k t c) () (credit k) : CellTallies nD τ sig Unit) := by
  unfold tallyAt; refine congrArg _ (Finsupp.ext fun u => ?_); cases u
  rw [Pipeline.launchCredit_owing, Finsupp.single_eq_same]
  unfold O₀
  rw [total, List.map_congr_left fun e _ => hit_cell k t c e, sum_cell k hk]

def osemEmb : Kind × Hop ↪ SemLoc sig := ⟨osem, osem_inj⟩

theorem creds (c : Dev nD) : (Pipeline.launchCred O₀ c : sProp 𝕄) ⊢ credits c := by
  unfold Pipeline.launchCred credits
  rw [bigSep_univ_at _ barS, launch_bar]
  refine sep_mono_right ?_
  have hsub : Finset.univ.map osemEmb ⊆ (Finset.univ : Finset (SemLoc sig)).erase barS := fun s hs => by
    obtain ⟨kt, -, rfl⟩ := Finset.mem_map.mp hs
    exact Finset.mem_erase.mpr ⟨osem_ne_bar kt, Finset.mem_univ _⟩
  refine (bigSep_subset hsub).trans ?_
  rw [bigSep_map]
  refine (Entails.of_eq (by_hop (M := 𝕄) fun k t => cred (tallyOn (cell k t c) (launchCredit (Pipeline.owing O₀) 0 (cell k t c))))).trans ?_
  refine bigSep_mono fun t _ => ?_
  unfold arrive
  rw [launch_cell 1 rfl, launch_cell 3 rfl]
  show _ ⊢ iprop(cred (tallyAt (cell 1 t c) () (credit 1)) ∗ cred (tallyAt (cell 3 t c) () (credit 3)))
  iintro ⟨-, H1, -, H3⟩
  isplitl [H1] <;> iassumption

/-! ## The launch of all devices -/

/-- The ghost element of the launch. -/
def u₀ : UU :=
  (initOf (Pipeline.cells cfgs cellOf_inj) (Pipeline.launchToks cfgs cellOf_inj), launchOf barCells scCells allToks)

/-- The ring's part of it, left with the first device until all devices are dealt theirs. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
    fun c hc => by unfold first; rw [if_neg (Finset.ne_of_mem_erase hc)]; rfl, BI.bigSep_emp_const]
  unfold first; rw [if_pos rfl]
  exact BI.equiv_iff.mp sep_emp

def ghost₀ : Dev nD → sProp 𝕄 := first (BI.own (ER (launchOf barCells scCells allToks)))

theorem unscopedSems0_eq (c : Dev nD) : (unscopedSems0 c : sProp 𝕄) = semVal (barCell c) 0 := by
  unfold unscopedSems0
  rw [show (Finset.univ.filter fun sm : SemLoc sig => ¬ sm.isScoped .tc) = {barS} from by decide, BI.bigSep_singleton]

/-- What a device has beside its buffers before the kernel's region, and after it. -/
def rest (i : Fin 2) (c : Dev nD) : sProp 𝕄 :=
  match i with
  | 0 => iprop(kept m c ∗ (∃ r, prngReg c r) ∗ ∃ W, owes (c : Thread nD τ) (O₀ c) W)
  | 1 => iprop(semVal (barCell c) 0 ∗ (∃ r, prngReg c r) ∗ ∃ W, owes (c : Thread nD τ) (0 : CellTallies nD τ sig Unit) W)

/-- What a device is handed beside the ring's ghost state. -/
def handed (c : Dev nD) : sProp 𝕄 :=
  iprop(credits c ∗ owes (c : Thread nD τ) (O₀ c) ∅ ∗ ∃ r, prngReg c r)

theorem rest_intro (K : GSem nD τ sig → ℕ) (c : Dev nD) : iprop(records m K ∗ (linear c ∗ handed c)) ⊢ rest m 0 c := by
  unfold handed
  show _ ⊢ iprop(kept m c ∗ (∃ r, prngReg c r) ∗ ∃ W, owes (c : Thread nD τ) (O₀ c) W)
  unfold kept
  iintro ⟨#HR, Hl, Hc, HO, Hp⟩
  isplitl [Hl Hc]
  · isplitl [Hl]
    · iexists K
      isplitr; · iexact HR
      iexact Hl
    iexact Hc
  isplitl [Hp]; · iexact Hp
  iexists ∅; iexact HO

theorem launched (ρ : Dev nD → PrngReg) :
    iprop((bigSep Finset.univ fun c : Dev nD => iprop(unscopedSems0 c ∗ owes (c : Thread nD τ) (O₀ c) ∅ ∗ Pipeline.launchCred O₀ c ∗ prngReg c (ρ c) ∗ ghost₀ c))
        ∗ levAts L lv)
      ⊢ (|={Set.univ}=> bigSep Finset.univ (rest m 0) : sProp 𝕄) := by
  have hcore : ∀ c : Dev nD, iprop(unscopedSems0 c ∗ owes (c : Thread nD τ) (O₀ c) ∅ ∗ Pipeline.launchCred O₀ c ∗ prngReg c (ρ c) ∗ ghost₀ c)
      ⊢ (iprop(handed c ∗ (semVal (barCell c) 0 ∗ ghost₀ c)) : sProp 𝕄) := fun c => by
    rw [unscopedSems0_eq]
    unfold handed
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hall : (bigSep Finset.univ fun c : Dev nD => iprop(unscopedSems0 c ∗ owes (c : Thread nD τ) (O₀ c) ∅ ∗ Pipeline.launchCred O₀ c ∗ prngReg c (ρ c) ∗ ghost₀ c))
      ⊢ (bigSep Finset.univ fun c : Dev nD => iprop(handed c ∗ (semVal (barCell c) 0 ∗ ghost₀ c)) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => (bigSep Finset.univ fun kt : Kind × Hop => openTok ER (cell kt.1 kt.2 c) : sProp 𝕄)) :=
    Entails.of_eq (by rw [bigSep_map, bigSep_univ_prod]; exact bigSep_congr fun c _ => bigSep_congr fun kt _ => rfl)
  have hG : (bigSep Finset.univ (ghost₀ (F := F))) ⊢ (BI.own (ER (launchOf barCells scCells allToks)) : sProp 𝕄) := Entails.of_eq (bigSep_first _)
  iintro ⟨H, -⟩
  ihave H' := hall $$ H
  ihave H2 := bigSep_unpair $$ H'; icases H2 with ⟨HB, H3⟩
  ihave H4 := bigSep_unpair $$ H3; icases H4 with ⟨Hv, HG⟩
  ihave Hu := hG $$ HG
  imod (Rounds.fund_launch ER (ringRd m) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ handed c)) fun c _ => rest_intro m K c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply hopen $$ Hopen
    iapply bigSep_pair
    iapply (Entails.of_eq (dealt (F := F))) $$ Htok
  · iexact HB

end Cert.KernelIdeal.Ring

end
-- ==== Proof.KernelIdealRun.lean ====
/-
# The run

The kernel's region as one step of the program, and the whole program from its launch to its end:
the arguments unchanged, every semaphore at nought, the result named.
-/
module

public import proofs.«01_k».proof.Proof.KernelIdealBody
public import proofs.«01_k».proof.Proof.KernelIdealLaunch
public import proofs.«01_k».proof.Proof.Gen.KernelIdeal.Points
public import proofs.«01_k».proof.Proof.Gen.KernelIdeal.Regions
public import Idealize.ShloMosaic.Lib.Pipeline.RegionTalk
public import Idealize.ShloMosaic.Lib.Quiescent
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The region's data -/

/-- The result a device ends with. -/
def final (c : Dev nD) : (cc0_stg5_0 : Ref sig .tc).ty.Contents (Elt F) := comb (sumV m c 0 used) (sumV m c 1 used)

def Φ₀ (c : Dev nD) : sProp 𝕄 :=
  iprop(entered m c ∗ (∃ f, pt c cc0_scratch0 f) ∗ (∃ f, pt c cc0_scratch1 f) ∗ ∃ r, prngReg c r)
def Φ₁ (c : Dev nD) : sProp 𝕄 :=
  iprop(pt c cc0_scratch0 (allQ m) ∗ pt c cc0_scratch1 (allO m) ∗ semVal (barCell c) 0 ∗ bigSep Finset.univ (fun t => shut t c) ∗ ∃ r, prngReg c r)

def outs : Outs (F := F) := fun _ r c => Function.update (V1 m c) main_v17 (final m c) r

theorem outs_main (c : Dev nD) : outs m 2 main_v17 c = final m c := by
  unfold outs; exact Function.update_self _ _ _

def dats (_ : Fin 1) (c : Dev nD) : Dat τ (Elt F) Unit ℕ UU ℕ cfg0 c where
  A w := V1 m c (Proc.devRef .tc (Pipeline.arrRef cfg0.spec w))
  after w _ := match w with
    | ⟨0, _⟩ => xB m c
    | ⟨1, _⟩ => wqB m c
    | ⟨2, _⟩ => kB m c
    | ⟨3, _⟩ => vB m c
    | ⟨4, _⟩ => woB m c
    | ⟨5, _⟩ => final m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body at the region's one point -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

/-- Staging buffer `b` at contents `X`, as the region hands it over. -/
def stg (c : Dev nD) (b : Ref sig .tc) (X : b.ty.Contents (Elt F)) : sProp 𝕄 :=
  iprop(∃ f : Buf (Elt F) (((c : Dev nD) : Thread nD τ).loc b), ⌜f = X⌝ ∗ pt c b f)

theorem stg_elim (c : Dev nD) (b : Ref sig .tc) (X : b.ty.Contents (Elt F)) : (stg c b X : sProp 𝕄) ⊢ pt c b X := by
  unfold stg; iintro ⟨%f, %h, H⟩; subst h; iexact H
theorem stg_intro (c : Dev nD) (b : Ref sig .tc) (X : b.ty.Contents (Elt F)) : (pt c b X : sProp 𝕄) ⊢ stg c b X := by
  unfold stg; iintro H; iexists X; isplitr; · ipureintro; rfl
  iexact H

theorem before_0 (c : Dev nD) (d) : (dats m 0 c).before (0 : Fin 6) t0_0 d = xB m c := by
  unfold Dat.before; rw [if_pos (fetch0_0 t0_0)]; rfl
theorem before_1 (c : Dev nD) (d) : (dats m 0 c).before (1 : Fin 6) t0_0 d = wqB m c := by
  unfold Dat.before; rw [if_pos (fetch0_1 t0_0)]; rfl
theorem before_2 (c : Dev nD) (d) : (dats m 0 c).before (2 : Fin 6) t0_0 d = kB m c := by
  unfold Dat.before; rw [if_pos (fetch0_2 t0_0)]; rfl
theorem before_3 (c : Dev nD) (d) : (dats m 0 c).before (3 : Fin 6) t0_0 d = vB m c := by
  unfold Dat.before; rw [if_pos (fetch0_3 t0_0)]; rfl
theorem before_4 (c : Dev nD) (d) : (dats m 0 c).before (4 : Fin 6) t0_0 d = woB m c := by
  unfold Dat.before; rw [if_pos (fetch0_4 t0_0)]; rfl

set_option maxRecDepth 4000 in
def bodyPre (c : Dev nD) : sProp 𝕄 :=
  iprop(Φ₀ m c ∗ (dats m 0 c).owesAt () (t0_0 : Fin cfg0.N).castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

set_option maxRecDepth 4000 in
def bodyPost (c : Dev nD) : sProp 𝕄 :=
  iprop(Φ₁ m c ∗ (dats m 0 c).owesAt () (t0_0 : Fin cfg0.N).succ
    ∗ stg c cc0_stg0_0 (xB m c) ∗ stg c cc0_stg1_0 (wqB m c) ∗ stg c cc0_stg2_0 (kB m c) ∗ stg c cc0_stg3_0 (vB m c)
    ∗ stg c cc0_stg4_0 (woB m c) ∗ stg c cc0_stg5_0 (final m c))

theorem owes_start (c : Dev nD) : ((dats m 0 c).owesAt () (t0_0 : Fin cfg0.N).castSucc : sProp 𝕄) ⊢ ow c dues := by
  unfold Dat.owesAt Pipeline.owesWithin ow
  iintro ⟨%W, %hW, HO⟩; iexists W; iexact HO
theorem owes_end (c : Dev nD) : (ow c [] : sProp 𝕄) ⊢ (dats m 0 c).owesAt () (t0_0 : Fin cfg0.N).succ := by
  unfold Dat.owesAt Pipeline.owesWithin ow
  iintro ⟨%W, HO⟩; iexists W
  isplitr; · ipureintro; exact fun _ _ => Or.inl trivial
  iexact HO

/-- A device's two scratch buffers, cut into its own two places and the seven it offers. -/
theorem places (K : GSem nD τ sig → ℕ) (c : Dev nD) (f : (cc0_scratch0 : Ref sig .tc).ty.Contents (Elt F)) (g : (cc0_scratch1 : Ref sig .tc).ty.Contents (Elt F)) :
    (env m K c : sProp 𝕄) ⊢ iprop(pt c cc0_scratch0 f -∗ pt c cc0_scratch1 g
      -∗ (ptQ c c fullShare f ∗ ptO c c fullShare g ∗ bigSep Finset.univ fun t => landing t c)) := by
  have h : ∀ t : Hop, iprop(env m K c ∗ (ptQ c (into t c) fullShare f ∗ ptO c (into t c) fullShare g)) ⊢ (landing t c : sProp 𝕄) := fun t => by
    unfold landing
    iintro ⟨#HE, HQ, HO⟩
    isplitl [HQ]; · iexists f; iexact HQ
    isplitl [HO]; · iexists g; iexact HO
    isplitr
    · iapply (env_reached m K c 1 t); iexact HE
    · iapply (env_reached m K c 3 t); iexact HE
  have hQ : (pt c cc0_scratch0 f : sProp 𝕄) ⊢ iprop(ptQ c c fullShare f ∗ bigSep Finset.univ fun t => ptQ c (into t c) fullShare f) :=
    Entails.of_eq ((wholeQ c f).trans ((slots_eq c fun j => ptQ c j fullShare f).trans (by rw [seven])))
  have hO : (pt c cc0_scratch1 g : sProp 𝕄) ⊢ iprop(ptO c c fullShare g ∗ bigSep Finset.univ fun t => ptO c (into t c) fullShare g) :=
    Entails.of_eq ((wholeO c g).trans ((slots_eq c fun j => ptO c j fullShare g).trans (by rw [seven])))
  iintro #HE HQ HO
  ihave HQ' := hQ $$ HQ; icases HQ' with ⟨HQ1, HQ2⟩
  ihave HO' := hO $$ HO; icases HO' with ⟨HO1, HO2⟩
  isplitl [HQ1]; · iexact HQ1
  isplitl [HO1]; · iexact HO1
  iapply (bigSep_with_persistent (R := env m K c) fun t _ => h t)
  isplitr; · iexact HE
  iapply bigSep_pair
  isplitl [HQ2] <;> iassumption

/-- The output block in its two batches. -/
theorem out_split (c : Dev nD) (f : (cc0_stg5_0 : Ref sig .tc).ty.Contents (Elt F)) :
    (pt c cc0_stg5_0 f : sProp 𝕄) ⊢ ∃ a a', out c a a' := by
  iintro H
  iexists ((yM.access (rectX 0)).read (Elt F) f); iexists ((yM.access (rectX 1)).read (Elt F) f)
  unfold out
  rw [comb_read]
  iexact H

set_option maxRecDepth 4000 in
set_option maxHeartbeats 1000000 in
theorem sound (c : Dev nD) : bodyPre m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9)
    (fun _ => bodyPost m c) := by
  unfold bodyPre Φ₀ entered calls
  simp only [before_0, before_1, before_2, before_3, before_4]
  iintro ⟨⟨⟨%K, #HE, ⟨Hb1, Hb2⟩, Htok, Hat, Hcr⟩, ⟨%f, HQ⟩, ⟨%g, HO⟩, Hpr⟩, Hd, ⟨%d0, H0⟩, ⟨%d1, H1⟩, ⟨%d2, H2⟩, ⟨%d3, H3⟩, ⟨%d4, H4⟩, ⟨%d5, H5⟩⟩
  ihave H0' := (stg_elim c cc0_stg0_0 _) $$ H0
  ihave H1' := (stg_elim c cc0_stg1_0 _) $$ H1
  ihave H2' := (stg_elim c cc0_stg2_0 _) $$ H2
  ihave H3' := (stg_elim c cc0_stg3_0 _) $$ H3
  ihave H4' := (stg_elim c cc0_stg4_0 _) $$ H4
  ihave H5' := (stg_elim c cc0_stg5_0 _) $$ H5
  ihave H6 := (out_split c _) $$ H5'
  icases H6 with ⟨%a, %a', HY⟩
  ihave HP := (places m K c f g) $$ HE HQ HO
  icases HP with ⟨HQ1, HO1, HL⟩
  ihave Hd' := (owes_start m c) $$ Hd
  iapply (body_run m K c a a' f g) $$ HE [H0' H1' H2' H3' H4'] HY HQ1 HO1 Hd' Hb1 Hb2 HL Htok Hat Hcr
  · unfold ins
    isplitl [H0']; · iexact H0'
    isplitl [H1']; · iexact H1'
    isplitl [H2']; · iexact H2'
    isplitl [H3']; · iexact H3'
    iexact H4'
  unfold ins out
  iintro ⟨⟨H0, H1, H2, H3, H4⟩, H5, HQ, HO, Hd, Hb, Hs⟩
  unfold bodyPost Φ₁
  isplitl [HQ HO Hb Hs Hpr]
  · isplitl [HQ]; · iexact HQ
    isplitl [HO]; · iexact HO
    isplitl [Hb]; · iexact Hb
    isplitl [Hs]; · iexact Hs
    iexact Hpr
  isplitl [Hd]; · iapply (owes_end m c); iexact Hd
  isplitl [H0]; · iapply (stg_intro c cc0_stg0_0 (xB m c)); iexact H0
  isplitl [H1]; · iapply (stg_intro c cc0_stg1_0 (wqB m c)); iexact H1
  isplitl [H2]; · iapply (stg_intro c cc0_stg2_0 (kB m c)); iexact H2
  isplitl [H3]; · iapply (stg_intro c cc0_stg3_0 (vB m c)); iexact H3
  isplitl [H4]; · iapply (stg_intro c cc0_stg4_0 (woB m c)); iexact H4
  iapply (stg_intro c cc0_stg5_0 (final m c)); iexact H5

set_option maxRecDepth 100000 in
theorem obligation (c : Dev nD) : BodyObligation (dats (F := F) m 0 c) (defs₀ (F := F)) 𝒱₀ () Set.univ := fun t => by
  rw [fin_N0 t]
  rw [bigSep_W0, bigSep_W0]
  simp only [owns_whole]
  exact sound m c

/-! ## The region -/

theorem share_eq (c : Dev nD) (w : Fin cfg0.W) : (dats m 0 c).share w = fullShare := by unfold Dat.share; split <;> rfl

theorem ownSems (c : Dev nD) : (Pipeline.ownSems0 osem c : sProp 𝕄) = bigSep Finset.univ fun t : Hop => shut t c :=
  by_hop (M := 𝕄) fun k t => semVal (cell k t c) 0

theorem region_in (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ entered m c)
      ⊢ (dats m 0 c).Φ 0 := by
  show _ ⊢ Φ₀ m c
  unfold Φ₀
  iintro ⟨Hs, Hp, -, HX⟩
  ihave Hs' := (Entails.of_eq (scopedRest0_eq (Ix := Unit) (Val := Elt F) (Name := ℕ) (U := UU) (Lvl := ℕ) c)) $$ Hs
  icases Hs' with ⟨H1, H2⟩
  isplitl [HX]; · iexact HX
  isplitl [H1]; · iexact H1
  isplitl [H2]; · iexact H2
  iexact Hp

theorem region_out (c : Dev nD) (W : Valuation τ sig (Elt F)) :
    (dats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ W
        ∗ Pipeline.ownSems0 osem c ∗ semVal (barCell c) 0) := by
  rw [ownSems]
  show Φ₁ m c ⊢ _
  unfold Φ₁
  iintro ⟨HQ, HO, Hb, Hs, Hp⟩
  isplitl [HQ HO]
  · iapply (Entails.of_eq (scopedRest0_eq (Ix := Unit) (Val := Elt F) (Name := ℕ) (U := UU) (Lvl := ℕ) c).symm)
    isplitl [HQ]; · iexists (allQ m); iexact HQ
    iexists (allO m); iexact HO
  isplitl [Hp]; · iexact Hp
  isplitr
  · unfold StableHlo.held; rw [BI.bigSep_empty]; iempintro
  isplitl [Hs] <;> iassumption

theorem role_stage : ∀ (w : Fin 6) (s : Fin (spec0 w).nbuf), role (.dma ((spec0 w).sem s)) = .other := by decide

theorem lv_stage (c : Dev nD) (w : Fin 6) (s : Fin (spec0 w).nbuf) : lv ((c.tc : Thread nD τ), .dma ((spec0 w).sem s)) () ≤ 0 :=
  Nat.le_of_eq (congrArg lvOf (role_stage w s))

theorem dues_pos : ∀ d ∈ dues, 0 < dueLv d := by decide

theorem owed_cut (c : Dev nD) (t : Fin (cfg0.N + 1)) (g : GSem nD τ sig) (i : Unit) (h : 0 < (dats m 0 c).owed t g i) : i ∈ L g ∧ 0 < lv g i := by
  obtain ⟨t, ht⟩ := t
  cases t with
  | zero =>
    obtain ⟨d, hd, rfl⟩ := owedL_pos (show 0 < owedL c dues g i from h)
    cases i
    exact ⟨L_due c d, by rw [lv_due]; exact dues_pos d hd⟩
  | succ n => exact absurd h (Nat.lt_irrefl 0)

/-! Each window's one block is its whole array. -/

theorem blk_0 (X : (main_arg0 : Ref sig .tc).ty.Contents (Elt F)) : (win0_0.blk (0 : Fin 1)).view.read (Elt F) X = X :=
  funext fun y => congrArg X (funext fun a => Fin.ext (Pipeline.Window.rect_emb_val_of_index_zero win0_0 (0 : Fin 1) a rfl y))
theorem blk_1 (X : (main_arg1 : Ref sig .tc).ty.Contents (Elt F)) : (win0_1.blk (0 : Fin 1)).view.read (Elt F) X = X :=
  funext fun y => congrArg X (funext fun a => Fin.ext (Pipeline.Window.rect_emb_val_of_index_zero win0_1 (0 : Fin 1) a rfl y))
theorem blk_2 (X : (main_v15 : Ref sig .tc).ty.Contents (Elt F)) : (win0_2.blk (0 : Fin 1)).view.read (Elt F) X = X :=
  funext fun y => congrArg X (funext fun a => Fin.ext (Pipeline.Window.rect_emb_val_of_index_zero win0_2 (0 : Fin 1) a rfl y))
theorem blk_3 (X : (main_v16 : Ref sig .tc).ty.Contents (Elt F)) : (win0_3.blk (0 : Fin 1)).view.read (Elt F) X = X :=
  funext fun y => congrArg X (funext fun a => Fin.ext (Pipeline.Window.rect_emb_val_of_index_zero win0_3 (0 : Fin 1) a rfl y))
theorem blk_4 (X : (main_arg4 : Ref sig .tc).ty.Contents (Elt F)) : (win0_4.blk (0 : Fin 1)).view.read (Elt F) X = X :=
  funext fun y => congrArg X (funext fun a => Fin.ext (Pipeline.Window.rect_emb_val_of_index_zero win0_4 (0 : Fin 1) a rfl y))
theorem blk_5 (X : (main_v17 : Ref sig .tc).ty.Contents (Elt F)) : (win0_5.blk (0 : Fin 1)).view.read (Elt F) X = X :=
  funext fun y => congrArg X (funext fun a => Fin.ext (Pipeline.Window.rect_emb_val_of_index_zero win0_5 (0 : Fin 1) a rfl y))

theorem arr_final (c : Dev nD) : (dats m 0 c).arrAt (5 : Fin 6) cfg0.N = final m c := by
  have h := (dats m 0 c).arrAt_succ (5 : Fin 6) t0_0
  have hN : cfg0.N = (t0_0 : Fin cfg0.N).val + 1 := N_0
  rw [hN, h, if_pos (flush0_5 t0_0)]
  exact (blk_5 _).symm.trans ((View.read_write_univ _ _).trans rfl)

theorem V2_out (outs : Outs (F := F)) (c : Dev nD) : V2 m outs c main_v17 = outs 2 main_v17 c := by
  unfold V2; exact Function.update_self _ _ _

set_option backward.isDefEq.respectTransparency.types false in
theorem arr_end (c : Dev nD) (w : Fin 6) : (dats m 0 c).arrAt w cfg0.N = V2 m (outs m) c (Proc.devRef .tc (Pipeline.arrRef spec0 w)) := by
  match w with
  | ⟨0, _⟩ => exact ((dats m 0 c).arrAt_in (0 : Fin 6) rfl _).trans (V2_of m (outs m) c main_arg0 (by decide)).symm
  | ⟨1, _⟩ => exact ((dats m 0 c).arrAt_in (1 : Fin 6) rfl _).trans (V2_of m (outs m) c main_arg1 (by decide)).symm
  | ⟨2, _⟩ => exact ((dats m 0 c).arrAt_in (2 : Fin 6) rfl _).trans (V2_of m (outs m) c main_v15 (by decide)).symm
  | ⟨3, _⟩ => exact ((dats m 0 c).arrAt_in (3 : Fin 6) rfl _).trans (V2_of m (outs m) c main_v16 (by decide)).symm
  | ⟨4, _⟩ => exact ((dats m 0 c).arrAt_in (4 : Fin 6) rfl _).trans (V2_of m (outs m) c main_arg4 (by decide)).symm
  | ⟨5, _⟩ => exact (arr_final m c).trans ((outs_main m c).symm.trans (V2_out m (outs m) c).symm)

theorem out_mem : (Proc.devRef .tc main_v17 : DevRef τ sig) ∈ Pipeline.arrRefs (τ := τ) spec0 :=
  Finset.mem_map.mpr ⟨main_v17, by decide, rfl⟩

/-- The buffers the region's windows do not name. -/
def others : Finset (DevRef τ sig) := Pipeline.ucRefs τ sig \ Pipeline.arrRefs (τ := τ) (pcfgs (F := F) 0).spec

set_option backward.isDefEq.respectTransparency.types false in
def region : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ (others (F := F)) (Finset.empty_subset _) launch0.toP rfl (fun c => (obligation m c).loose)
    (fun _ => 0) O₀ (fun c => (zero_add _).symm) (fun _ => rfl) (fun _ => rfl) (share_eq m)
    (fun c => V1 m c) (fun c => V2 m (outs m) c)
    (fun c b hb => Function.update_of_ne (by
      rintro rfl
      rw [Finset.sdiff_empty] at hb
      exact absurd hb (by unfold others; rw [Finset.mem_sdiff]; exact fun h => h.2 out_mem)) _ _)
    (fun c => kept m c) (fun c => semVal (barCell c) 0) (fun c => entered m c) (fun c => semVal (barCell c) 0) (enter m)
    (fun c => region_in m c _) (fun c => region_out m c _)
    (fun c => by iintro H; imodintro; iexact H)
    (fun _ => 0)
    ⟨fun c w s => by rw [L_tc]; exact Finset.mem_singleton_self _, fun c w s => lv_stage c w s, fun c t g i h => owed_cut m c t g i h⟩
    (fun _ => iprop(emp))
    (fun _ w => rfl) (fun c w => arr_end m c w)

/-! ## The whole program -/

theorem split_refs (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) (pcfgs (F := F) 0).spec) W ∗ StableHlo.held (c.tc : Thread nD τ) (others (F := F)) W) :=
  StableHlo.held_sub_split (c.tc : Thread nD τ) (Pipeline.arrRefs_sub_ucRefs spec0 (by decide)) W

theorem region_pre (c : Dev nD) : iprop(StableHlo.held (c : Thread nD τ) (Pipeline.ucRefs τ sig) (V1 m c) ∗ rest m 0 c) ⊢ (region m).pre c := by
  show iprop(_ ∗ (kept m c ∗ (∃ r, prngReg c r) ∗ ∃ W, owes (c : Thread nD τ) (O₀ c) W))
    ⊢ iprop(StableHlo.held (c.tc : Thread nD τ) (Pipeline.arrRefs (τ := τ) (pcfgs (F := F) 0).spec) (V1 m c) ∗ (∃ r, prngReg c r)
    ∗ (StableHlo.held (c.tc : Thread nD τ) (others (F := F)) (V1 m c) ∗ emp) ∗ kept m c ∗ ∃ Wd, owes (c : Thread nD τ) (0 + O₀ c) Wd)
  rw [split_refs, zero_add]
  iintro ⟨⟨Ha, Hr⟩, HK, Hp, HO⟩
  isplitl [Ha]; · iexact Ha
  isplitl [Hp]; · iexact Hp
  isplitl [Hr]
  · isplitl [Hr]; · iexact Hr
    iempintro
  isplitl [HK] <;> iassumption

theorem region_post (c : Dev nD) : (region m).post c ⊢ iprop(StableHlo.held (c : Thread nD τ) (Pipeline.ucRefs τ sig) (V2 m (outs m) c) ∗ rest m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (others (F := F)) (V2 m (outs m) c) ∗ emp) ∗ semVal (barCell c) 0 ∗ ∃ Wd, owes (c : Thread nD τ) (0 : CellTallies nD τ sig Unit) Wd)
    ⊢ iprop(_ ∗ (semVal (barCell c) 0 ∗ (∃ r, prngReg c r) ∗ ∃ W, owes (c : Thread nD τ) (0 : CellTallies nD τ sig Unit) W))
  rw [split_refs]
  iintro ⟨Ha, Hp, ⟨Hr, -⟩, Hb, HO⟩
  isplitl [Ha Hr]
  · isplitl [Ha] <;> iassumption
  isplitl [Hb]; · iexact Hb
  isplitl [Hp] <;> iassumption

theorem last (c : Dev nD) : iprop(StableHlo.held (c : Thread nD τ) (Pipeline.ucRefs τ sig) (V2 m (outs m) c) ∗ rest m 1 c)
    ⊢ iprop((StableHlo.held (c : Thread nD τ) (Pipeline.ucRefs τ sig) (V2 m (outs m) c) ∗ semVal (barCell c) 0)
      ∗ ∃ W, owes (c : Thread nD τ) (0 : CellTallies nD τ sig Unit) W) := by
  show iprop(_ ∗ (semVal (barCell c) 0 ∗ (∃ r, prngReg c r) ∗ ∃ W, owes (c : Thread nD τ) (0 : CellTallies nD τ sig Unit) W)) ⊢ _
  iintro ⟨Hh, Hb, -, HO⟩
  isplitr [HO]
  · isplitl [Hh] <;> iassumption
  iexact HO

theorem only_bar : ∀ sm : SemLoc sig, sm.isScoped .tc = false → sm = barS := by decide

theorem uc_mem (b : Ref sig .tc) (h : b.isScoped = false) : (Proc.devRef .tc b : DevRef τ sig) ∈ Pipeline.ucRefs τ sig :=
  Finset.mem_filter.mpr ⟨StableHlo.devRef_mem_tcRefs b, by simpa using h⟩

/-- What a device's memory holds at the end. -/
def Ended (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v17) = final m c

set_option backward.isDefEq.respectTransparency.types false in
/-- Every fair execution ends, with the arguments as launched, the result named and every semaphore at nought. -/
theorem run_main (ρ : Dev nD → PrngReg) : θ_run defs (onTc (τ := τ) (main (F := F))) ⟨m, fun _ => 0, ρ⟩
    (fun r => (∀ c : Dev nD, Ended m c r.2) ∧ r.2.sem = fun _ => 0) := by
  refine Pipeline.θ_run_regions_kit_dev_sems (pcfgs (F := F)) adm (dats m) () cellOf_inj EP defs₀ 𝒱₀ L lv m ρ main
    (segs m 𝒱₀ L lv (rest m) () (dats m) (region m))
    (fun c Q => by
      rewrite [main_chain c, Pipeline.Seg.run_eq_chain,
        show (segs m 𝒱₀ L lv (rest m) () (dats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := ghost₀) (u₀ := u₀)
    (hu₀ := ?_)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V2 m (outs m) c) ∗ semVal (barCell c) 0))
    (hch := fun c => ⟨.rfl, region_pre m c, (region_post m c).trans (last m c)⟩)
    (hinit := ?_)
    (QY := fun c s => Ended m c s ∧ s.sem (barCell c) = 0)
    (hfin := fun c s' => ?_)
    (hQ := fun s h hs => ⟨fun c => (h c).1, sem_eq_zero hs fun c sm hsm => by
      obtain rfl := only_bar sm hsm
      exact (h c).2⟩)
  · unfold u₀ ghost₀
    iintro Hu
    ihave H := (ownU_pair _ _) $$ Hu
    icases H with ⟨HP, HX⟩
    imodintro
    isplitl [HP]; · iexact HP
    rw [bigSep_first]; iexact HX
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost₀ c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ ghost₀ c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launched m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      refine ⟨⟨⟨(h _ (uc_mem main_arg0 rfl)).trans (V2_main_arg0 m _ c), (h _ (uc_mem main_arg1 rfl)).trans (V2_main_arg1 m _ c),
        (h _ (uc_mem main_arg2 rfl)).trans (V2_main_arg2 m _ c), (h _ (uc_mem main_arg3 rfl)).trans (V2_main_arg3 m _ c),
        (h _ (uc_mem main_arg4 rfl)).trans (V2_main_arg4 m _ c)⟩, (h _ (uc_mem main_v17 rfl)).trans ((V2_out m (outs m) c).trans (outs_main m c))⟩, by simpa using hb⟩
    · iexact HSI

end Cert.KernelIdeal.Ring

end
-- ==== Proof.Attention.lean ====
/-
# Attention by the usual formula

What both programs compute, over the extended reals: scores inside a band around the diagonal,
their exponentials below the row's maximum, divided by the row's sum, times the values. And the
numbering of batches, heads and columns.
-/
module

public import Idealize.ShloMosaic.Lib.Pointwise

@[expose] public section

noncomputable section

namespace Cert.Attention

open Idealize.ShloMosaic

/-- Whether two positions are at most 128 apart, as the word both programs compute. -/
def near (i j : Fin 256) : BitVec 1 := IntOp.cmpi .sle (IntOp.absi (IntOp.subi (BitVec.ofNat 32 i.val) (BitVec.ofNat 32 j.val))) 128#32

/-- The scale of the scores. -/
def scale : EReal := Ideal.ofBits .f32 0x3E000000#32

/-- Scores under the mask. -/
def score (d : Fin 256 → Fin 256 → EReal) (i j : Fin 256) : EReal :=
  Scalar.select (near i j) (d i j) (Ideal.ofBits .f32 0xCE6E6B28#32)

/-- A score's exponential below its row's maximum. -/
def expo (s : Fin 256 → Fin 256 → EReal) (i j : Fin 256) : EReal :=
  Ideal.exp (s i j - Finset.univ.fold max (Ideal.ofBits .f32 0xFF800000#32) fun k => s i k)

/-- A row divided by its sum. -/
def norm (p : Fin 256 → Fin 256 → EReal) (i j : Fin 256) : EReal := Ideal.div (p i j) (∑ k, p i k)

/-- What a head finds. -/
def found (d : Fin 256 → Fin 256 → EReal) (v : Fin 256 → Fin 64 → EReal) (i : Fin 256) (e : Fin 64) : EReal :=
  ∑ j, norm (expo (score d)) i j * v j e

/-- The scale is an eighth. -/
theorem scale_eq : scale = (((1 : ℝ) / 8 : ℝ) : EReal) := by
  simp [scale, Ideal.ofBits, Ideal.ieee, -EReal.coe_mul]; norm_num

/-- A sum of scaled terms is the scaled sum: the scale is finite and not negative. -/
theorem sum_scale {n : ℕ} (f : Fin n → EReal) : ∑ i, f i * scale = (∑ i, f i) * scale := by
  have h0 : 0 ≤ scale := by rw [scale_eq]; exact_mod_cast (by norm_num : (0 : ℝ) ≤ 1 / 8)
  have h1 : scale ≠ ⊤ := by rw [scale_eq]; exact EReal.coe_ne_top _
  have key : ∀ t : Finset (Fin n), ∑ i ∈ t, f i * scale = (∑ i ∈ t, f i) * scale := fun t => by
    induction t using Finset.induction_on with
    | empty => simp
    | insert a t ha ih => rw [Finset.sum_insert ha, Finset.sum_insert ha, ih, EReal.right_distrib_of_nonneg_of_ne_top h0 h1]
  exact key _

/-- Scaling the queries or the scores is the same. -/
theorem scale_dot {n : ℕ} (q k : Fin n → EReal) : ∑ e, (q e * scale) * k e = (∑ e, q e * k e) * scale := by
  rw [← sum_scale]
  exact Finset.sum_congr rfl fun e _ => mul_right_comm _ _ _

/-! ## Numbering -/

/-- Column `e` of head `r` of a group. -/
def col (r : Fin 4) (e : Fin 64) : Fin 256 := ⟨64 * r.val + e.val, by omega⟩

theorem sum_col (f : Fin 256 → EReal) : ∑ l, f l = ∑ r : Fin 4, ∑ e : Fin 64, f (col r e) := by
  rw [← Fintype.sum_prod_type' (f := fun r e => f (col r e)), ← Equiv.sum_comp (finProdFinEquiv (m := 4) (n := 64))]
  refine Finset.sum_congr rfl fun p _ => congrArg f (Fin.ext ?_)
  show p.2.val + 64 * p.1.val = 64 * p.1.val + p.2.val
  omega

/-- Batch `b` of device `c` in the whole. -/
def row (c : Fin 8) (b : Fin 2) : Fin 16 := ⟨2 * c.val + b.val, by omega⟩
/-- Head `r` of group `j` in the whole. -/
def head (j : Fin 8) (r : Fin 4) : Fin 32 := ⟨4 * j.val + r.val, by omega⟩

/-- Column `e` of head `h` in the whole. -/
def place (h : Fin 32) (e : Fin 64) : Fin 2048 := ⟨64 * h.val + e.val, by omega⟩

theorem place_eq (h : Fin 32) (e : Fin 64) (p : h.val * 64 + e.val < 2048) : (⟨h.val * 64 + e.val, p⟩ : Fin 2048) = place h e :=
  Fin.ext (by show h.val * 64 + e.val = 64 * h.val + e.val; omega)
theorem place_div (h : Fin 32) (e : Fin 64) (p : (place h e).val / 64 < 32) : (⟨(place h e).val / 64, p⟩ : Fin 32) = h :=
  Fin.ext (by show (64 * h.val + e.val) / 64 = h.val; omega)
theorem place_mod (h : Fin 32) (e : Fin 64) (p : (place h e).val % 64 < 64) : (⟨(place h e).val % 64, p⟩ : Fin 64) = e :=
  Fin.ext (by show (64 * h.val + e.val) % 64 = e.val; omega)

/-- A sum over all columns is one over groups, heads and a head's columns. -/
theorem sum_place (f : Fin 2048 → EReal) : ∑ l, f l = ∑ j : Fin 8, ∑ r : Fin 4, ∑ e : Fin 64, f (place (head j r) e) := by
  have h : ∑ l, f l = ∑ j : Fin 8, ∑ l : Fin 256, f ⟨256 * j.val + l.val, by omega⟩ := by
    rw [← Fintype.sum_prod_type' (f := fun (j : Fin 8) (l : Fin 256) => f ⟨256 * j.val + l.val, by omega⟩), ← Equiv.sum_comp (finProdFinEquiv (m := 8) (n := 256))]
    refine Finset.sum_congr rfl fun p _ => congrArg f (Fin.ext ?_)
    show p.2.val + 256 * p.1.val = 256 * p.1.val + p.2.val
    omega
  rw [h]
  refine Finset.sum_congr rfl fun j _ => ?_
  rw [sum_col]
  refine Finset.sum_congr rfl fun r _ => Finset.sum_congr rfl fun e _ => congrArg f (Fin.ext ?_)
  show 256 * j.val + (64 * r.val + e.val) = 64 * (4 * j.val + r.val) + e.val
  omega

end Cert.Attention

end
-- ==== Proof.KernelIdealValue.lean ====
/-
# What one device adds, entry by entry

Over the extended reals a device's group of four heads is read at an entry: a head attends by the
usual formula, and the group is the sum over its 256 columns of what the heads found times the
output weights.
-/
module

public import proofs.«01_k».proof.Proof.KernelIdealGroup
public import proofs.«01_k».proof.Proof.Attention
public import Idealize.ShloMosaic.Lib.Pointwise

@[expose] public section

noncomputable section

namespace Cert.KernelIdeal.Ring

open Cert.KernelIdeal Cert.KernelIdeal.Gen Cert.Attention
open Idealize.ShloMosaic Idealize.ShloMosaic.TcCoe

theorem scoreV_at (q : FVec Ideal S256x64 .bf16) (k : Vec Ideal S1x1x256x64 .bf16) (i j : Fin 256) :
    scoreV q k (ix2 i j) = score (fun i j => ∑ e : Fin 64, q (ix2 i e) * k (ix4 0 0 j e)) i j := by
  pointwise [scoreV, maskV, k0_pay3, score, near, dot_S256x64_S256x64_S256x256_1_1_0_0_n_n]

theorem expV_at (s : FVec Ideal S256x256 .f32) (i j : Fin 256) :
    expV s (ix2 i j) = expo (fun i j => s (ix2 i j)) i j := by
  pointwise [expV, expo]

theorem normV_at (s : FVec Ideal S256x256 .f32) (i j : Fin 256) :
    normV s (ix2 i j) = norm (fun i j => s (ix2 i j)) i j := by
  pointwise [normV, Attention.norm]

theorem headV_at (q : FVec Ideal S256x64 .bf16) (k v : Vec Ideal S1x1x256x64 .bf16) (i : Fin 256) (e : Fin 64) :
    headV q k v (ix2 i e) = found (fun i j => ∑ e : Fin 64, q (ix2 i e) * k (ix4 0 0 j e)) (fun j e => v (ix4 0 0 j e)) i e := by
  pointwise [headV, found, dot_S256x256_S256x64_S256x64_1_0_0_1_n_n]
  simp only [normV_at, expV_at, scoreV_at]

theorem qV_at (w : FVec Ideal S512x256 .bf16) (x : Vec Ideal S1x256x512 .bf16) (i l : Fin 256) :
    qV w x (ix2 i l) = (∑ a : Fin 512, x (ix3 0 i a) * w (ix2 a l)) * scale := by
  pointwise [qV, scale, dot_S256x512_S512x256_S256x256_1_0_0_1_n_n]

/-- A head whose queries are the columns of its part of the group's. -/
theorem headV_slice (off : Fin 2 → ℕ) (h : S256x256.Slices off S256x64) (q : FVec Ideal S256x256 .bf16) (k v : Vec Ideal S1x1x256x64 .bf16)
    (i : Fin 256) (a e : Fin 64) (r : Fin 4) (ho : off = ![0, 64 * r.val]) (ha : a.val = e.val) :
    headV (extractStridedSlice S256x64 off q h) k v (ix2 i a)
      = found (fun i j => ∑ e : Fin 64, q (ix2 i (col r e)) * k (ix4 0 0 j e)) (fun j e => v (ix4 0 0 j e)) i e := by
  subst ho
  obtain rfl : a = e := Fin.ext ha
  rw [headV_at]
  refine congrArg (fun d => found d _ i a) ?_
  funext i j
  refine Finset.sum_congr rfl fun e _ => congrArg (· * _) ?_
  refine extractStridedSlice_apply _ _ _ _ _ fun b => ?_
  match b with
  | ⟨0, _⟩ => show i.val = 0 + i.val; omega
  | ⟨1, _⟩ => rfl

theorem groupV_at (w : FVec Ideal S512x256 .bf16) (o : FVec Ideal S256x512 .bf16) (x : Vec Ideal S1x256x512 .bf16)
    (k v : Fin 4 → Vec Ideal S1x1x256x64 .bf16) (i : Fin 256) (n : Fin 512) :
    groupV w o x k v (ix2 i n) = ∑ r : Fin 4, ∑ e : Fin 64,
      found (fun i j => ∑ e : Fin 64, qV w x (ix2 i (col r e)) * k r (ix4 0 0 j e)) (fun j e => v r (ix4 0 0 j e)) i e * o (ix2 (col r e) n) := by
  pointwise [groupV, dot_S256x256_S256x512_S256x512_1_0_0_1_n_n]
  rw [sum_col]
  refine Finset.sum_congr rfl fun r _ => Finset.sum_congr rfl fun e _ => ?_
  congr 1
  fin_cases r
  · refine (dif_pos (show 64 * 0 + e.val < 64 by omega)).trans (?_)
    exact headV_slice ![0, 0] _ _ _ _ i _ e (0 : Fin 4) rfl (by show 64 * 0 + e.val = e.val; omega)
  · refine (dif_neg (show ¬ 64 * 1 + e.val < 64 by omega)).trans ((dif_pos (show 64 * 1 + e.val - 64 < 64 by omega)).trans (?_))
    exact headV_slice ![0, 64] _ _ _ _ i _ e (1 : Fin 4) rfl (by show 64 * 1 + e.val - 64 = e.val; omega)
  · refine (dif_neg (show ¬ 64 * 2 + e.val < 64 by omega)).trans ((dif_neg (show ¬ 64 * 2 + e.val - 64 < 64 by omega)).trans ((dif_pos (show 64 * 2 + e.val - 64 - 64 < 64 by omega)).trans (?_)))
    exact headV_slice ![0, 128] _ _ _ _ i _ e (2 : Fin 4) rfl (by show 64 * 2 + e.val - 64 - 64 = e.val; omega)
  · refine (dif_neg (show ¬ 64 * 3 + e.val < 64 by omega)).trans ((dif_neg (show ¬ 64 * 3 + e.val - 64 < 64 by omega)).trans ((dif_neg (show ¬ 64 * 3 + e.val - 64 - 64 < 64 by omega)).trans (?_)))
    exact headV_slice ![0, 192] _ _ _ _ i _ e (3 : Fin 4) rfl (by show 64 * 3 + e.val - 64 - 64 - 64 = e.val; omega)

end Cert.KernelIdeal.Ring

end
-- ==== Proof.KernelIdealInputs.lean ====
/-
# What a device's blocks hold

The blocks a device stages, entry by entry, from the arguments it was launched with: the host cuts
the device's two batches out of the keys and values and lays the heads before the positions.
-/
module

public import proofs.«01_k».proof.Proof.KernelIdealRun
public import proofs.«01_k».proof.Proof.Attention
public import Idealize.ShloMosaic.Lib.Pointwise
public import Idealize.ShloMosaic.Lib.DynamicIndex

@[expose] public section

noncomputable section

namespace Cert.KernelIdeal.Ring

open Cert.KernelIdeal Cert.KernelIdeal.Gen Cert.Attention
open Idealize.ShloMosaic Idealize.ShloMosaic.TcCoe Idealize.ShloMosaic.StableHlo

variable {F : FTy → Type} [FloatOps F]
variable (m : (ℓ : Loc nD τ sig) → Buf (Elt F) ℓ)

/-- The host starts its cut at the device's first batch. -/
theorem start_eq (c : Dev nD) : BitVec.toInt (select
      (cmpi CmpIPredicate.slt (muli (Host.remui (Host.divui (constantI S_ 32 c.word) (constantI S_ 32 1#32)) (constantI S_ 32 8#32)) (constantI S_ 32 2#32)) (constantI S_ 32 0#32))
      (addi (muli (Host.remui (Host.divui (constantI S_ 32 c.word) (constantI S_ 32 1#32)) (constantI S_ 32 8#32)) (constantI S_ 32 2#32)) (constantI S_ 32 16#32))
      (muli (Host.remui (Host.divui (constantI S_ 32 c.word) (constantI S_ 32 1#32)) (constantI S_ 32 8#32)) (constantI S_ 32 2#32))
      (Shape.Idx.first h_S_)) = 2 * (c.val : Int) := by
  revert c; decide +kernel

set_option maxRecDepth 8192 in
/-- The host's cut of the keys: heads first, the device's two batches only. -/
theorem V1_k (c : Dev nD) : V1 m c main_v15 = transpose S2x32x256x64 [0, 2, 1, 3]
    (Host.dynamicSlice S2x256x32x64 (m ((c.tc : Thread nD τ).loc main_arg2) : (⟨S16x256x32x64, .bf16⟩ : BufTy).Contents (Elt F))
      ![2 * (c.val : Int), 0, 0, 0] sliceFits_S16x256x32x64_S2x256x32x64) transposes_S2x256x32x64_S2x32x256x64_0_2_1_3 := by
  unfold V1 hostOps0
  after_results_simp
  refine congrArg (fun st => transpose S2x32x256x64 [0, 2, 1, 3] (Host.dynamicSlice S2x256x32x64 _ st _) _) (funext fun k => ?_)
  match k with
  | 0 =>
    dsimp only [Matrix.cons_val]
    after_results_simp
    exact start_eq c
  | 1 =>
    dsimp only [Matrix.cons_val]
    after_results_simp
    rfl
  | 2 =>
    dsimp only [Matrix.cons_val]
    after_results_simp
    rfl
  | 3 =>
    dsimp only [Matrix.cons_val]
    after_results_simp
    rfl

set_option maxRecDepth 8192 in
/-- The host's cut of the values: heads first, the device's two batches only. -/
theorem V1_v (c : Dev nD) : V1 m c main_v16 = transpose S2x32x256x64 [0, 2, 1, 3]
    (Host.dynamicSlice S2x256x32x64 (m ((c.tc : Thread nD τ).loc main_arg3) : (⟨S16x256x32x64, .bf16⟩ : BufTy).Contents (Elt F))
      ![2 * (c.val : Int), 0, 0, 0] sliceFits_S16x256x32x64_S2x256x32x64) transposes_S2x256x32x64_S2x32x256x64_0_2_1_3 := by
  unfold V1 hostOps0
  after_results_simp
  refine congrArg (fun st => transpose S2x32x256x64 [0, 2, 1, 3] (Host.dynamicSlice S2x256x32x64 _ st _) _) (funext fun k => ?_)
  match k with
  | 0 =>
    dsimp only [Matrix.cons_val]
    after_results_simp
    exact start_eq c
  | 1 =>
    dsimp only [Matrix.cons_val]
    after_results_simp
    rfl
  | 2 =>
    dsimp only [Matrix.cons_val]
    after_results_simp
    rfl
  | 3 =>
    dsimp only [Matrix.cons_val]
    after_results_simp
    rfl

theorem cut_at (X : (⟨S16x256x32x64, .bf16⟩ : BufTy).Contents (Elt F)) (c : Dev nD) (b : Fin 2) (j : Fin 8) (r : Fin 4) (i : Fin 256) (e : Fin 64) :
    transpose S2x32x256x64 [0, 2, 1, 3] (Host.dynamicSlice S2x256x32x64 X ![2 * (c.val : Int), 0, 0, 0] sliceFits_S16x256x32x64_S2x256x32x64)
      transposes_S2x256x32x64_S2x32x256x64_0_2_1_3 (ix4 b (head j r) i e) = X (ix4 (row c b) i (head j r) e) := by
  have hc : c.val < 8 := c.isLt
  have hoff : S16x256x32x64.Slices ![2 * c.val, 0, 0, 0] S2x256x32x64 := ⟨rfl, fun a => by
    match a with
    | 0 => show 2 * c.val + 2 ≤ 16; omega
    | 1 => show 0 + 256 ≤ 256; omega
    | 2 => show 0 + 32 ≤ 32; omega
    | 3 => show 0 + 64 ≤ 64; omega⟩
  have hd : Host.dynamicSlice S2x256x32x64 X ![2 * (c.val : Int), 0, 0, 0] sliceFits_S16x256x32x64_S2x256x32x64
      = extractStridedSlice S2x256x32x64 ![2 * c.val, 0, 0, 0] X hoff :=
    Host.dynamicSlice_eq_extractStridedSlice _ _ _ _ _ hoff fun a => by
      match a with
      | 0 => rfl
      | 1 => rfl
      | 2 => rfl
      | 3 => rfl
  rw [hd]
  pointwise
  rfl

theorem kS_at (c : Dev nD) (b : Fin 2) (j : Fin 8) (r : Fin 4) (i : Fin 256) (e : Fin 64) :
    kS m c b j r (ix4 0 0 i e) = (m ((c.tc : Thread nD τ).loc main_arg2) : (⟨S16x256x32x64, .bf16⟩ : BufTy).Contents (Elt F)) (ix4 (row c b) i (head j r) e) := by
  refine Eq.trans ?_ (cut_at (m ((c.tc : Thread nD τ).loc main_arg2)) c b j r i e)
  rw [← V1_k m c, ← blk_2 (V1 m c main_v15)]
  refine congrArg (kB m c) (funext fun a => Fin.ext ?_)
  match a with
  | 0 => rfl
  | 1 => rfl
  | 2 => show 0 + 1 * i.val = i.val; omega
  | 3 => show 0 + 1 * e.val = e.val; omega

theorem vS_at (c : Dev nD) (b : Fin 2) (j : Fin 8) (r : Fin 4) (i : Fin 256) (e : Fin 64) :
    vS m c b j r (ix4 0 0 i e) = (m ((c.tc : Thread nD τ).loc main_arg3) : (⟨S16x256x32x64, .bf16⟩ : BufTy).Contents (Elt F)) (ix4 (row c b) i (head j r) e) := by
  refine Eq.trans ?_ (cut_at (m ((c.tc : Thread nD τ).loc main_arg3)) c b j r i e)
  rw [← V1_v m c, ← blk_3 (V1 m c main_v16)]
  refine congrArg (vB m c) (funext fun a => Fin.ext ?_)
  match a with
  | 0 => rfl
  | 1 => rfl
  | 2 => show 0 + 1 * i.val = i.val; omega
  | 3 => show 0 + 1 * e.val = e.val; omega

theorem xS_at (c : Dev nD) (b : Fin 2) (i : Fin 256) (a : Fin 512) :
    xS m c b (ix3 0 i a) = (m ((c.tc : Thread nD τ).loc main_arg0) : (⟨S2x256x512, .bf16⟩ : BufTy).Contents (Elt F)) (ix3 b i a) := by
  have h : xB m c = m ((c.tc : Thread nD τ).loc main_arg0) := (blk_0 (V1 m c main_arg0)).trans (V1_of m c main_arg0 (by decide))
  rw [← h]
  refine congrArg (xB m c) (funext fun d => Fin.ext ?_)
  match d with
  | 0 => rfl
  | 1 => show 0 + 1 * i.val = i.val; omega
  | 2 => show 0 + 1 * a.val = a.val; omega

theorem wqB_eq (c : Dev nD) : wqB m c = m ((c.tc : Thread nD τ).loc main_arg1) := (blk_1 (V1 m c main_arg1)).trans (V1_of m c main_arg1 (by decide))
theorem woB_eq (c : Dev nD) : woB m c = m ((c.tc : Thread nD τ).loc main_arg4) := (blk_4 (V1 m c main_arg4)).trans (V1_of m c main_arg4 (by decide))

theorem own_q (c : Dev nD) : k0_pay4 (wqB m c) = m ((c.tc : Thread nD τ).loc main_arg1) := by
  rw [wqB_eq]; funext j; rw [ValueIdx.eq_ix2 j]; pointwise [k0_pay4]
theorem own_o (c : Dev nD) : k0_pay5 (woB m c) = m ((c.tc : Thread nD τ).loc main_arg4) := by
  rw [woB_eq]; funext j; rw [ValueIdx.eq_ix2 j]; pointwise [k0_pay5]
theorem got_q (c : Dev nD) : shapeCast S512x256 (wqS m c) shapeCasts_S1x512x256_S512x256 = m ((c.tc : Thread nD τ).loc main_arg1) := by
  unfold wqS; rw [wqB_eq]; funext j; rw [ValueIdx.eq_ix2 j]; pointwise [k0_pay1]
theorem got_o (c : Dev nD) : shapeCast S256x512 (woS m c) shapeCasts_S1x256x512_S256x512 = m ((c.tc : Thread nD τ).loc main_arg4) := by
  unfold woS; rw [woB_eq]; funext j; rw [ValueIdx.eq_ix2 j]; pointwise [k0_pay2]

end Cert.KernelIdeal.Ring

end
-- ==== Proof.ReferenceValue.lean ====
/-
# The reference, entry by entry

The reference's result in stages, each read at an entry over the extended reals.
-/
module

public import proofs.«01_k».proof.Proof.Attention
public import proofs.«01_k».proof.Proof.Gen.ReferenceIdeal.Run

@[expose] public section

noncomputable section

namespace Cert.ReferenceIdeal.Stage

open Cert.ReferenceIdeal Cert.ReferenceIdeal.Gen Cert.ReferenceIdeal.Value Cert.Attention
open Idealize.ShloMosaic Idealize.ShloMosaic.TcCoe

/-! ## The stages -/

/-- The band. -/
def bandR : IVec S256x256 1 :=
  cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))

/-- Which rows have anything in the band. -/
def keepR : IVec S256 1 := Host.reduce IntOp.ori bandR (constantI S_ 1 0#1) reducesTo_S256x256_S256_d1 h_S_

/-- Queries. -/
def qR (x : FVec Ideal S16x256x512 .bf16) (wq : FVec Ideal S512x2048 .bf16) : FVec Ideal S16x256x32x64 .bf16 :=
  shapeCast _ (truncf .bf16 (Host.dotGeneral dot_S16x256x512_S512x2048_S16x256x2048_2_0_01_1_n_n none x wq) bitsLt_bf16_f32) shapeCasts_S16x256x2048_S16x256x32x64

/-- Masked scores. -/
def scoreR (q k : FVec Ideal S16x256x32x64 .bf16) : FVec Ideal S16x32x256x256 .f32 :=
  select (broadcastInDim S16x32x256x256 ![0, 1, 2, 3] bcast_S1x1x256x256_S16x32x256x256_0_1_2_3 (broadcastInDim S1x1x256x256 ![2, 3] bcast_S256x256_S1x1x256x256_2_3 bandR))
    (mulf (extf .f32 (truncf .bf16 (Host.dotGeneral dot_S16x256x32x64_S16x256x32x64_S16x32x256x256_3_3_1_1_02_02 none q k) bitsLt_bf16_f32) bitsLt_bf16_f32) (broadcastInDim S16x32x256x256 ![] bcast_S_S16x32x256x256 (constant S_ .f32 0x3E000000#32)))
    (broadcastInDim S16x32x256x256 ![] bcast_S_S16x32x256x256 (id (constant S_ .f32 0xCE6E6B28#32)))

/-- Exponentials below the row's maximum. -/
def expR (s : FVec Ideal S16x32x256x256 .f32) : FVec Ideal S16x32x256x256 .f32 :=
  Host.exp (subf s (broadcastInDim S16x32x256x256 ![0, 1, 2, 3] bcast_S16x32x256x1_S16x32x256x256_0_1_2_3 (broadcastInDim S16x32x256x1 ![0, 1, 2] bcast_S16x32x256_S16x32x256x1_0_1_2 (Host.reduce FloatOps.maximumf s (constant S_ .f32 0xFF800000#32) reducesTo_S16x32x256x256_S16x32x256_d3 h_S_))))

/-- Rows divided by their sums, where the row is kept. -/
def normR (p : FVec Ideal S16x32x256x256 .f32) : FVec Ideal S16x32x256x256 .f32 :=
  select (broadcastInDim S16x32x256x256 ![0, 1, 2, 3] bcast_S1x1x256x1_S16x32x256x256_0_1_2_3 (broadcastInDim S1x1x256x1 ![2] bcast_S256_S1x1x256x1_2 keepR))
    (Host.divf p (broadcastInDim S16x32x256x256 ![0, 1, 2, 3] bcast_S16x32x256x1_S16x32x256x256_0_1_2_3
      (select (broadcastInDim S16x32x256x1 ![0, 1, 2, 3] bcast_S1x1x256x1_S16x32x256x1_0_1_2_3 (broadcastInDim S1x1x256x1 ![2] bcast_S256_S1x1x256x1_2 keepR))
        (broadcastInDim S16x32x256x1 ![0, 1, 2] bcast_S16x32x256_S16x32x256x1_0_1_2 (Host.reduceAdd p (constant S_ .f32 0x00000000#32) reducesTo_S16x32x256x256_S16x32x256_d3 h_S_))
        (broadcastInDim S16x32x256x1 ![] bcast_S_S16x32x256x1 (id (constant S_ .f32 0x3F800000#32))))))
    (broadcastInDim S16x32x256x256 ![] bcast_S_S16x32x256x256 (id (constant S_ .f32 0x00000000#32)))

/-- What the heads find, side by side. -/
def ctxR (p : FVec Ideal S16x32x256x256 .f32) (v : FVec Ideal S16x256x32x64 .bf16) : FVec Ideal S16x256x2048 .f32 :=
  shapeCast _ (transpose S16x256x32x64 [0, 3, 1, 2] (Host.dotGeneral dot_S16x256x32x64_S16x32x256x256_S16x32x64x256_1_3_3_2_02_01 none (extf .f32 v bitsLt_bf16_f32) p) transposes_S16x32x64x256_S16x256x32x64_0_3_1_2) shapeCasts_S16x256x32x64_S16x256x2048

/-- The reference's result. -/
def outR (x : FVec Ideal S16x256x512 .bf16) (wq : FVec Ideal S512x2048 .bf16) (k v : FVec Ideal S16x256x32x64 .bf16) (wo : FVec Ideal S2048x512 .bf16) : FVec Ideal S16x256x512 .f32 :=
  Host.dotGeneral dot_S16x256x2048_S2048x512_S16x256x512_2_0_01_1_n_n none (ctxR (normR (expR (scoreR (qR x wq) k))) v) (extf .f32 wo bitsLt_bf16_f32)

theorem out_eq (m : (ℓ : Loc nD τ sig) → Buf (Elt Ideal) ℓ) (c : Dev nD) : res_main_v39 m c
    = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v39 outR ctxR normR expR scoreR qR keepR bandR
  rfl

/-! ## Read at an entry -/

theorem bandR_at (i j : Fin 256) : bandR (ix2 i j) = near i j := by
  pointwise [bandR, near]

/-- Every row holds its diagonal. -/
theorem keepR_at (i : Fin 256) : keepR (ix1 i) = 1#1 := by
  have hd : near i i = 1#1 := by revert i; decide +kernel
  pointwise [keepR, bandR_at]
  rw [← Finset.insert_erase (Finset.mem_univ i), Finset.fold_insert (Finset.notMem_erase i _), hd]
  generalize Finset.fold IntOp.ori (0#1) (fun x => near i x) (Finset.univ.erase i) = b
  revert b; decide

theorem qR_at (x : FVec Ideal S16x256x512 .bf16) (wq : FVec Ideal S512x2048 .bf16) (b : Fin 16) (i : Fin 256) (h : Fin 32) (e : Fin 64) :
    qR x wq (ix4 b i h e) = ∑ a : Fin 512, x (ix3 b i a) * wq (ix2 a (place h e)) := by
  pointwise [qR, dot_S16x256x512_S512x2048_S16x256x2048_2_0_01_1_n_n]
  simp only [place_eq]

theorem scoreR_at (q k : FVec Ideal S16x256x32x64 .bf16) (b : Fin 16) (h : Fin 32) (i j : Fin 256) :
    scoreR q k (ix4 b h i j) = score (fun i j => (∑ e : Fin 64, q (ix4 b i h e) * k (ix4 b j h e)) * scale) i j := by
  pointwise [scoreR, score, scale, bandR_at, id_eq, dot_S16x256x32x64_S16x256x32x64_S16x32x256x256_3_3_1_1_02_02]

theorem expR_at (s : FVec Ideal S16x32x256x256 .f32) (b : Fin 16) (h : Fin 32) (i j : Fin 256) :
    expR s (ix4 b h i j) = expo (fun i j => s (ix4 b h i j)) i j := by
  pointwise [expR, expo]

theorem normR_at (p : FVec Ideal S16x32x256x256 .f32) (b : Fin 16) (h : Fin 32) (i j : Fin 256) :
    normR p (ix4 b h i j) = norm (fun i j => p (ix4 b h i j)) i j := by
  pointwise [normR, Attention.norm, keepR_at, ValueIdx.select_one]

theorem ctxR_at (p : FVec Ideal S16x32x256x256 .f32) (v : FVec Ideal S16x256x32x64 .bf16) (b : Fin 16) (i : Fin 256) (h : Fin 32) (e : Fin 64) :
    ctxR p v (ix3 b i (place h e)) = ∑ j : Fin 256, p (ix4 b h i j) * v (ix4 b j h e) := by
  pointwise [ctxR, dot_S16x256x32x64_S16x32x256x256_S16x32x64x256_1_3_3_2_02_01]
  simp only [place_div, place_mod, mul_comm]

/-- The reference's result at an entry. -/
theorem outR_at (x : FVec Ideal S16x256x512 .bf16) (wq : FVec Ideal S512x2048 .bf16) (k v : FVec Ideal S16x256x32x64 .bf16) (wo : FVec Ideal S2048x512 .bf16)
    (b : Fin 16) (i : Fin 256) (n : Fin 512) :
    outR x wq k v wo (ix3 b i n) = ∑ j : Fin 8, ∑ r : Fin 4, ∑ e : Fin 64,
      found (fun i i' => (∑ e : Fin 64, (∑ a : Fin 512, x (ix3 b i a) * wq (ix2 a (place (head j r) e))) * k (ix4 b i' (head j r) e)) * scale)
        (fun i' e => v (ix4 b i' (head j r) e)) i e * wo (ix2 (place (head j r) e) n) := by
  pointwise [outR, dot_S16x256x2048_S2048x512_S16x256x512_2_0_01_1_n_n]
  rw [sum_place]
  simp only [ctxR_at, normR_at, expR_at, scoreR_at, qR_at]
  rfl

end Cert.ReferenceIdeal.Stage

end
-- ==== Proof.Value.lean ====
/-
# The kernel's result is the reference's

Entry by entry over the extended reals.
-/
module

public import proofs.«01_k».proof.Proof.KernelIdealValue
public import proofs.«01_k».proof.Proof.KernelIdealInputs
public import proofs.«01_k».proof.Proof.ReferenceValue
public import Idealize.ShloMosaic.Lib.Layout

@[expose] public section

noncomputable section

namespace Cert.KernelIdeal.Ring

open Cert.KernelIdeal Cert.KernelIdeal.Gen Cert.Attention
open Idealize.ShloMosaic Idealize.ShloMosaic.TcCoe

/-! ## The kernel -/

section Kernel

variable (m : (ℓ : Loc nD τ sig) → Buf (Elt Ideal) ℓ)

/-- A device's own arguments. -/
abbrev x_ (c : Dev nD) : S2x256x512.Idx → EReal := m ((c.tc : Thread nD τ).loc main_arg0)
abbrev wq_ (c : Dev nD) : S512x256.Idx → EReal := m ((c.tc : Thread nD τ).loc main_arg1)
abbrev k_ (c : Dev nD) : S16x256x32x64.Idx → EReal := m ((c.tc : Thread nD τ).loc main_arg2)
abbrev v_ (c : Dev nD) : S16x256x32x64.Idx → EReal := m ((c.tc : Thread nD τ).loc main_arg3)
abbrev wo_ (c : Dev nD) : S256x512.Idx → EReal := m ((c.tc : Thread nD τ).loc main_arg4)

/-- What the heads of group `j` add to an entry of batch `b` of device `c`. -/
def part (c : Dev nD) (b : Fin 2) (i : Fin 256) (n : Fin 512) (j : Fin 8) : EReal :=
  ∑ r : Fin 4, ∑ e : Fin 64,
    found (fun i i' => ∑ e : Fin 64, ((∑ a : Fin 512, x_ m c (ix3 b i a) * wq_ m j (ix2 a (col r e))) * scale) * k_ m c (ix4 (row c b) i' (head j r) e))
      (fun i' e => v_ m c (ix4 (row c b) i' (head j r) e)) i e * wo_ m j (ix2 (col r e) n)

theorem group_at (c : Dev nD) (b : Fin 2) (j : Dev nD) (i : Fin 256) (n : Fin 512) :
    groupV (m ((j.tc : Thread nD τ).loc main_arg1)) (m ((j.tc : Thread nD τ).loc main_arg4)) (xS m c b) (kS m c b j) (vS m c b j) (ix2 i n) = part m c b i n j := by
  rw [groupV_at]
  simp only [qV_at, xS_at, kS_at, vS_at]
  rfl

theorem firstV_at (c : Dev nD) (b : Fin 2) (i : Fin 256) (n : Fin 512) : firstV m c b (ix3 0 i n) = part m c b i n c := by
  rw [← group_at]
  unfold firstV
  rw [own_q, own_o]
  pointwise

theorem nextV_at (c : Dev nD) (b : Fin 2) (t : Hop) (a : Vec Ideal S1x256x512 .f32) (i : Fin 256) (n : Fin 512) :
    nextV m c b t a (ix3 0 i n) = a (ix3 0 i n) + part m c b i n (into t c) := by
  rw [← group_at]
  unfold nextV
  rw [got_q, got_o]
  pointwise

theorem sumV_at (c : Dev nD) (b : Fin 2) (i : Fin 256) (n : Fin 512) : sumV m c b used (ix3 0 i n) = ∑ j, part m c b i n j := by
  simp only [used, sumV, nextV_at, firstV_at]
  rw [univ_slots c, Finset.sum_insert, Finset.sum_image fun _ _ _ _ h => into_inj c h, Fin.sum_univ_seven]
  · ac_rfl
  · simp [into_ne]

theorem final_at (c : Dev nD) (b : Fin 2) (i : Fin 256) (n : Fin 512) : final m c (ix3 b i n) = ∑ j, part m c b i n j := by
  rw [← sumV_at]
  unfold final comb
  match b with
  | 0 => exact if_pos rfl
  | 1 => exact if_neg (show ¬ (1 : ℕ) = 0 by decide)

end Kernel

/-! ## A device's blocks of the whole arrays -/

open Cert.ReferenceIdeal (S16x256x512 S512x2048 S16x256x32x64 S2048x512)

theorem block_x (c : Fin 8) (X : S16x256x512.Idx → EReal) (b : Fin 2) (i : Fin 256) (a : Fin 512) :
    Layout.block ⟨3, ![2, 256, 512]⟩ ⟨3, ![16, 256, 512]⟩ 0 8 c X (by decide) (ix3 b i a) = X (ix3 (row c b) i a) :=
  congrArg X (funext fun d => Fin.ext (by
    match d with
    | 0 => show c.val * 2 + b.val = 2 * c.val + b.val; omega
    | 1 => rfl
    | 2 => rfl))

theorem block_wq (j : Fin 8) (X : S512x2048.Idx → EReal) (a : Fin 512) (r : Fin 4) (e : Fin 64) :
    Layout.block ⟨2, ![512, 256]⟩ ⟨2, ![512, 2048]⟩ 1 8 j X (by decide) (ix2 a (col r e)) = X (ix2 a (place (head j r) e)) :=
  congrArg X (funext fun d => Fin.ext (by
    match d with
    | 0 => rfl
    | 1 => show j.val * 256 + (64 * r.val + e.val) = 64 * (4 * j.val + r.val) + e.val; omega))

theorem block_wo (j : Fin 8) (X : S2048x512.Idx → EReal) (n : Fin 512) (r : Fin 4) (e : Fin 64) :
    Layout.block ⟨2, ![256, 512]⟩ ⟨2, ![2048, 512]⟩ 0 8 j X (by decide) (ix2 (col r e) n) = X (ix2 (place (head j r) e) n) :=
  congrArg X (funext fun d => Fin.ext (by
    match d with
    | 0 => show j.val * 256 + (64 * r.val + e.val) = 64 * (4 * j.val + r.val) + e.val; omega
    | 1 => rfl))

/-- Every device ends with its block of the reference's result. -/
theorem final_eq (m : (ℓ : Loc nD τ sig) → Buf (Elt Ideal) ℓ) (X : S16x256x512.Idx → EReal) (Wq : S512x2048.Idx → EReal)
    (K V : S16x256x32x64.Idx → EReal) (Wo : S2048x512.Idx → EReal)
    (hx : ∀ c, x_ m c = Layout.block ⟨3, ![2, 256, 512]⟩ ⟨3, ![16, 256, 512]⟩ 0 8 c X)
    (hq : ∀ c, wq_ m c = Layout.block ⟨2, ![512, 256]⟩ ⟨2, ![512, 2048]⟩ 1 8 c Wq)
    (hk : ∀ c, k_ m c = K) (hv : ∀ c, v_ m c = V)
    (ho : ∀ c, wo_ m c = Layout.block ⟨2, ![256, 512]⟩ ⟨2, ![2048, 512]⟩ 0 8 c Wo) (c : Dev nD) :
    final m c = Layout.block ⟨3, ![2, 256, 512]⟩ ⟨3, ![16, 256, 512]⟩ 0 8 c (Cert.ReferenceIdeal.Stage.outR X Wq K V Wo) := by
  funext y
  obtain ⟨b, i, n, rfl⟩ : ∃ (b : Fin 2) (i : Fin 256) (n : Fin 512), y = ix3 b i n := ⟨y 0, y 1, y 2, ValueIdx.eq_ix3 y⟩
  have e : (∑ j, part m c b i n j : EReal) = Cert.ReferenceIdeal.Stage.outR X Wq K V Wo (ix3 (row c b) i n) := by
    rw [Cert.ReferenceIdeal.Stage.outR_at]
    refine Finset.sum_congr rfl fun j _ => ?_
    unfold part
    rw [hx, hq, hk, hv, ho]
    simp only [block_x, block_wq, block_wo, scale_dot]
  exact (final_at m c b i n).trans (e.trans (block_x c _ b i n).symm)

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ =>
  (θ_run Cert.Kernel.defs _ _).mono (fun _ h => ⟨fun c => (h.1 c).1, h.2⟩) (Cert.Kernel.Ring.run_main m g)

theorem frame_ideal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Ring.run_main m g)

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

theorem algebraic : Cert.algebraic_KernelIdeal_ReferenceIdeal (hKernelIdeal := Cert.KernelIdeal.Gen.facts)
    (hReferenceIdeal := Cert.ReferenceIdeal.Gen.facts) := fun m g m' g' _ h =>
  ⟨Cert.ReferenceIdeal.Value.res_main_v39 m' 0,
    (θ_run Cert.KernelIdeal.defs _ _).mono (fun _ hr c => ⟨((hr.1 c).2).trans
        ((Cert.KernelIdeal.Ring.final_eq m _ _ _ _ _ (fun d => (h d).1) (fun d => (h d).2.1) (fun d => (h d).2.2.1)
          (fun d => (h d).2.2.2.1) (fun d => (h d).2.2.2.2) c).trans
          (congrArg (fun X => Layout.block ⟨3, ![2, 256, 512]⟩ ⟨3, ![16, 256, 512]⟩ 0 8 c X (by decide))
            (Cert.ReferenceIdeal.Stage.out_eq m' 0).symm)), (hr.1 c).1⟩)
      (Cert.KernelIdeal.Ring.run_main m g),
    (θ_run Cert.ReferenceIdeal.defs _ _).mono (fun _ hr => hr 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
